-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x4096x40x96 : Shape := ⟨4, ![3, 4096, 40, 96]⟩
abbrev S3x4096x40 : Shape := ⟨3, ![3, 4096, 40]⟩
abbrev S3x4096x40x64 : Shape := ⟨4, ![3, 4096, 40, 64]⟩
abbrev S3x40x64x96 : Shape := ⟨4, ![3, 40, 64, 96]⟩
abbrev S_ : Shape := ⟨0, ![]⟩

class Facts : Prop where
  bcast_S_S3x4096x40x96 : S_.BroadcastsInDim S3x4096x40x96 (![] : Fin 0 → Fin S3x4096x40x96.rank)
  reducesTo_S3x4096x40x96_S_d0_1_2_3 : S3x4096x40x96.ReducesTo [0, 1, 2, 3] S_
  h_S_ : 0 < S_.numel
  bcast_S_S3x4096x40x64 : S_.BroadcastsInDim S3x4096x40x64 (![] : Fin 0 → Fin S3x4096x40x64.rank)
  reducesTo_S3x4096x40x64_S_d0_1_2_3 : S3x4096x40x64.ReducesTo [0, 1, 2, 3] S_
  bcast_S_S3x4096x40 : S_.BroadcastsInDim S3x4096x40 (![] : Fin 0 → Fin S3x4096x40.rank)
  reducesTo_S3x4096x40_S_d0_1_2 : S3x4096x40.ReducesTo [0, 1, 2] S_
  bcast_S_S3x40x64x96 : S_.BroadcastsInDim S3x40x64x96 (![] : Fin 0 → Fin S3x40x64x96.rank)
  reducesTo_S3x40x64x96_S_d0_1_2_3 : S3x40x64x96.ReducesTo [0, 1, 2, 3] S_

variable [Facts]

def fn_part3 {F : FTy → Type} [FloatOps F] (main_v49 : IVec S_ 1) (main_v50 : FVec F S3x40x64x96 .f32) : IVec S_ 1 :=
  let main_cst_19 : FVec F S_ .f32 := constant S_ .f32 0x7F800000#32
  let main_v51 : FVec F S3x40x64x96 .f32 := broadcastInDim S3x40x64x96 ![] bcast_S_S3x40x64x96 main_cst_19
  let main_v52 : IVec S3x40x64x96 1 := cmpf .olt main_v50 main_v51
  let main_c_20 : IVec S_ 1 := constantI S_ 1 1#1
  let main_v53 : IVec S_ 1 := (fun x v => Host.reduce IntOp.andi x v reducesTo_S3x40x64x96_S_d0_1_2_3 h_S_) main_v52 main_c_20
  let main_v54 : IVec S_ 1 := andi main_v49 main_v53
  main_v54

def fn_part2 {F : FTy → Type} [FloatOps F] (main_arg6 : FVec F S3x4096x40x96 .bf16) (main_arg7 : FVec F S3x4096x40x96 .bf16) (main_arg8 : FVec F S3x4096x40x96 .f32) (main_arg9 : FVec F S3x40x64x96 .f32) (main_v29 : IVec S_ 1) (main_v32 : IVec S3x4096x40 1) (main_c_12 : IVec S_ 1) : IVec S_ 1 :=
  let main_v33 : IVec S_ 1 := (fun x v => Host.reduce IntOp.andi x v reducesTo_S3x4096x40_S_d0_1_2 h_S_) main_v32 main_c_12
  let main_v34 : IVec S_ 1 := andi main_v29 main_v33
  let main_v35 : FVec F S3x4096x40x96 .bf16 := Host.absf main_arg6
  let main_cst_13 : FVec F S_ .bf16 := constant S_ .bf16 0x7F80#16
  let main_v36 : FVec F S3x4096x40x96 .bf16 := broadcastInDim S3x4096x40x96 ![] bcast_S_S3x4096x40x96 main_cst_13
  let main_v37 : IVec S3x4096x40x96 1 := cmpf .olt main_v35 main_v36
  let main_c_14 : IVec S_ 1 := constantI S_ 1 1#1
  let main_v38 : IVec S_ 1 := (fun x v => Host.reduce IntOp.andi x v reducesTo_S3x4096x40x96_S_d0_1_2_3 h_S_) main_v37 main_c_14
  let main_v39 : IVec S_ 1 := andi main_v34 main_v38
  let main_v40 : FVec F S3x4096x40x96 .bf16 := Host.absf main_arg7
  let main_cst_15 : FVec F S_ .bf16 := constant S_ .bf16 0x7F80#16
  let main_v41 : FVec F S3x4096x40x96 .bf16 := broadcastInDim S3x4096x40x96 ![] bcast_S_S3x4096x40x96 main_cst_15
  let main_v42 : IVec S3x4096x40x96 1 := cmpf .olt main_v40 main_v41
  let main_c_16 : IVec S_ 1 := constantI S_ 1 1#1
  let main_v43 : IVec S_ 1 := (fun x v => Host.reduce IntOp.andi x v reducesTo_S3x4096x40x96_S_d0_1_2_3 h_S_) main_v42 main_c_16
  let main_v44 : IVec S_ 1 := andi main_v39 main_v43
  let main_v45 : FVec F S3x4096x40x96 .f32 := Host.absf main_arg8
  let main_cst_17 : FVec F S_ .f32 := constant S_ .f32 0x7F800000#32
  let main_v46 : FVec F S3x4096x40x96 .f32 := broadcastInDim S3x4096x40x96 ![] bcast_S_S3x4096x40x96 main_cst_17
  let main_v47 : IVec S3x4096x40x96 1 := cmpf .olt main_v45 main_v46
  let main_c_18 : IVec S_ 1 := constantI S_ 1 1#1
  let main_v48 : IVec S_ 1 := (fun x v => Host.reduce IntOp.andi x v reducesTo_S3x4096x40x96_S_d0_1_2_3 h_S_) main_v47 main_c_18
  let main_v49 : IVec S_ 1 := andi main_v44 main_v48
  let main_v50 : FVec F S3x40x64x96 .f32 := Host.absf main_arg9
  fn_part3 (F := F) main_v49 main_v50

def fn_part1 {F : FTy → Type} [FloatOps F] (main_arg1 : FVec F S3x4096x40 .f32) (main_arg3 : FVec F S3x4096x40 .f32) (main_arg4 : IVec S3x4096x40x64 8) (main_arg5 : FVec F S3x4096x40 .f32) (main_arg6 : FVec F S3x4096x40x96 .bf16) (main_arg7 : FVec F S3x4096x40x96 .bf16) (main_arg8 : FVec F S3x4096x40x96 .f32) (main_arg9 : FVec F S3x40x64x96 .f32) (main_v12 : IVec S_ 1) (main_v14 : IVec S3x4096x40x64 1) (main_v15 : IVec S3x4096x40x64 8) : IVec S_ 1 :=
  let main_v16 : IVec S3x4096x40x64 1 := cmpi .ne main_arg4 main_v15
  let main_v17 : IVec S3x4096x40x64 1 := andi main_v14 main_v16
  let main_c_7 : IVec S_ 1 := constantI S_ 1 1#1
  let main_v18 : IVec S_ 1 := (fun x v => Host.reduce IntOp.andi x v reducesTo_S3x4096x40x64_S_d0_1_2_3 h_S_) main_v17 main_c_7
  let main_v19 : IVec S_ 1 := andi main_v12 main_v18
  let main_v20 : FVec F S3x4096x40 .f32 := Host.absf main_arg1
  let main_cst : FVec F S_ .f32 := constant S_ .f32 0x7F800000#32
  let main_v21 : FVec F S3x4096x40 .f32 := broadcastInDim S3x4096x40 ![] bcast_S_S3x4096x40 main_cst
  let main_v22 : IVec S3x4096x40 1 := cmpf .olt main_v20 main_v21
  let main_c_8 : IVec S_ 1 := constantI S_ 1 1#1
  let main_v23 : IVec S_ 1 := (fun x v => Host.reduce IntOp.andi x v reducesTo_S3x4096x40_S_d0_1_2 h_S_) main_v22 main_c_8
  let main_v24 : IVec S_ 1 := andi main_v19 main_v23
  let main_v25 : FVec F S3x4096x40 .f32 := Host.absf main_arg3
  let main_cst_9 : FVec F S_ .f32 := constant S_ .f32 0x7F800000#32
  let main_v26 : FVec F S3x4096x40 .f32 := broadcastInDim S3x4096x40 ![] bcast_S_S3x4096x40 main_cst_9
  let main_v27 : IVec S3x4096x40 1 := cmpf .olt main_v25 main_v26
  let main_c_10 : IVec S_ 1 := constantI S_ 1 1#1
  let main_v28 : IVec S_ 1 := (fun x v => Host.reduce IntOp.andi x v reducesTo_S3x4096x40_S_d0_1_2 h_S_) main_v27 main_c_10
  let main_v29 : IVec S_ 1 := andi main_v24 main_v28
  let main_v30 : FVec F S3x4096x40 .f32 := Host.absf main_arg5
  let main_cst_11 : FVec F S_ .f32 := constant S_ .f32 0x7F800000#32
  let main_v31 : FVec F S3x4096x40 .f32 := broadcastInDim S3x4096x40 ![] bcast_S_S3x4096x40 main_cst_11
  let main_v32 : IVec S3x4096x40 1 := cmpf .olt main_v30 main_v31
  let main_c_12 : IVec S_ 1 := constantI S_ 1 1#1
  fn_part2 (F := F) main_arg6 main_arg7 main_arg8 main_arg9 main_v29 main_v32 main_c_12

def fn {F : FTy → Type} [FloatOps F] (main_arg0 : IVec S3x4096x40x96 8) (main_arg1 : FVec F S3x4096x40 .f32) (main_arg2 : IVec S3x4096x40x96 8) (main_arg3 : FVec F S3x4096x40 .f32) (main_arg4 : IVec S3x4096x40x64 8) (main_arg5 : FVec F S3x4096x40 .f32) (main_arg6 : FVec F S3x4096x40x96 .bf16) (main_arg7 : FVec F S3x4096x40x96 .bf16) (main_arg8 : FVec F S3x4096x40x96 .f32) (main_arg9 : FVec F S3x40x64x96 .f32) : IVec S_ 1 :=
  let main_c : IVec S_ 8 := constantI S_ 8 127#8
  let main_v0 : IVec S3x4096x40x96 8 := broadcastInDim S3x4096x40x96 ![] bcast_S_S3x4096x40x96 main_c
  let main_v1 : IVec S3x4096x40x96 1 := cmpi .ne main_arg0 main_v0
  let main_c_0 : IVec S_ 8 := constantI S_ 8 255#8
  let main_v2 : IVec S3x4096x40x96 8 := broadcastInDim S3x4096x40x96 ![] bcast_S_S3x4096x40x96 main_c_0
  let main_v3 : IVec S3x4096x40x96 1 := cmpi .ne main_arg0 main_v2
  let main_v4 : IVec S3x4096x40x96 1 := andi main_v1 main_v3
  let main_c_1 : IVec S_ 1 := constantI S_ 1 1#1
  let main_v5 : IVec S_ 1 := (fun x v => Host.reduce IntOp.andi x v reducesTo_S3x4096x40x96_S_d0_1_2_3 h_S_) main_v4 main_c_1
  let main_c_2 : IVec S_ 8 := constantI S_ 8 127#8
  let main_v6 : IVec S3x4096x40x96 8 := broadcastInDim S3x4096x40x96 ![] bcast_S_S3x4096x40x96 main_c_2
  let main_v7 : IVec S3x4096x40x96 1 := cmpi .ne main_arg2 main_v6
  let main_c_3 : IVec S_ 8 := constantI S_ 8 255#8
  let main_v8 : IVec S3x4096x40x96 8 := broadcastInDim S3x4096x40x96 ![] bcast_S_S3x4096x40x96 main_c_3
  let main_v9 : IVec S3x4096x40x96 1 := cmpi .ne main_arg2 main_v8
  let main_v10 : IVec S3x4096x40x96 1 := andi main_v7 main_v9
  let main_c_4 : IVec S_ 1 := constantI S_ 1 1#1
  let main_v11 : IVec S_ 1 := (fun x v => Host.reduce IntOp.andi x v reducesTo_S3x4096x40x96_S_d0_1_2_3 h_S_) main_v10 main_c_4
  let main_v12 : IVec S_ 1 := andi main_v5 main_v11
  let main_c_5 : IVec S_ 8 := constantI S_ 8 127#8
  let main_v13 : IVec S3x4096x40x64 8 := broadcastInDim S3x4096x40x64 ![] bcast_S_S3x4096x40x64 main_c_5
  let main_v14 : IVec S3x4096x40x64 1 := cmpi .ne main_arg4 main_v13
  let main_c_6 : IVec S_ 8 := constantI S_ 8 255#8
  let main_v15 : IVec S3x4096x40x64 8 := broadcastInDim S3x4096x40x64 ![] bcast_S_S3x4096x40x64 main_c_6
  fn_part1 (F := F) main_arg1 main_arg3 main_arg4 main_arg5 main_arg6 main_arg7 main_arg8 main_arg9 main_v12 main_v14 main_v15
-- ==== Kernel.lean ====
abbrev S3x4096x40x96 : Shape := ⟨4, ![3, 4096, 40, 96]⟩
abbrev S3x4096x40 : Shape := ⟨3, ![3, 4096, 40]⟩
abbrev S3x4096x40x64 : Shape := ⟨4, ![3, 4096, 40, 64]⟩
abbrev S3x40x64x96 : Shape := ⟨4, ![3, 40, 64, 96]⟩
abbrev S3x4096x2560 : Shape := ⟨3, ![3, 4096, 2560]⟩
abbrev S3x32x40x96 : Shape := ⟨4, ![3, 32, 40, 96]⟩
abbrev S3x32x40 : Shape := ⟨3, ![3, 32, 40]⟩
abbrev S3x32x40x64 : Shape := ⟨4, ![3, 32, 40, 64]⟩
abbrev S3x32x2560 : Shape := ⟨3, ![3, 32, 2560]⟩
abbrev S3x1320x128 : Shape := ⟨3, ![3, 1320, 128]⟩
abbrev S3x40x128 : Shape := ⟨3, ![3, 40, 128]⟩
abbrev S40x96 : Shape := ⟨2, ![40, 96]⟩
abbrev S1x32x40 : Shape := ⟨3, ![1, 32, 40]⟩
abbrev S32x40 : Shape := ⟨2, ![32, 40]⟩
abbrev S40x32 : Shape := ⟨2, ![40, 32]⟩
abbrev S1x1x40x96 : Shape := ⟨4, ![1, 1, 40, 96]⟩
abbrev S40x1 : Shape := ⟨2, ![40, 1]⟩
abbrev S1x40x96 : Shape := ⟨3, ![1, 40, 96]⟩
abbrev S1x1x40x64 : Shape := ⟨4, ![1, 1, 40, 64]⟩
abbrev S40x64 : Shape := ⟨2, ![40, 64]⟩
abbrev S1x40x64 : Shape := ⟨3, ![1, 40, 64]⟩
abbrev S32x32 : Shape := ⟨2, ![32, 32]⟩
abbrev S1x32x128 : Shape := ⟨3, ![1, 32, 128]⟩
abbrev S32x128 : Shape := ⟨2, ![32, 128]⟩
abbrev S32x96 : Shape := ⟨2, ![32, 96]⟩
abbrev S32x64 : Shape := ⟨2, ![32, 64]⟩
abbrev S1x1x64x96 : Shape := ⟨4, ![1, 1, 64, 96]⟩
abbrev S64x96 : Shape := ⟨2, ![64, 96]⟩
abbrev S64x32 : Shape := ⟨2, ![64, 32]⟩
abbrev S64x64 : Shape := ⟨2, ![64, 64]⟩
abbrev S1x1x96 : Shape := ⟨3, ![1, 1, 96]⟩
abbrev S1x96 : Shape := ⟨2, ![1, 96]⟩

abbrev nBuf : Space → Nat
  | .hbm => 15
  | .vmem => 28
  | .smem => 0
  | _ => 0

abbrev bufTy : (tb : Table) → Fin (tcTables nBuf tb) → BufTy
  | .hbm, ⟨0, _⟩ => ⟨S3x4096x40x96, .i8⟩
  | .hbm, ⟨1, _⟩ => ⟨S3x4096x40, .f32⟩
  | .hbm, ⟨2, _⟩ => ⟨S3x4096x40x96, .i8⟩
  | .hbm, ⟨3, _⟩ => ⟨S3x4096x40, .f32⟩
  | .hbm, ⟨4, _⟩ => ⟨S3x4096x40x64, .i8⟩
  | .hbm, ⟨5, _⟩ => ⟨S3x4096x40, .f32⟩
  | .hbm, ⟨6, _⟩ => ⟨S3x4096x40x96, .bf16⟩
  | .hbm, ⟨7, _⟩ => ⟨S3x4096x40x96, .bf16⟩
  | .hbm, ⟨8, _⟩ => ⟨S3x4096x40x96, .f32⟩
  | .hbm, ⟨9, _⟩ => ⟨S3x40x64x96, .f32⟩
  | .hbm, ⟨10, _⟩ => ⟨S3x4096x40x96, .fp8e4m3⟩
  | .hbm, ⟨11, _⟩ => ⟨S3x4096x40x96, .fp8e4m3⟩
  | .hbm, ⟨12, _⟩ => ⟨S3x4096x40x64, .fp8e4m3⟩
  | .hbm, ⟨13, _⟩ => ⟨S3x4096x2560, .bf16⟩
  | .hbm, ⟨14, _⟩ => ⟨S3x40x64x96, .f32⟩
  | .local _ .vmem, ⟨0, _⟩ => ⟨S3x32x40x96, .fp8e4m3⟩
  | .local _ .vmem, ⟨1, _⟩ => ⟨S3x32x40x96, .fp8e4m3⟩
  | .local _ .vmem, ⟨2, _⟩ => ⟨S3x32x40, .f32⟩
  | .local _ .vmem, ⟨3, _⟩ => ⟨S3x32x40, .f32⟩
  | .local _ .vmem, ⟨4, _⟩ => ⟨S3x32x40x96, .fp8e4m3⟩
  | .local _ .vmem, ⟨5, _⟩ => ⟨S3x32x40x96, .fp8e4m3⟩
  | .local _ .vmem, ⟨6, _⟩ => ⟨S3x32x40, .f32⟩
  | .local _ .vmem, ⟨7, _⟩ => ⟨S3x32x40, .f32⟩
  | .local _ .vmem, ⟨8, _⟩ => ⟨S3x32x40x64, .fp8e4m3⟩
  | .local _ .vmem, ⟨9, _⟩ => ⟨S3x32x40x64, .fp8e4m3⟩
  | .local _ .vmem, ⟨10, _⟩ => ⟨S3x32x40, .f32⟩
  | .local _ .vmem, ⟨11, _⟩ => ⟨S3x32x40, .f32⟩
  | .local _ .vmem, ⟨12, _⟩ => ⟨S3x32x40x96, .bf16⟩
  | .local _ .vmem, ⟨13, _⟩ => ⟨S3x32x40x96, .bf16⟩
  | .local _ .vmem, ⟨14, _⟩ => ⟨S3x32x40x96, .bf16⟩
  | .local _ .vmem, ⟨15, _⟩ => ⟨S3x32x40x96, .bf16⟩
  | .local _ .vmem, ⟨16, _⟩ => ⟨S3x32x40x96, .f32⟩
  | .local _ .vmem, ⟨17, _⟩ => ⟨S3x32x40x96, .f32⟩
  | .local _ .vmem, ⟨18, _⟩ => ⟨S3x40x64x96, .f32⟩
  | .local _ .vmem, ⟨19, _⟩ => ⟨S3x32x2560, .bf16⟩
  | .local _ .vmem, ⟨20, _⟩ => ⟨S3x32x2560, .bf16⟩
  | .local _ .vmem, ⟨21, _⟩ => ⟨S3x40x64x96, .f32⟩
  | .local _ .vmem, ⟨22, _⟩ => ⟨S3x1320x128, .f32⟩
  | .local _ .vmem, ⟨23, _⟩ => ⟨S3x1320x128, .f32⟩
  | .local _ .vmem, ⟨24, _⟩ => ⟨S3x1320x128, .f32⟩
  | .local _ .vmem, ⟨25, _⟩ => ⟨S3x1320x128, .f32⟩
  | .local _ .vmem, ⟨26, _⟩ => ⟨S3x1320x128, .f32⟩
  | .local _ .vmem, ⟨27, _⟩ => ⟨S3x40x128, .f32⟩
  | _, _ => ⟨S3x4096x40x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_3819 : BitVec 32 := 0#32
  let c20_i32 : BitVec 32 := 20#32
  let v4847 : BitVec 32 := Scalar.addi c0_i32_3819 c20_i32
  let c1_i32 : BitVec 32 := 1#32
  ⟨c0_i32_3819, v4847, c1_i32⟩
def k0_off1 (k0_t1 : Fin k0_t1_loop.trips) : Fin 3 → Nat :=
  let c0_3829 : Index := 0#32
  let c2_i32 : BitVec 32 := 2#32
  let c0_i32_3819 : BitVec 32 := 0#32
  let c1_i32 : BitVec 32 := 1#32
  let arg19 : BitVec 32 := Scf.iv c0_i32_3819 c1_i32 k0_t1
  let v4850 : BitVec 32 := Scalar.muli c2_i32 arg19
  let v4851 : Index := Scalar.indexCast v4850
  let c0_3830 : Index := 0#32
  ![0, v4851.toNat, 0]
def k0_off2 (k0_t1 : Fin k0_t1_loop.trips) : Fin 4 → Nat :=
  let c0_3839 : Index := 0#32
  let c2_i32 : BitVec 32 := 2#32
  let c0_i32_3819 : BitVec 32 := 0#32
  let c1_i32 : BitVec 32 := 1#32
  let arg19 : BitVec 32 := Scf.iv c0_i32_3819 c1_i32 k0_t1
  let v4850 : BitVec 32 := Scalar.muli c2_i32 arg19
  let v4871 : Index := Scalar.indexCast v4850
  let c0_3840 : Index := 0#32
  let c0_3841 : Index := 0#32
  ![0, v4871.toNat, 0, 0]
def k0_off3 (k0_t1 : Fin k0_t1_loop.trips) : Fin 3 → Nat :=
  let c0_3863 : Index := 0#32
  let c2_i32 : BitVec 32 := 2#32
  let c0_i32_3819 : BitVec 32 := 0#32
  let c1_i32 : BitVec 32 := 1#32
  let arg19 : BitVec 32 := Scf.iv c0_i32_3819 c1_i32 k0_t1
  let v4850 : BitVec 32 := Scalar.muli c2_i32 arg19
  let v4920 : Index := Scalar.indexCast v4850
  let c0_3864 : Index := 0#32
  ![0, v4920.toNat, 0]
def k0_off4 (k0_t1 : Fin k0_t1_loop.trips) : Fin 3 → Nat :=
  let c0_3870 : Index := 0#32
  let c2_i32_3868 : BitVec 32 := 2#32
  let c0_i32_3819 : BitVec 32 := 0#32
  let c1_i32 : BitVec 32 := 1#32
  let arg19 : BitVec 32 := Scf.iv c0_i32_3819 c1_i32 k0_t1
  let v4929 : BitVec 32 := Scalar.muli c2_i32_3868 arg19
  let c1_i32_3869 : BitVec 32 := 1#32
  let v4930 : BitVec 32 := Scalar.addi v4929 c1_i32_3869
  let v4931 : Index := Scalar.indexCast v4930
  let c0_3871 : Index := 0#32
  ![0, v4931.toNat, 0]
def k0_off5 (k0_t1 : Fin k0_t1_loop.trips) : Fin 4 → Nat :=
  let c0_3880 : Index := 0#32
  let c2_i32_3868 : BitVec 32 := 2#32
  let c0_i32_3819 : BitVec 32 := 0#32
  let c1_i32 : BitVec 32 := 1#32
  let arg19 : BitVec 32 := Scf.iv c0_i32_3819 c1_i32 k0_t1
  let v4929 : BitVec 32 := Scalar.muli c2_i32_3868 arg19
  let c1_i32_3869 : BitVec 32 := 1#32
  let v4930 : BitVec 32 := Scalar.addi v4929 c1_i32_3869
  let v4951 : Index := Scalar.indexCast v4930
  let c0_3881 : Index := 0#32
  let c0_3882 : Index := 0#32
  ![0, v4951.toNat, 0, 0]
def k0_off6 (k0_t1 : Fin k0_t1_loop.trips) : Fin 3 → Nat :=
  let c0_3904 : Index := 0#32
  let c2_i32_3868 : BitVec 32 := 2#32
  let c0_i32_3819 : BitVec 32 := 0#32
  let c1_i32 : BitVec 32 := 1#32
  let arg19 : BitVec 32 := Scf.iv c0_i32_3819 c1_i32 k0_t1
  let v4929 : BitVec 32 := Scalar.muli c2_i32_3868 arg19
  let c1_i32_3869 : BitVec 32 := 1#32
  let v4930 : BitVec 32 := Scalar.addi v4929 c1_i32_3869
  let v5000 : Index := Scalar.indexCast v4930
  let c0_3905 : Index := 0#32
  ![0, v5000.toNat, 0]
def k0_mult1 (k0_t1 : Fin k0_t1_loop.trips) : BitVec 32 :=
  let c0_i32_3819 : BitVec 32 := 0#32
  let c1_i32 : BitVec 32 := 1#32
  let arg19 : BitVec 32 := Scf.iv c0_i32_3819 c1_i32 k0_t1
  let c128_i32 : BitVec 32 := 128#32
  let v5011 : BitVec 32 := Scalar.muli arg19 c128_i32
  v5011
def k0_off7 (k0_t1 : Fin k0_t1_loop.trips) : Fin 3 → Nat :=
  let c0_3909 : Index := 0#32
  let c0_3910 : Index := 0#32
  let c0_i32_3819 : BitVec 32 := 0#32
  let c1_i32 : BitVec 32 := 1#32
  let arg19 : BitVec 32 := Scf.iv c0_i32_3819 c1_i32 k0_t1
  let c128_i32 : BitVec 32 := 128#32
  let v5011 : BitVec 32 := Scalar.muli arg19 c128_i32
  let v5012 : BitVec 32 := v5011
  let v5013 : Index := Scalar.indexCast v5012
  ![0, 0, v5013.toNat]
@[reducible] def k0_t2_loop : Scf.Loop 32 :=
  let c0_i32_3821 : BitVec 32 := 0#32
  let c20_i32_3822 : BitVec 32 := 20#32
  let v4848 : BitVec 32 := Scalar.addi c0_i32_3821 c20_i32_3822
  let c1_i32_3823 : BitVec 32 := 1#32
  ⟨c0_i32_3821, v4848, c1_i32_3823⟩
def k0_off8 (k0_t2 : Fin k0_t2_loop.trips) : Fin 3 → Nat :=
  let c1_3829 : Index := 1#32
  let c2_i32 : BitVec 32 := 2#32
  let c0_i32_3821 : BitVec 32 := 0#32
  let c1_i32_3823 : BitVec 32 := 1#32
  let arg19 : BitVec 32 := Scf.iv c0_i32_3821 c1_i32_3823 k0_t2
  let v4850 : BitVec 32 := Scalar.muli c2_i32 arg19
  let v4851 : Index := Scalar.indexCast v4850
  let c0_3830 : Index := 0#32
  ![1, v4851.toNat, 0]
def k0_off9 (k0_t2 : Fin k0_t2_loop.trips) : Fin 4 → Nat :=
  let c1_3839 : Index := 1#32
  let c2_i32 : BitVec 32 := 2#32
  let c0_i32_3821 : BitVec 32 := 0#32
  let c1_i32_3823 : BitVec 32 := 1#32
  let arg19 : BitVec 32 := Scf.iv c0_i32_3821 c1_i32_3823 k0_t2
  let v4850 : BitVec 32 := Scalar.muli c2_i32 arg19
  let v4871 : Index := Scalar.indexCast v4850
  let c0_3840 : Index := 0#32
  let c0_3841 : Index := 0#32
  ![1, v4871.toNat, 0, 0]
def k0_off10 (k0_t2 : Fin k0_t2_loop.trips) : Fin 3 → Nat :=
  let c1_3863 : Index := 1#32
  let c2_i32 : BitVec 32 := 2#32
  let c0_i32_3821 : BitVec 32 := 0#32
  let c1_i32_3823 : BitVec 32 := 1#32
  let arg19 : BitVec 32 := Scf.iv c0_i32_3821 c1_i32_3823 k0_t2
  let v4850 : BitVec 32 := Scalar.muli c2_i32 arg19
  let v4920 : Index := Scalar.indexCast v4850
  let c0_3864 : Index := 0#32
  ![1, v4920.toNat, 0]
def k0_off11 (k0_t2 : Fin k0_t2_loop.trips) : Fin 3 → Nat :=
  let c1_3870 : Index := 1#32
  let c2_i32_3868 : BitVec 32 := 2#32
  let c0_i32_3821 : BitVec 32 := 0#32
  let c1_i32_3823 : BitVec 32 := 1#32
  let arg19 : BitVec 32 := Scf.iv c0_i32_3821 c1_i32_3823 k0_t2
  let v4929 : BitVec 32 := Scalar.muli c2_i32_3868 arg19
  let c1_i32_3869 : BitVec 32 := 1#32
  let v4930 : BitVec 32 := Scalar.addi v4929 c1_i32_3869
  let v4931 : Index := Scalar.indexCast v4930
  let c0_3871 : Index := 0#32
  ![1, v4931.toNat, 0]
def k0_off12 (k0_t2 : Fin k0_t2_loop.trips) : Fin 4 → Nat :=
  let c1_3880 : Index := 1#32
  let c2_i32_3868 : BitVec 32 := 2#32
  let c0_i32_3821 : BitVec 32 := 0#32
  let c1_i32_3823 : BitVec 32 := 1#32
  let arg19 : BitVec 32 := Scf.iv c0_i32_3821 c1_i32_3823 k0_t2
  let v4929 : BitVec 32 := Scalar.muli c2_i32_3868 arg19
  let c1_i32_3869 : BitVec 32 := 1#32
  let v4930 : BitVec 32 := Scalar.addi v4929 c1_i32_3869
  let v4951 : Index := Scalar.indexCast v4930
  let c0_3881 : Index := 0#32
  let c0_3882 : Index := 0#32
  ![1, v4951.toNat, 0, 0]
def k0_off13 (k0_t2 : Fin k0_t2_loop.trips) : Fin 3 → Nat :=
  let c1_3904 : Index := 1#32
  let c2_i32_3868 : BitVec 32 := 2#32
  let c0_i32_3821 : BitVec 32 := 0#32
  let c1_i32_3823 : BitVec 32 := 1#32
  let arg19 : BitVec 32 := Scf.iv c0_i32_3821 c1_i32_3823 k0_t2
  let v4929 : BitVec 32 := Scalar.muli c2_i32_3868 arg19
  let c1_i32_3869 : BitVec 32 := 1#32
  let v4930 : BitVec 32 := Scalar.addi v4929 c1_i32_3869
  let v5000 : Index := Scalar.indexCast v4930
  let c0_3905 : Index := 0#32
  ![1, v5000.toNat, 0]
def k0_mult2 (k0_t2 : Fin k0_t2_loop.trips) : BitVec 32 :=
  let c0_i32_3821 : BitVec 32 := 0#32
  let c1_i32_3823 : BitVec 32 := 1#32
  let arg19 : BitVec 32 := Scf.iv c0_i32_3821 c1_i32_3823 k0_t2
  let c128_i32 : BitVec 32 := 128#32
  let v5011 : BitVec 32 := Scalar.muli arg19 c128_i32
  v5011
def k0_off14 (k0_t2 : Fin k0_t2_loop.trips) : Fin 3 → Nat :=
  let c1_3909 : Index := 1#32
  let c0_3910 : Index := 0#32
  let c0_i32_3821 : BitVec 32 := 0#32
  let c1_i32_3823 : BitVec 32 := 1#32
  let arg19 : BitVec 32 := Scf.iv c0_i32_3821 c1_i32_3823 k0_t2
  let c128_i32 : BitVec 32 := 128#32
  let v5011 : BitVec 32 := Scalar.muli arg19 c128_i32
  let v5012 : BitVec 32 := v5011
  let v5013 : Index := Scalar.indexCast v5012
  ![1, 0, v5013.toNat]
@[reducible] def k0_t3_loop : Scf.Loop 32 :=
  let c0_i32_3825 : BitVec 32 := 0#32
  let c20_i32_3826 : BitVec 32 := 20#32
  let v4849 : BitVec 32 := Scalar.addi c0_i32_3825 c20_i32_3826
  let c1_i32_3827 : BitVec 32 := 1#32
  ⟨c0_i32_3825, v4849, c1_i32_3827⟩
def k0_off15 (k0_t3 : Fin k0_t3_loop.trips) : Fin 3 → Nat :=
  let c2_3829 : Index := 2#32
  let c2_i32 : BitVec 32 := 2#32
  let c0_i32_3825 : BitVec 32 := 0#32
  let c1_i32_3827 : BitVec 32 := 1#32
  let arg19 : BitVec 32 := Scf.iv c0_i32_3825 c1_i32_3827 k0_t3
  let v4850 : BitVec 32 := Scalar.muli c2_i32 arg19
  let v4851 : Index := Scalar.indexCast v4850
  let c0_3830 : Index := 0#32
  ![2, v4851.toNat, 0]
def k0_off16 (k0_t3 : Fin k0_t3_loop.trips) : Fin 4 → Nat :=
  let c2_3839 : Index := 2#32
  let c2_i32 : BitVec 32 := 2#32
  let c0_i32_3825 : BitVec 32 := 0#32
  let c1_i32_3827 : BitVec 32 := 1#32
  let arg19 : BitVec 32 := Scf.iv c0_i32_3825 c1_i32_3827 k0_t3
  let v4850 : BitVec 32 := Scalar.muli c2_i32 arg19
  let v4871 : Index := Scalar.indexCast v4850
  let c0_3840 : Index := 0#32
  let c0_3841 : Index := 0#32
  ![2, v4871.toNat, 0, 0]
def k0_off17 (k0_t3 : Fin k0_t3_loop.trips) : Fin 3 → Nat :=
  let c2_3863 : Index := 2#32
  let c2_i32 : BitVec 32 := 2#32
  let c0_i32_3825 : BitVec 32 := 0#32
  let c1_i32_3827 : BitVec 32 := 1#32
  let arg19 : BitVec 32 := Scf.iv c0_i32_3825 c1_i32_3827 k0_t3
  let v4850 : BitVec 32 := Scalar.muli c2_i32 arg19
  let v4920 : Index := Scalar.indexCast v4850
  let c0_3864 : Index := 0#32
  ![2, v4920.toNat, 0]
def k0_off18 (k0_t3 : Fin k0_t3_loop.trips) : Fin 3 → Nat :=
  let c2_3870 : Index := 2#32
  let c2_i32_3868 : BitVec 32 := 2#32
  let c0_i32_3825 : BitVec 32 := 0#32
  let c1_i32_3827 : BitVec 32 := 1#32
  let arg19 : BitVec 32 := Scf.iv c0_i32_3825 c1_i32_3827 k0_t3
  let v4929 : BitVec 32 := Scalar.muli c2_i32_3868 arg19
  let c1_i32_3869 : BitVec 32 := 1#32
  let v4930 : BitVec 32 := Scalar.addi v4929 c1_i32_3869
  let v4931 : Index := Scalar.indexCast v4930
  let c0_3871 : Index := 0#32
  ![2, v4931.toNat, 0]
def k0_off19 (k0_t3 : Fin k0_t3_loop.trips) : Fin 4 → Nat :=
  let c2_3880 : Index := 2#32
  let c2_i32_3868 : BitVec 32 := 2#32
  let c0_i32_3825 : BitVec 32 := 0#32
  let c1_i32_3827 : BitVec 32 := 1#32
  let arg19 : BitVec 32 := Scf.iv c0_i32_3825 c1_i32_3827 k0_t3
  let v4929 : BitVec 32 := Scalar.muli c2_i32_3868 arg19
  let c1_i32_3869 : BitVec 32 := 1#32
  let v4930 : BitVec 32 := Scalar.addi v4929 c1_i32_3869
  let v4951 : Index := Scalar.indexCast v4930
  let c0_3881 : Index := 0#32
  let c0_3882 : Index := 0#32
  ![2, v4951.toNat, 0, 0]
def k0_off20 (k0_t3 : Fin k0_t3_loop.trips) : Fin 3 → Nat :=
  let c2_3904 : Index := 2#32
  let c2_i32_3868 : BitVec 32 := 2#32
  let c0_i32_3825 : BitVec 32 := 0#32
  let c1_i32_3827 : BitVec 32 := 1#32
  let arg19 : BitVec 32 := Scf.iv c0_i32_3825 c1_i32_3827 k0_t3
  let v4929 : BitVec 32 := Scalar.muli c2_i32_3868 arg19
  let c1_i32_3869 : BitVec 32 := 1#32
  let v4930 : BitVec 32 := Scalar.addi v4929 c1_i32_3869
  let v5000 : Index := Scalar.indexCast v4930
  let c0_3905 : Index := 0#32
  ![2, v5000.toNat, 0]
def k0_mult3 (k0_t3 : Fin k0_t3_loop.trips) : BitVec 32 :=
  let c0_i32_3825 : BitVec 32 := 0#32
  let c1_i32_3827 : BitVec 32 := 1#32
  let arg19 : BitVec 32 := Scf.iv c0_i32_3825 c1_i32_3827 k0_t3
  let c128_i32 : BitVec 32 := 128#32
  let v5011 : BitVec 32 := Scalar.muli arg19 c128_i32
  v5011
def k0_off21 (k0_t3 : Fin k0_t3_loop.trips) : Fin 3 → Nat :=
  let c2_3909 : Index := 2#32
  let c0_3910 : Index := 0#32
  let c0_i32_3825 : BitVec 32 := 0#32
  let c1_i32_3827 : BitVec 32 := 1#32
  let arg19 : BitVec 32 := Scf.iv c0_i32_3825 c1_i32_3827 k0_t3
  let c128_i32 : BitVec 32 := 128#32
  let v5011 : BitVec 32 := Scalar.muli arg19 c128_i32
  let v5012 : BitVec 32 := v5011
  let v5013 : Index := Scalar.indexCast v5012
  ![2, 0, v5013.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S3x32x40x96 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x32x40x96 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x32x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x32x40x64 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x32x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x32x40x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x32x40x96 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x32x40x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x40x64x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x32x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x40x64x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S3x4096x40x96 : Shape := ⟨4, ![3, 4096, 40, 96]⟩
abbrev S3x4096x40 : Shape := ⟨3, ![3, 4096, 40]⟩
abbrev S3x4096x40x64 : Shape := ⟨4, ![3, 4096, 40, 64]⟩
abbrev S3x40x64x96 : Shape := ⟨4, ![3, 40, 64, 96]⟩
abbrev S3x4096x2560 : Shape := ⟨3, ![3, 4096, 2560]⟩
abbrev S3x1x40x96 : Shape := ⟨4, ![3, 1, 40, 96]⟩
abbrev S3x40x96 : Shape := ⟨3, ![3, 40, 96]⟩
abbrev S3x1x40 : Shape := ⟨3, ![3, 1, 40]⟩
abbrev S3x40 : Shape := ⟨2, ![3, 40]⟩
abbrev S3x40x1 : Shape := ⟨3, ![3, 40, 1]⟩
abbrev S3x1x40x64 : Shape := ⟨4, ![3, 1, 40, 64]⟩
abbrev S3x40x64 : Shape := ⟨3, ![3, 40, 64]⟩
abbrev S3x40x1x96 : Shape := ⟨4, ![3, 40, 1, 96]⟩
abbrev S3x40x64x1 : Shape := ⟨4, ![3, 40, 64, 1]⟩
abbrev S3x2560 : Shape := ⟨2, ![3, 2560]⟩
abbrev S3x1x2560 : Shape := ⟨3, ![3, 1, 2560]⟩

abbrev nBuf : Space → Nat
  | .hbm => 16
  | .vmem => 12
  | .smem => 0
  | _ => 0

abbrev bufTy : (tb : Table) → Fin (tcTables nBuf tb) → BufTy
  | .hbm, ⟨0, _⟩ => ⟨S3x4096x40x96, .i8⟩
  | .hbm, ⟨1, _⟩ => ⟨S3x4096x40, .f32⟩
  | .hbm, ⟨2, _⟩ => ⟨S3x4096x40x96, .i8⟩
  | .hbm, ⟨3, _⟩ => ⟨S3x4096x40, .f32⟩
  | .hbm, ⟨4, _⟩ => ⟨S3x4096x40x64, .i8⟩
  | .hbm, ⟨5, _⟩ => ⟨S3x4096x40, .f32⟩
  | .hbm, ⟨6, _⟩ => ⟨S3x4096x40x96, .bf16⟩
  | .hbm, ⟨7, _⟩ => ⟨S3x4096x40x96, .bf16⟩
  | .hbm, ⟨8, _⟩ => ⟨S3x4096x40x96, .f32⟩
  | .hbm, ⟨9, _⟩ => ⟨S3x40x64x96, .f32⟩
  | .hbm, ⟨10, _⟩ => ⟨S3x4096x40x96, .fp8e4m3⟩
  | .hbm, ⟨11, _⟩ => ⟨S3x4096x40x96, .fp8e4m3⟩
  | .hbm, ⟨12, _⟩ => ⟨S3x4096x40x64, .fp8e4m3⟩
  | .hbm, ⟨13, _⟩ => ⟨S3x4096x2560, .f32⟩
  | .hbm, ⟨14, _⟩ => ⟨S3x40x64x96, .f32⟩
  | .hbm, ⟨15, _⟩ => ⟨S3x4096x2560, .bf16⟩
  | .local _ .vmem, ⟨0, _⟩ => ⟨S3x4096x40x96, .fp8e4m3⟩
  | .local _ .vmem, ⟨1, _⟩ => ⟨S3x4096x40, .f32⟩
  | .local _ .vmem, ⟨2, _⟩ => ⟨S3x4096x40x96, .fp8e4m3⟩
  | .local _ .vmem, ⟨3, _⟩ => ⟨S3x4096x40, .f32⟩
  | .local _ .vmem, ⟨4, _⟩ => ⟨S3x4096x40x64, .fp8e4m3⟩
  | .local _ .vmem, ⟨5, _⟩ => ⟨S3x4096x40, .f32⟩
  | .local _ .vmem, ⟨6, _⟩ => ⟨S3x4096x40x96, .bf16⟩
  | .local _ .vmem, ⟨7, _⟩ => ⟨S3x4096x40x96, .bf16⟩
  | .local _ .vmem, ⟨8, _⟩ => ⟨S3x4096x40x96, .f32⟩
  | .local _ .vmem, ⟨9, _⟩ => ⟨S3x40x64x96, .f32⟩
  | .local _ .vmem, ⟨10, _⟩ => ⟨S3x4096x2560, .f32⟩
  | .local _ .vmem, ⟨11, _⟩ => ⟨S3x40x64x96, .f32⟩
  | _, _ => ⟨S3x4096x40x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c4096_i32 : BitVec 32 := 4096#32
  let v1 : BitVec 32 := Scalar.addi c0_i32 c4096_i32
  let c1_i32 : BitVec 32 := 1#32
  ⟨c0_i32, v1, c1_i32⟩
def k0_off1 (k0_t1 : Fin k0_t1_loop.trips) : Fin 4 → Nat :=
  let c0_8 : Index := 0#32
  let c0_i32 : BitVec 32 := 0#32
  let c1_i32 : BitVec 32 := 1#32
  let arg12 : BitVec 32 := Scf.iv c0_i32 c1_i32 k0_t1
  let v4 : Index := Scalar.indexCast arg12
  let c0_9 : Index := 0#32
  let c0_10 : Index := 0#32
  ![0, v4.toNat, 0, 0]
def k0_off2 (k0_t1 : Fin k0_t1_loop.trips) : Fin 3 → Nat :=
  let c0_11 : Index := 0#32
  let c0_i32 : BitVec 32 := 0#32
  let c1_i32 : BitVec 32 := 1#32
  let arg12 : BitVec 32 := Scf.iv c0_i32 c1_i32 k0_t1
  let v8 : Index := Scalar.indexCast arg12
  let c0_12 : Index := 0#32
  ![0, v8.toNat, 0]
def k0_off3 (k0_t1 : Fin k0_t1_loop.trips) : Fin 4 → Nat :=
  let c0_18 : Index := 0#32
  let c0_i32 : BitVec 32 := 0#32
  let c1_i32 : BitVec 32 := 1#32
  let arg12 : BitVec 32 := Scf.iv c0_i32 c1_i32 k0_t1
  let v24 : Index := Scalar.indexCast arg12
  let c0_19 : Index := 0#32
  let c0_20 : Index := 0#32
  ![0, v24.toNat, 0, 0]
def k0_off4 (k0_t1 : Fin k0_t1_loop.trips) : Fin 3 → Nat :=
  let c0_33 : Index := 0#32
  let c0_i32 : BitVec 32 := 0#32
  let c1_i32 : BitVec 32 := 1#32
  let arg12 : BitVec 32 := Scf.iv c0_i32 c1_i32 k0_t1
  let v70 : Index := Scalar.indexCast arg12
  let c0_34 : Index := 0#32
  ![0, v70.toNat, 0]
abbrev stage0_0 : Fin 1 → Memref sig .tc .vmem S3x4096x40x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x4096x40x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4096x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x4096x40x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x4096x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x4096x40x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x4096x40x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x4096x40x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x40x64x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x4096x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x40x64x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.BitsRun.lean ====
/-
  One step of the chunked recurrence: the kernel's body at one grid point, run from any contents of its buffers.
-/
module

public import proofs.«01_k».proof.Proof.Gen.Kernel.Frame
public import proofs.«01_k».proof.Proof.Gen.Kernel.Loops
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at any grid point, from any contents of its eighteen buffers: the ten inputs stay as they are, the two
    results' buffers end at the contents the run finds, the six scratch buffers at something. -/
def bodyRun (c : Dev nD) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    Σ' (C11 : BufTy.Contents (Elt F) arg11.view.ty), { C12 : BufTy.Contents (Elt F) arg12.view.ty //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
          ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} C11) ∗ (arg12.view.loc (c : Thread nD τ) ↦[arg12.view.set]{fullShare} C12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
        ⊢ wp frame (wpE (defs₀ (F := F)) Variants.none c none) E (cc0_rwkv7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    rw [cc0_rwkv7_eq_skeleton]; unfold cc0_rwkv7_skel
    iintro ⟨H1, H2, H3, H4, H5, H6, H7, H8, H9, H10, H11, H12, H13, H14, H15, H16, H17, H18, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.Kernel.Hand

end
-- ==== Proof.BitsFrame.lean ====
/-
  The chunked recurrence runs to its end from any memory and leaves its argument arrays as they were.
-/
module

public import proofs.«01_k».proof.Proof.BitsRun
public import Idealize.ShloMosaic.Lib.Pipeline.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The two results, about which the frame says nothing. -/
def forgets0 : Fin cfg0.W → Bool := fun w => decide (10 ≤ w.val)

/-- The proof data: the arrays as the region finds them, every input block left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Dat.unnamed 10 t
    | ⟨11, _⟩ => Dat.unnamed 11 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ X, owns (c : Thread nD τ) (win0_10.stage (cfg0.slots t 10)) fullShare X)
    ∗ (∃ X, owns (c : Thread nD τ) (win0_11.stage (cfg0.slots t 11)) fullShare X))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ (∃ X, owns (c : Thread nD τ) (win0_10.stage (cfg0.slots t 10)) fullShare X)
    ∗ (∃ X, owns (c : Thread nD τ) (win0_11.stage (cfg0.slots t 11)) fullShare X))

/-- The body ends, from any contents of its buffers, with the inputs as they were. -/
theorem body_ends (c : Dev nD) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    ∃ (C11 : BufTy.Contents (Elt F) arg11.view.ty) (C12 : BufTy.Contents (Elt F) arg12.view.ty),
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
          ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} C11) ∗ (arg12.view.loc (c : Thread nD τ) ↦[arg12.view.set]{fullShare} C12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
        ⊢ wp frame (wpE (defs₀ (F := F)) Variants.none c none) E (cc0_rwkv7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K :=
  ⟨(bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).1, (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).2.1, (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).2.2⟩

set_option maxHeartbeats 2000000 in
/-- The body between the contents the pipeline hands it and those it takes back, at any buffers. -/
theorem body_triple (c : Dev nD) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole)
    (x1 : Vec F S3x32x40x96 .fp8e4m3) (x2 : Vec F S3x32x40 .f32) (x3 : Vec F S3x32x40x96 .fp8e4m3) (x4 : Vec F S3x32x40 .f32) (x5 : Vec F S3x32x40x64 .fp8e4m3) (x6 : Vec F S3x32x40 .f32) (x7 : Vec F S3x32x40x96 .bf16) (x8 : Vec F S3x32x40x96 .bf16) (x9 : Vec F S3x32x40x96 .f32) (x10 : Vec F S3x40x64x96 .f32) (Rg Ro : sProp 𝕄) {D1 D2 D3 D4 D5 D6 D7 D8 D9 D10 : Type} :
    iprop((((∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) ∗ Rg) ∗ Ro
      ∗ (∃ _ : D1, owns (c : Thread nD τ) arg1 fullShare x1)
      ∗ (∃ _ : D2, owns (c : Thread nD τ) arg2 fullShare x2)
      ∗ (∃ _ : D3, owns (c : Thread nD τ) arg3 fullShare x3)
      ∗ (∃ _ : D4, owns (c : Thread nD τ) arg4 fullShare x4)
      ∗ (∃ _ : D5, owns (c : Thread nD τ) arg5 fullShare x5)
      ∗ (∃ _ : D6, owns (c : Thread nD τ) arg6 fullShare x6)
      ∗ (∃ _ : D7, owns (c : Thread nD τ) arg7 fullShare x7)
      ∗ (∃ _ : D8, owns (c : Thread nD τ) arg8 fullShare x8)
      ∗ (∃ _ : D9, owns (c : Thread nD τ) arg9 fullShare x9)
      ∗ (∃ _ : D10, owns (c : Thread nD τ) arg10 fullShare x10)
      ∗ (∃ X, owns (c : Thread nD τ) arg11 fullShare X)
      ∗ (∃ X, owns (c : Thread nD τ) arg12 fullShare X))
    ⊢ wp frame (wpE (defs₀ (F := F)) Variants.none c none) Set.univ (cc0_rwkv7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ =>
      iprop((((∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) ∗ Rg) ∗ Ro
      ∗ owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ (∃ X, owns (c : Thread nD τ) arg11 fullShare X)
      ∗ (∃ X, owns (c : Thread nD τ) arg12 fullShare X))) := by
  unfold owns
  iintro ⟨⟨⟨⟨%f13, H13⟩, ⟨%f14, H14⟩, ⟨%f15, H15⟩, ⟨%f16, H16⟩, ⟨%f17, H17⟩, ⟨%f18, H18⟩⟩, Hg⟩, Ho, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩⟩
  obtain ⟨C11, C12, hrun⟩ := body_ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18
  iapply (hrun Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H1, H2, H3, H4, H5, H6, H7, H8, H9, H10, H11, H12, H13, H14, H15, H16, H17, H18⟩
  isplitl [H13 H14 H15 H16 H17 H18 Hg]
  · isplitr [Hg]
    ·
      isplitl [H13]; · iexact H13
      isplitl [H14]; · iexact H14
      isplitl [H15]; · iexact H15
      isplitl [H16]; · iexact H16
      isplitl [H17]; · iexact H17
      iexact H18
    · iexact Hg
  isplitl [Ho]; · iexact Ho
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact hf7
  isplitl [H8]; · iexists _; isplitr; swap; (· iexact H8); ipureintro; exact hf8
  isplitl [H9]; · iexists _; isplitr; swap; (· iexact H9); ipureintro; exact hf9
  isplitl [H10]; · iexists _; isplitr; swap; (· iexact H10); ipureintro; exact hf10
  isplitl [H11]; · iexists _; iexists _; isplitr; swap; (· iexact H11); ipureintro; rfl
  iexists _; iexists _; isplitr; swap; (· iexact H12); ipureintro; rfl

/-- The scratch buffers held at something, and the generator register. -/
theorem PhiA_eq (c : Dev nD) : (Pipeline.ΦA (Val := Elt F) spec0 c : sProp 𝕄)
    = iprop((Pipeline.scopedRest (Ix := Unit) (Name := ℕ) (U := UR sig nD τ) (Lvl := ℕ) (Val := Elt F) spec0 c) ∗ ∃ r, prngReg c r) := rfl

set_option maxHeartbeats 2000000 in
/-- The body at any point, between the two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9]
  rw [PhiA_eq, scopedRest0_eq]
  have h := body_triple c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) iprop(∃ r, prngReg c r) ((dats m 0 c).owesAt () t.castSucc) (D1 := ((cfg0.win 0).block.Idx → Elt F (cfg0.win 0).elt)) (D2 := ((cfg0.win 1).block.Idx → Elt F (cfg0.win 1).elt)) (D3 := ((cfg0.win 2).block.Idx → Elt F (cfg0.win 2).elt)) (D4 := ((cfg0.win 3).block.Idx → Elt F (cfg0.win 3).elt)) (D5 := ((cfg0.win 4).block.Idx → Elt F (cfg0.win 4).elt)) (D6 := ((cfg0.win 5).block.Idx → Elt F (cfg0.win 5).elt)) (D7 := ((cfg0.win 6).block.Idx → Elt F (cfg0.win 6).elt)) (D8 := ((cfg0.win 7).block.Idx → Elt F (cfg0.win 7).elt)) (D9 := ((cfg0.win 8).block.Idx → Elt F (cfg0.win 8).elt)) (D10 := ((cfg0.win 9).block.Idx → Elt F (cfg0.win 9).elt))
  simp only [Memref.view_whole, View.set_whole] at h
  exact triple_restated h rfl .rfl fun _ => .rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- Every execution ends, every input array as the region found it, every counter at zero. -/
theorem run_main : θ_run defs (onTc (τ := τ) (main (F := F))) (s₀ m ρ)
    (fun r => Pipeline.RDat.FramePost cfg0 (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

/-- THE FRAME: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      (Pipeline.RDat.FramePost.arr_in h.1 c 3 rfl).trans (V_main_arg3 m c),
      ((h.1 c).2 main_arg4 (Pipeline.mem_restRefs_of main_arg4 (by decide) (by decide))).trans (V_main_arg4 m c),
      (Pipeline.RDat.FramePost.arr_in h.1 c 5 rfl).trans (V_main_arg5 m c),
      (Pipeline.RDat.FramePost.arr_in h.1 c 6 rfl).trans (V_main_arg6 m c),
      (Pipeline.RDat.FramePost.arr_in h.1 c 7 rfl).trans (V_main_arg7 m c),
      (Pipeline.RDat.FramePost.arr_in h.1 c 8 rfl).trans (V_main_arg8 m c),
      (Pipeline.RDat.FramePost.arr_in h.1 c 9 rfl).trans (V_main_arg9 m c)⟩, h.2⟩) (run_main m ρ)

end Cert.Kernel.Hand

end
-- ==== Proof.IdealRun.lean ====
/-
  One step of the chunked recurrence: the kernel's body at one grid point, run from any contents of its buffers.
-/
module

public import proofs.«01_k».proof.Proof.Gen.KernelIdeal.Frame
public import proofs.«01_k».proof.Proof.Gen.KernelIdeal.Loops
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at any grid point, from any contents of its eighteen buffers: the ten inputs stay as they are, the two
    results' buffers end at the contents the run finds, the six scratch buffers at something. -/
def bodyRun (c : Dev nD) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    Σ' (C11 : BufTy.Contents (Elt F) arg11.view.ty), { C12 : BufTy.Contents (Elt F) arg12.view.ty //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
          ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} C11) ∗ (arg12.view.loc (c : Thread nD τ) ↦[arg12.view.set]{fullShare} C12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
        ⊢ wp frame (wpE (defs₀ (F := F)) Variants.none c none) E (cc0_rwkv7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    rw [cc0_rwkv7_eq_skeleton]; unfold cc0_rwkv7_skel
    iintro ⟨H1, H2, H3, H4, H5, H6, H7, H8, H9, H10, H11, H12, H13, H14, H15, H16, H17, H18, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.KernelIdeal.Hand

end
-- ==== Proof.IdealFrame.lean ====
/-
  The chunked recurrence runs to its end from any memory and leaves its argument arrays as they were.
-/
module

public import proofs.«01_k».proof.Proof.IdealRun
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two results, about which the frame says nothing. -/
def forgets0 : Fin cfg0.W → Bool := fun w => decide (10 ≤ w.val)

/-- The proof data: the arrays as the region finds them, every input block left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Dat.unnamed 10 t
    | ⟨11, _⟩ => Dat.unnamed 11 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ X, owns (c : Thread nD τ) (win0_10.stage (cfg0.slots t 10)) fullShare X)
    ∗ (∃ X, owns (c : Thread nD τ) (win0_11.stage (cfg0.slots t 11)) fullShare X))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ (∃ X, owns (c : Thread nD τ) (win0_10.stage (cfg0.slots t 10)) fullShare X)
    ∗ (∃ X, owns (c : Thread nD τ) (win0_11.stage (cfg0.slots t 11)) fullShare X))

/-- The body ends, from any contents of its buffers, with the inputs as they were. -/
theorem body_ends (c : Dev nD) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    ∃ (C11 : BufTy.Contents (Elt F) arg11.view.ty) (C12 : BufTy.Contents (Elt F) arg12.view.ty),
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
          ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} C11) ∗ (arg12.view.loc (c : Thread nD τ) ↦[arg12.view.set]{fullShare} C12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
        ⊢ wp frame (wpE (defs₀ (F := F)) Variants.none c none) E (cc0_rwkv7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K :=
  ⟨(bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).1, (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).2.1, (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).2.2⟩

set_option maxHeartbeats 2000000 in
/-- The body between the contents the pipeline hands it and those it takes back, at any buffers. -/
theorem body_triple (c : Dev nD) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole)
    (x1 : Vec F S3x32x40x96 .fp8e4m3) (x2 : Vec F S3x32x40 .f32) (x3 : Vec F S3x32x40x96 .fp8e4m3) (x4 : Vec F S3x32x40 .f32) (x5 : Vec F S3x32x40x64 .fp8e4m3) (x6 : Vec F S3x32x40 .f32) (x7 : Vec F S3x32x40x96 .bf16) (x8 : Vec F S3x32x40x96 .bf16) (x9 : Vec F S3x32x40x96 .f32) (x10 : Vec F S3x40x64x96 .f32) (Rg Ro : sProp 𝕄) {D1 D2 D3 D4 D5 D6 D7 D8 D9 D10 : Type} :
    iprop((((∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) ∗ Rg) ∗ Ro
      ∗ (∃ _ : D1, owns (c : Thread nD τ) arg1 fullShare x1)
      ∗ (∃ _ : D2, owns (c : Thread nD τ) arg2 fullShare x2)
      ∗ (∃ _ : D3, owns (c : Thread nD τ) arg3 fullShare x3)
      ∗ (∃ _ : D4, owns (c : Thread nD τ) arg4 fullShare x4)
      ∗ (∃ _ : D5, owns (c : Thread nD τ) arg5 fullShare x5)
      ∗ (∃ _ : D6, owns (c : Thread nD τ) arg6 fullShare x6)
      ∗ (∃ _ : D7, owns (c : Thread nD τ) arg7 fullShare x7)
      ∗ (∃ _ : D8, owns (c : Thread nD τ) arg8 fullShare x8)
      ∗ (∃ _ : D9, owns (c : Thread nD τ) arg9 fullShare x9)
      ∗ (∃ _ : D10, owns (c : Thread nD τ) arg10 fullShare x10)
      ∗ (∃ X, owns (c : Thread nD τ) arg11 fullShare X)
      ∗ (∃ X, owns (c : Thread nD τ) arg12 fullShare X))
    ⊢ wp frame (wpE (defs₀ (F := F)) Variants.none c none) Set.univ (cc0_rwkv7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ =>
      iprop((((∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) ∗ Rg) ∗ Ro
      ∗ owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ (∃ X, owns (c : Thread nD τ) arg11 fullShare X)
      ∗ (∃ X, owns (c : Thread nD τ) arg12 fullShare X))) := by
  unfold owns
  iintro ⟨⟨⟨⟨%f13, H13⟩, ⟨%f14, H14⟩, ⟨%f15, H15⟩, ⟨%f16, H16⟩, ⟨%f17, H17⟩, ⟨%f18, H18⟩⟩, Hg⟩, Ho, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩⟩
  obtain ⟨C11, C12, hrun⟩ := body_ends c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18
  iapply (hrun Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H1, H2, H3, H4, H5, H6, H7, H8, H9, H10, H11, H12, H13, H14, H15, H16, H17, H18⟩
  isplitl [H13 H14 H15 H16 H17 H18 Hg]
  · isplitr [Hg]
    ·
      isplitl [H13]; · iexact H13
      isplitl [H14]; · iexact H14
      isplitl [H15]; · iexact H15
      isplitl [H16]; · iexact H16
      isplitl [H17]; · iexact H17
      iexact H18
    · iexact Hg
  isplitl [Ho]; · iexact Ho
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact hf7
  isplitl [H8]; · iexists _; isplitr; swap; (· iexact H8); ipureintro; exact hf8
  isplitl [H9]; · iexists _; isplitr; swap; (· iexact H9); ipureintro; exact hf9
  isplitl [H10]; · iexists _; isplitr; swap; (· iexact H10); ipureintro; exact hf10
  isplitl [H11]; · iexists _; iexists _; isplitr; swap; (· iexact H11); ipureintro; rfl
  iexists _; iexists _; isplitr; swap; (· iexact H12); ipureintro; rfl

/-- The scratch buffers held at something, and the generator register. -/
theorem PhiA_eq (c : Dev nD) : (Pipeline.ΦA (Val := Elt F) spec0 c : sProp 𝕄)
    = iprop((Pipeline.scopedRest (Ix := Unit) (Name := ℕ) (U := UR sig nD τ) (Lvl := ℕ) (Val := Elt F) spec0 c) ∗ ∃ r, prngReg c r) := rfl

set_option maxHeartbeats 2000000 in
/-- The body at any point, between the two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9]
  rw [PhiA_eq, scopedRest0_eq]
  have h := body_triple c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) iprop(∃ r, prngReg c r) ((dats m 0 c).owesAt () t.castSucc) (D1 := ((cfg0.win 0).block.Idx → Elt F (cfg0.win 0).elt)) (D2 := ((cfg0.win 1).block.Idx → Elt F (cfg0.win 1).elt)) (D3 := ((cfg0.win 2).block.Idx → Elt F (cfg0.win 2).elt)) (D4 := ((cfg0.win 3).block.Idx → Elt F (cfg0.win 3).elt)) (D5 := ((cfg0.win 4).block.Idx → Elt F (cfg0.win 4).elt)) (D6 := ((cfg0.win 5).block.Idx → Elt F (cfg0.win 5).elt)) (D7 := ((cfg0.win 6).block.Idx → Elt F (cfg0.win 6).elt)) (D8 := ((cfg0.win 7).block.Idx → Elt F (cfg0.win 7).elt)) (D9 := ((cfg0.win 8).block.Idx → Elt F (cfg0.win 8).elt)) (D10 := ((cfg0.win 9).block.Idx → Elt F (cfg0.win 9).elt))
  simp only [Memref.view_whole, View.set_whole] at h
  exact triple_restated h rfl .rfl fun _ => .rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- Every execution ends, every input array as the region found it, every counter at zero. -/
theorem run_main : θ_run defs (onTc (τ := τ) (main (F := F))) (s₀ m ρ)
    (fun r => Pipeline.RDat.FramePost cfg0 (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

/-- THE FRAME: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      (Pipeline.RDat.FramePost.arr_in h.1 c 3 rfl).trans (V_main_arg3 m c),
      ((h.1 c).2 main_arg4 (Pipeline.mem_restRefs_of main_arg4 (by decide) (by decide))).trans (V_main_arg4 m c),
      (Pipeline.RDat.FramePost.arr_in h.1 c 5 rfl).trans (V_main_arg5 m c),
      (Pipeline.RDat.FramePost.arr_in h.1 c 6 rfl).trans (V_main_arg6 m c),
      (Pipeline.RDat.FramePost.arr_in h.1 c 7 rfl).trans (V_main_arg7 m c),
      (Pipeline.RDat.FramePost.arr_in h.1 c 8 rfl).trans (V_main_arg8 m c),
      (Pipeline.RDat.FramePost.arr_in h.1 c 9 rfl).trans (V_main_arg9 m c)⟩, h.2⟩) (run_main m ρ)

end Cert.KernelIdeal.Hand

end
-- ==== Proof.Heads.lean ====
/-
  One head of one chunk, as a vector computation, written once: what it returns for the output (`headO`) and for the
  state (`headS`), from the rows it loads.  Each of the three loops' trips stores exactly these values for the two
  heads it treats.  Facts about names only; no arithmetic is used.
-/
module

public import proofs.«01_k».proof.Proof.IdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The entry state's products with the rows `[a; r]` of one head. -/
def headX (xR xA : Vec F S1x32x128 .f32) (s : Vec F S1x1x64x96 .f32) : FVec F S64x64 .f32 := k0_pay15 xR xA s

/-- The output rows of one head: the state's part, the solved updates' part and the values' part. -/
def headO (vi vj : IVec S32x32 32) (xR xA xK xB xV : Vec F S1x32x128 .f32) (s : Vec F S1x1x64x96 .f32) : FVec F S32x64 .f32 :=
  k0_pay22 vi vj (k0_pay10 xV) (k0_pay14 xR xA xK) (k0_pay15 xR xA s) (k0_pay16 vi vj xR xA xB) (k0_pay17 vi vj xR xA xK)
    (k0_pay18 vi vj) (k0_pay19 xR xA xB) k0_pay20

/-- The state one head leaves: the entry state with the updates and the values added, times the chunk's decay. -/
def headS (vi vj : IVec S32x32 32) (xR xA xK xB xV : Vec F S1x32x128 .f32) (s : Vec F S1x1x64x96 .f32)
    (d : Vec F S1x1x96 .f32) : FVec F S1x1x64x96 .f32 :=
  k0_pay23 (k0_pay8 xK) (k0_pay9 xB) (k0_pay10 xV) (k0_pay11 s) (k0_pay15 xR xA s) (k0_pay16 vi vj xR xA xB)
    (k0_pay17 vi vj xR xA xK) d

/-- The 32 rows of one head in a staged buffer: `off 1` is the head's number, rows stand 41 apart. -/
def rows (a : Memref sig .tc .vmem S3x1320x128 .f32) (X : BufTy.Contents (Elt F) a.view.ty) (off : Fin 3 → Nat)
    (inb : ∀ x, S1x32x128.size x = 0 ∨ off x + (![1, 41, 1] : Fin 3 → Nat) x * (S1x32x128.size x - 1) < S3x1320x128.size x) :
    Vec F S1x32x128 .f32 :=
  a.view.readAt (Elt F) (⟨off, S1x32x128.size, ![1, 41, 1], inb⟩ : LoadRect S3x1320x128) X

/-- One head's state in the state buffer. -/
def stAt (a : Memref sig .tc .vmem S3x40x64x96 .f32) (X : BufTy.Contents (Elt F) a.view.ty) (off : Fin 4 → Nat)
    (inb : ∀ x, off x + S1x1x64x96.size x ≤ S3x40x64x96.size x) : Vec F S1x1x64x96 .f32 :=
  a.view.readAt (Elt F) (Rect.unit (s := S3x40x64x96) off S1x1x64x96.size inb).toLoadRect X

/-- One head's decay over the chunk. -/
def dcAt (a : Memref sig .tc .vmem S3x40x128 .f32) (X : BufTy.Contents (Elt F) a.view.ty) (off : Fin 3 → Nat)
    (inb : ∀ x, off x + S1x1x96.size x ≤ S3x40x128.size x) : Vec F S1x1x96 .f32 :=
  a.view.readAt (Elt F) (Rect.unit (s := S3x40x128) off S1x1x96.size inb).toLoadRect X

/-- What a trip of loop 1 stores of the output. -/
theorem trip1_out (𝒱 : Variants) (c : Dev nD) (bd : Option 𝒱.V) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole) (v4845 v4846 : IVec S32x32 32) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (k : Fin k0_t1_loop.trips) (f_arg11 : BufTy.Contents (Elt F) arg11.view.ty) (f_arg12 : BufTy.Contents (Elt F) arg12.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4845 v4846 X_arg13 X_arg14 X_arg15 X_arg16 X_arg17 X_arg18 k).1 f_arg11 f_arg12
      = [⟨Rect.unit (s := S3x32x2560) (k0_off7 k) S1x32x128.size (k0_off7_inb k),
          k0_pay3 (headO v4845 v4846 (rows arg13 X_arg13 (k0_off1 k) (k0_off1_inb k)) (rows arg14 X_arg14 (k0_off1 k) (k0_off1_inb k)) (rows arg15 X_arg15 (k0_off1 k) (k0_off1_inb k)) (rows arg16 X_arg16 (k0_off1 k) (k0_off1_inb k)) (rows arg17 X_arg17 (k0_off1 k) (k0_off1_inb k)) (stAt arg12 f_arg12 (k0_off2 k) (k0_off2_inb k)))
            (headO v4845 v4846 (rows arg13 X_arg13 (k0_off4 k) (k0_off4_inb k)) (rows arg14 X_arg14 (k0_off4 k) (k0_off4_inb k)) (rows arg15 X_arg15 (k0_off4 k) (k0_off4_inb k)) (rows arg16 X_arg16 (k0_off4 k) (k0_off4_inb k)) (rows arg17 X_arg17 (k0_off4 k) (k0_off4_inb k)) (stAt arg12 f_arg12 (k0_off5 k) (k0_off5_inb k)))⟩] := by
  unfold trip_k0_t1
  rfl

/-- What a trip of loop 1 stores of the state. -/
theorem trip1_st (𝒱 : Variants) (c : Dev nD) (bd : Option 𝒱.V) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole) (v4845 v4846 : IVec S32x32 32) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (k : Fin k0_t1_loop.trips) (f_arg11 : BufTy.Contents (Elt F) arg11.view.ty) (f_arg12 : BufTy.Contents (Elt F) arg12.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4845 v4846 X_arg13 X_arg14 X_arg15 X_arg16 X_arg17 X_arg18 k).2.1 f_arg11 f_arg12
      = [⟨Rect.unit (s := S3x40x64x96) (k0_off5 k) S1x1x64x96.size (k0_off5_inb k),
          headS v4845 v4846 (rows arg13 X_arg13 (k0_off4 k) (k0_off4_inb k)) (rows arg14 X_arg14 (k0_off4 k) (k0_off4_inb k)) (rows arg15 X_arg15 (k0_off4 k) (k0_off4_inb k)) (rows arg16 X_arg16 (k0_off4 k) (k0_off4_inb k)) (rows arg17 X_arg17 (k0_off4 k) (k0_off4_inb k)) (stAt arg12 f_arg12 (k0_off5 k) (k0_off5_inb k)) (dcAt arg18 X_arg18 (k0_off6 k) (k0_off6_inb k))⟩,
         ⟨Rect.unit (s := S3x40x64x96) (k0_off2 k) S1x1x64x96.size (k0_off2_inb k),
          headS v4845 v4846 (rows arg13 X_arg13 (k0_off1 k) (k0_off1_inb k)) (rows arg14 X_arg14 (k0_off1 k) (k0_off1_inb k)) (rows arg15 X_arg15 (k0_off1 k) (k0_off1_inb k)) (rows arg16 X_arg16 (k0_off1 k) (k0_off1_inb k)) (rows arg17 X_arg17 (k0_off1 k) (k0_off1_inb k)) (stAt arg12 f_arg12 (k0_off2 k) (k0_off2_inb k)) (dcAt arg18 X_arg18 (k0_off3 k) (k0_off3_inb k))⟩] := by
  unfold trip_k0_t1
  rfl

/-- What a trip of loop 2 stores of the output. -/
theorem trip2_out (𝒱 : Variants) (c : Dev nD) (bd : Option 𝒱.V) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole) (v4845 v4846 : IVec S32x32 32) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (k : Fin k0_t2_loop.trips) (f_arg11 : BufTy.Contents (Elt F) arg11.view.ty) (f_arg12 : BufTy.Contents (Elt F) arg12.view.ty) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4845 v4846 X_arg13 X_arg14 X_arg15 X_arg16 X_arg17 X_arg18 k).1 f_arg11 f_arg12
      = [⟨Rect.unit (s := S3x32x2560) (k0_off14 k) S1x32x128.size (k0_off14_inb k),
          k0_pay3 (headO v4845 v4846 (rows arg13 X_arg13 (k0_off8 k) (k0_off8_inb k)) (rows arg14 X_arg14 (k0_off8 k) (k0_off8_inb k)) (rows arg15 X_arg15 (k0_off8 k) (k0_off8_inb k)) (rows arg16 X_arg16 (k0_off8 k) (k0_off8_inb k)) (rows arg17 X_arg17 (k0_off8 k) (k0_off8_inb k)) (stAt arg12 f_arg12 (k0_off9 k) (k0_off9_inb k)))
            (headO v4845 v4846 (rows arg13 X_arg13 (k0_off11 k) (k0_off11_inb k)) (rows arg14 X_arg14 (k0_off11 k) (k0_off11_inb k)) (rows arg15 X_arg15 (k0_off11 k) (k0_off11_inb k)) (rows arg16 X_arg16 (k0_off11 k) (k0_off11_inb k)) (rows arg17 X_arg17 (k0_off11 k) (k0_off11_inb k)) (stAt arg12 f_arg12 (k0_off12 k) (k0_off12_inb k)))⟩] := by
  unfold trip_k0_t2
  rfl

/-- What a trip of loop 2 stores of the state. -/
theorem trip2_st (𝒱 : Variants) (c : Dev nD) (bd : Option 𝒱.V) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole) (v4845 v4846 : IVec S32x32 32) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (k : Fin k0_t2_loop.trips) (f_arg11 : BufTy.Contents (Elt F) arg11.view.ty) (f_arg12 : BufTy.Contents (Elt F) arg12.view.ty) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4845 v4846 X_arg13 X_arg14 X_arg15 X_arg16 X_arg17 X_arg18 k).2.1 f_arg11 f_arg12
      = [⟨Rect.unit (s := S3x40x64x96) (k0_off12 k) S1x1x64x96.size (k0_off12_inb k),
          headS v4845 v4846 (rows arg13 X_arg13 (k0_off11 k) (k0_off11_inb k)) (rows arg14 X_arg14 (k0_off11 k) (k0_off11_inb k)) (rows arg15 X_arg15 (k0_off11 k) (k0_off11_inb k)) (rows arg16 X_arg16 (k0_off11 k) (k0_off11_inb k)) (rows arg17 X_arg17 (k0_off11 k) (k0_off11_inb k)) (stAt arg12 f_arg12 (k0_off12 k) (k0_off12_inb k)) (dcAt arg18 X_arg18 (k0_off13 k) (k0_off13_inb k))⟩,
         ⟨Rect.unit (s := S3x40x64x96) (k0_off9 k) S1x1x64x96.size (k0_off9_inb k),
          headS v4845 v4846 (rows arg13 X_arg13 (k0_off8 k) (k0_off8_inb k)) (rows arg14 X_arg14 (k0_off8 k) (k0_off8_inb k)) (rows arg15 X_arg15 (k0_off8 k) (k0_off8_inb k)) (rows arg16 X_arg16 (k0_off8 k) (k0_off8_inb k)) (rows arg17 X_arg17 (k0_off8 k) (k0_off8_inb k)) (stAt arg12 f_arg12 (k0_off9 k) (k0_off9_inb k)) (dcAt arg18 X_arg18 (k0_off10 k) (k0_off10_inb k))⟩] := by
  unfold trip_k0_t2
  rfl

/-- What a trip of loop 3 stores of the output. -/
theorem trip3_out (𝒱 : Variants) (c : Dev nD) (bd : Option 𝒱.V) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole) (v4845 v4846 : IVec S32x32 32) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (k : Fin k0_t3_loop.trips) (f_arg11 : BufTy.Contents (Elt F) arg11.view.ty) (f_arg12 : BufTy.Contents (Elt F) arg12.view.ty) :
    (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4845 v4846 X_arg13 X_arg14 X_arg15 X_arg16 X_arg17 X_arg18 k).1 f_arg11 f_arg12
      = [⟨Rect.unit (s := S3x32x2560) (k0_off21 k) S1x32x128.size (k0_off21_inb k),
          k0_pay3 (headO v4845 v4846 (rows arg13 X_arg13 (k0_off15 k) (k0_off15_inb k)) (rows arg14 X_arg14 (k0_off15 k) (k0_off15_inb k)) (rows arg15 X_arg15 (k0_off15 k) (k0_off15_inb k)) (rows arg16 X_arg16 (k0_off15 k) (k0_off15_inb k)) (rows arg17 X_arg17 (k0_off15 k) (k0_off15_inb k)) (stAt arg12 f_arg12 (k0_off16 k) (k0_off16_inb k)))
            (headO v4845 v4846 (rows arg13 X_arg13 (k0_off18 k) (k0_off18_inb k)) (rows arg14 X_arg14 (k0_off18 k) (k0_off18_inb k)) (rows arg15 X_arg15 (k0_off18 k) (k0_off18_inb k)) (rows arg16 X_arg16 (k0_off18 k) (k0_off18_inb k)) (rows arg17 X_arg17 (k0_off18 k) (k0_off18_inb k)) (stAt arg12 f_arg12 (k0_off19 k) (k0_off19_inb k)))⟩] := by
  unfold trip_k0_t3
  rfl

/-- What a trip of loop 3 stores of the state. -/
theorem trip3_st (𝒱 : Variants) (c : Dev nD) (bd : Option 𝒱.V) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole) (v4845 v4846 : IVec S32x32 32) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (k : Fin k0_t3_loop.trips) (f_arg11 : BufTy.Contents (Elt F) arg11.view.ty) (f_arg12 : BufTy.Contents (Elt F) arg12.view.ty) :
    (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4845 v4846 X_arg13 X_arg14 X_arg15 X_arg16 X_arg17 X_arg18 k).2.1 f_arg11 f_arg12
      = [⟨Rect.unit (s := S3x40x64x96) (k0_off19 k) S1x1x64x96.size (k0_off19_inb k),
          headS v4845 v4846 (rows arg13 X_arg13 (k0_off18 k) (k0_off18_inb k)) (rows arg14 X_arg14 (k0_off18 k) (k0_off18_inb k)) (rows arg15 X_arg15 (k0_off18 k) (k0_off18_inb k)) (rows arg16 X_arg16 (k0_off18 k) (k0_off18_inb k)) (rows arg17 X_arg17 (k0_off18 k) (k0_off18_inb k)) (stAt arg12 f_arg12 (k0_off19 k) (k0_off19_inb k)) (dcAt arg18 X_arg18 (k0_off20 k) (k0_off20_inb k))⟩,
         ⟨Rect.unit (s := S3x40x64x96) (k0_off16 k) S1x1x64x96.size (k0_off16_inb k),
          headS v4845 v4846 (rows arg13 X_arg13 (k0_off15 k) (k0_off15_inb k)) (rows arg14 X_arg14 (k0_off15 k) (k0_off15_inb k)) (rows arg15 X_arg15 (k0_off15 k) (k0_off15_inb k)) (rows arg16 X_arg16 (k0_off15 k) (k0_off15_inb k)) (rows arg17 X_arg17 (k0_off15 k) (k0_off15_inb k)) (stAt arg12 f_arg12 (k0_off16 k) (k0_off16_inb k)) (dcAt arg18 X_arg18 (k0_off17 k) (k0_off17_inb k))⟩] := by
  unfold trip_k0_t3
  rfl

/-- Where the accesses of loop 1 stand (offset 1). -/
theorem off1_eq : ∀ k : Fin k0_t1_loop.trips, k0_off1 k = ![0, 2 * k.val, 0] := by decide +kernel

/-- Where the accesses of loop 2 stand (offset 8). -/
theorem off8_eq : ∀ k : Fin k0_t2_loop.trips, k0_off8 k = ![1, 2 * k.val, 0] := by decide +kernel

/-- Where the accesses of loop 3 stand (offset 15). -/
theorem off15_eq : ∀ k : Fin k0_t3_loop.trips, k0_off15 k = ![2, 2 * k.val, 0] := by decide +kernel

/-- Where the accesses of loop 1 stand (offset 2). -/
theorem off2_eq : ∀ k : Fin k0_t1_loop.trips, k0_off2 k = ![0, 2 * k.val, 0, 0] := by decide +kernel

/-- Where the accesses of loop 2 stand (offset 9). -/
theorem off9_eq : ∀ k : Fin k0_t2_loop.trips, k0_off9 k = ![1, 2 * k.val, 0, 0] := by decide +kernel

/-- Where the accesses of loop 3 stand (offset 16). -/
theorem off16_eq : ∀ k : Fin k0_t3_loop.trips, k0_off16 k = ![2, 2 * k.val, 0, 0] := by decide +kernel

/-- Where the accesses of loop 1 stand (offset 3). -/
theorem off3_eq : ∀ k : Fin k0_t1_loop.trips, k0_off3 k = ![0, 2 * k.val, 0] := by decide +kernel

/-- Where the accesses of loop 2 stand (offset 10). -/
theorem off10_eq : ∀ k : Fin k0_t2_loop.trips, k0_off10 k = ![1, 2 * k.val, 0] := by decide +kernel

/-- Where the accesses of loop 3 stand (offset 17). -/
theorem off17_eq : ∀ k : Fin k0_t3_loop.trips, k0_off17 k = ![2, 2 * k.val, 0] := by decide +kernel

/-- Where the accesses of loop 1 stand (offset 4). -/
theorem off4_eq : ∀ k : Fin k0_t1_loop.trips, k0_off4 k = ![0, 2 * k.val + 1, 0] := by decide +kernel

/-- Where the accesses of loop 2 stand (offset 11). -/
theorem off11_eq : ∀ k : Fin k0_t2_loop.trips, k0_off11 k = ![1, 2 * k.val + 1, 0] := by decide +kernel

/-- Where the accesses of loop 3 stand (offset 18). -/
theorem off18_eq : ∀ k : Fin k0_t3_loop.trips, k0_off18 k = ![2, 2 * k.val + 1, 0] := by decide +kernel

/-- Where the accesses of loop 1 stand (offset 5). -/
theorem off5_eq : ∀ k : Fin k0_t1_loop.trips, k0_off5 k = ![0, 2 * k.val + 1, 0, 0] := by decide +kernel

/-- Where the accesses of loop 2 stand (offset 12). -/
theorem off12_eq : ∀ k : Fin k0_t2_loop.trips, k0_off12 k = ![1, 2 * k.val + 1, 0, 0] := by decide +kernel

/-- Where the accesses of loop 3 stand (offset 19). -/
theorem off19_eq : ∀ k : Fin k0_t3_loop.trips, k0_off19 k = ![2, 2 * k.val + 1, 0, 0] := by decide +kernel

/-- Where the accesses of loop 1 stand (offset 6). -/
theorem off6_eq : ∀ k : Fin k0_t1_loop.trips, k0_off6 k = ![0, 2 * k.val + 1, 0] := by decide +kernel

/-- Where the accesses of loop 2 stand (offset 13). -/
theorem off13_eq : ∀ k : Fin k0_t2_loop.trips, k0_off13 k = ![1, 2 * k.val + 1, 0] := by decide +kernel

/-- Where the accesses of loop 3 stand (offset 20). -/
theorem off20_eq : ∀ k : Fin k0_t3_loop.trips, k0_off20 k = ![2, 2 * k.val + 1, 0] := by decide +kernel

/-- Where the accesses of loop 1 stand (offset 7). -/
theorem off7_eq : ∀ k : Fin k0_t1_loop.trips, k0_off7 k = ![0, 0, 128 * k.val] := by decide +kernel

/-- Where the accesses of loop 2 stand (offset 14). -/
theorem off14_eq : ∀ k : Fin k0_t2_loop.trips, k0_off14 k = ![1, 0, 128 * k.val] := by decide +kernel

/-- Where the accesses of loop 3 stand (offset 21). -/
theorem off21_eq : ∀ k : Fin k0_t3_loop.trips, k0_off21 k = ![2, 0, 128 * k.val] := by decide +kernel

end Cert.KernelIdeal.Hand
-- ==== Proof.Chunk.lean ====
/-
  The real-number mathematics of one chunk of 32 tokens: the kernel's closed form (decayed rows, a triangular system
  solved by repeated squaring, two products) is the token-by-token recurrence.
-/
module

public import proofs.«01_k».proof.Proof.Gen.KernelIdeal
public import Mathlib.LinearAlgebra.Matrix.Notation
public import Mathlib.Analysis.SpecialFunctions.Exp

@[expose] public section

noncomputable section

namespace Cert.Chunk

open Matrix

/-- A strictly lower triangular matrix's powers vanish ever further below the diagonal. -/
theorem pow_strict {n : ℕ} (A : Matrix (Fin n) (Fin n) ℝ) (hA : ∀ i j, i ≤ j → A i j = 0) :
    ∀ (k : ℕ) (i j : Fin n), i.val < j.val + k → (A ^ k) i j = 0 := by
  intro k
  induction k with
  | zero =>
    intro i j h
    rw [pow_zero, Matrix.one_apply_ne]
    intro e; subst e; omega
  | succ k ih =>
    intro i j h
    rw [pow_succ, Matrix.mul_apply]
    refine Finset.sum_eq_zero fun x _ => ?_
    by_cases hx : x ≤ j
    · rw [hA x j hx, mul_zero]
    · have hx' : j.val < x.val := by
        rw [not_le] at hx; exact hx
      rw [ih i x (by omega), zero_mul]

/-- Five doublings solve the unit lower triangular system with 32 unknowns. -/
theorem neumann (A : Matrix (Fin 32) (Fin 32) ℝ) (hA : ∀ i j, i ≤ j → A i j = 0) {m : ℕ} (R U1 U2 U4 U8 U16 : Matrix (Fin 32) (Fin m) ℝ)
    (P2 P4 P8 P16 : Matrix (Fin 32) (Fin 32) ℝ) (h1 : U1 = R + A * R) (hP2 : P2 = A * A) (h2 : U2 = U1 + P2 * U1)
    (hP4 : P4 = P2 * P2) (h4 : U4 = U2 + P4 * U2) (hP8 : P8 = P4 * P4) (h8 : U8 = U4 + P8 * U4)
    (hP16 : P16 = P8 * P8) (h16 : U16 = U8 + P16 * U8) : U16 = R + A * U16 := by
  have h0 : A ^ 32 = 0 := by
    ext i j; rw [pow_strict A hA 32 i j (by omega)]; rfl
  have e2 : P2 = A ^ 2 := by rw [hP2, pow_two]
  have e4 : P4 = A ^ 4 := by rw [hP4, e2, ← pow_add]
  have e8 : P8 = A ^ 8 := by rw [hP8, e4, ← pow_add]
  have e16 : P16 = A ^ 16 := by rw [hP16, e8, ← pow_add]
  have key : U16 - A * U16 = R - A ^ 32 * R := by
    have a1 : U1 - A * U1 = R - A ^ 2 * R := by
      rw [h1, pow_two, Matrix.mul_add, Matrix.mul_assoc]; abel
    have a2 : U2 - A * U2 = R - A ^ 4 * R := by
      have : U2 - A * U2 = (U1 - A * U1) + A ^ 2 * (U1 - A * U1) := by
        rw [h2, e2, Matrix.mul_add, Matrix.mul_sub, ← Matrix.mul_assoc, ← Matrix.mul_assoc, ← pow_succ, ← pow_succ']; abel
      rw [this, a1, Matrix.mul_sub, ← Matrix.mul_assoc, ← pow_add]; abel
    have a4 : U4 - A * U4 = R - A ^ 8 * R := by
      have : U4 - A * U4 = (U2 - A * U2) + A ^ 4 * (U2 - A * U2) := by
        rw [h4, e4, Matrix.mul_add, Matrix.mul_sub, ← Matrix.mul_assoc, ← Matrix.mul_assoc, ← pow_succ, ← pow_succ']; abel
      rw [this, a2, Matrix.mul_sub, ← Matrix.mul_assoc, ← pow_add]; abel
    have a8 : U8 - A * U8 = R - A ^ 16 * R := by
      have : U8 - A * U8 = (U4 - A * U4) + A ^ 8 * (U4 - A * U4) := by
        rw [h8, e8, Matrix.mul_add, Matrix.mul_sub, ← Matrix.mul_assoc, ← Matrix.mul_assoc, ← pow_succ, ← pow_succ']; abel
      rw [this, a4, Matrix.mul_sub, ← Matrix.mul_assoc, ← pow_add]; abel
    have : U16 - A * U16 = (U8 - A * U8) + A ^ 16 * (U8 - A * U8) := by
      rw [h16, e16, Matrix.mul_add, Matrix.mul_sub, ← Matrix.mul_assoc, ← Matrix.mul_assoc, ← pow_succ, ← pow_succ']; abel
    rw [this, a8, Matrix.mul_sub, ← Matrix.mul_assoc, ← pow_add]; abel
  rw [h0, Matrix.zero_mul, sub_zero] at key
  calc U16 = (U16 - A * U16) + A * U16 := (sub_add_cancel _ _).symm
    _ = R + A * U16 := by rw [key]

section Recurrence

variable (r a k b w : ℕ → Fin 96 → ℝ) (v : ℕ → Fin 64 → ℝ)

/-- One token: decay, add the update along `b`, add the value along `k`. -/
def tok (a k b w : Fin 96 → ℝ) (v : Fin 64 → ℝ) (s : Fin 64 → Fin 96 → ℝ) : Fin 64 → Fin 96 → ℝ :=
  fun i κ => s i κ * Real.exp (w κ) + (∑ x, s i x * a x) * b κ + v i * k κ

/-- The state before token `n`. -/
def st (s0 : Fin 64 → Fin 96 → ℝ) : ℕ → Fin 64 → Fin 96 → ℝ
  | 0 => s0
  | n + 1 => tok (a n) (k n) (b n) (w n) (v n) (st s0 n)

/-- The output of token `n`. -/
def outv (s0 : Fin 64 → Fin 96 → ℝ) (n : ℕ) (i : Fin 64) : ℝ := ∑ x, st a k b w v s0 (n + 1) i x * r n x

/-- The decay exponent before token `n`. -/
def Gs (n : ℕ) (κ : Fin 96) : ℝ := ∑ i ∈ Finset.range n, w i κ

theorem Gs_succ (n : ℕ) (κ : Fin 96) : Gs w (n + 1) κ = Gs w n κ + w n κ := by
  rw [Gs, Finset.sum_range_succ]; rfl

/-- The scaled rows the kernel stages. -/
def rt (n : ℕ) (κ : Fin 96) : ℝ := r n κ * Real.exp (Gs w (n + 1) κ)
def at' (n : ℕ) (κ : Fin 96) : ℝ := a n κ * Real.exp (Gs w n κ)
def hat (n : ℕ) (κ : Fin 96) : ℝ := k n κ * Real.exp (-Gs w (n + 1) κ)

/-- The state in closed form, given the solved updates `U`. -/
theorem st_closed (s0 : Fin 64 → Fin 96 → ℝ) (U : Fin 32 → Fin 64 → ℝ)
    (hU : ∀ j i, U j i = (∑ x, at' a w j x * s0 i x)
        + (∑ l : Fin 32, (if l < j then ∑ x, at' a w j x * hat k w l x else 0) * v l i)
        + ∑ l : Fin 32, (if l < j then ∑ x, at' a w j x * hat b w l x else 0) * U l i) :
    ∀ n ≤ 32, ∀ i κ, st a k b w v s0 n i κ
      = (s0 i κ + ∑ l : Fin 32, if l.val < n then U l i * hat b w l κ + v l i * hat k w l κ else 0) * Real.exp (Gs w n κ) := by
  intro n
  induction n with
  | zero =>
    intro _ i κ
    simp [st, Gs]
  | succ n ih =>
    intro hn i κ
    have ih' := ih (by omega)
    have hlt : n < 32 := by omega
    have key : (∑ x, st a k b w v s0 n i x * a n x) = U ⟨n, hlt⟩ i := by
      rw [hU ⟨n, hlt⟩ i]
      have : ∀ x, st a k b w v s0 n i x * a n x = at' a w n x * s0 i x
          + ∑ l : Fin 32, ((if l.val < n then at' a w n x * hat k w l x else 0) * v l i
            + (if l.val < n then at' a w n x * hat b w l x else 0) * U l i) := by
        intro x
        rw [ih' i x, add_mul, add_mul, Finset.sum_mul, Finset.sum_mul]
        congr 1
        · unfold at'; ring
        · refine Finset.sum_congr rfl fun l _ => ?_
          by_cases hl : l.val < n
          · simp only [hl, if_true]; unfold at'; ring
          · simp only [hl, if_false]; ring
      rw [Finset.sum_congr rfl fun x _ => this x, Finset.sum_add_distrib, Finset.sum_comm, add_assoc, ← Finset.sum_add_distrib]
      congr 1
      refine Finset.sum_congr rfl fun l _ => ?_
      rw [Finset.sum_add_distrib, ← Finset.sum_mul, ← Finset.sum_mul]
      by_cases hl : l.val < n
      · have hl' : l < (⟨n, hlt⟩ : Fin 32) := hl
        simp only [hl, hl', if_true]
      · have hl' : ¬ l < (⟨n, hlt⟩ : Fin 32) := hl
        simp only [hl, hl', if_false, Finset.sum_const_zero]
    have hsum : (∑ l : Fin 32, if l.val < n + 1 then U l i * hat b w l κ + v l i * hat k w l κ else 0)
        = (∑ l : Fin 32, if l.val < n then U l i * hat b w l κ + v l i * hat k w l κ else 0)
          + (U ⟨n, hlt⟩ i * hat b w n κ + v n i * hat k w n κ) := by
      rw [← Finset.sum_erase_add _ _ (Finset.mem_univ (⟨n, hlt⟩ : Fin 32)),
        ← Finset.sum_erase_add (f := fun l : Fin 32 => if l.val < n then U l i * hat b w l κ + v l i * hat k w l κ else 0) _ (Finset.mem_univ (⟨n, hlt⟩ : Fin 32))]
      simp only [lt_irrefl, if_false, add_zero, Nat.lt_succ_self, if_true]
      congr 1
      refine Finset.sum_congr rfl fun l hl => ?_
      have hne : l.val ≠ n := fun e => (Finset.mem_erase.mp hl).1 (Fin.ext e)
      by_cases h : l.val < n
      · rw [if_pos h, if_pos (by omega)]
      · rw [if_neg h, if_neg (by omega)]
    show st a k b w v s0 n i κ * Real.exp (w n κ) + (∑ x, st a k b w v s0 n i x * a n x) * b n κ + v n i * k n κ = _
    rw [key, ih' i κ, hsum]
    have hb : ∀ z : ℝ, z = (z * Real.exp (-Gs w (n + 1) κ)) * Real.exp (Gs w (n + 1) κ) := by
      intro z; rw [mul_assoc, ← Real.exp_add, neg_add_cancel, Real.exp_zero, mul_one]
    rw [hb (b n κ), hb (k n κ)]
    have hG : Real.exp (Gs w (n + 1) κ) = Real.exp (Gs w n κ) * Real.exp (w n κ) := by
      rw [Gs_succ, Real.exp_add]
    unfold hat
    rw [hG]; ring

/-- The output in closed form, given the solved updates `U`. -/
theorem out_closed (s0 : Fin 64 → Fin 96 → ℝ) (U : Fin 32 → Fin 64 → ℝ)
    (hU : ∀ j i, U j i = (∑ x, at' a w j x * s0 i x)
        + (∑ l : Fin 32, (if l < j then ∑ x, at' a w j x * hat k w l x else 0) * v l i)
        + ∑ l : Fin 32, (if l < j then ∑ x, at' a w j x * hat b w l x else 0) * U l i) (j : Fin 32) (i : Fin 64) :
    outv r a k b w v s0 j i = (∑ x, rt r w j x * s0 i x)
        + (∑ l : Fin 32, (if l ≤ j then ∑ x, rt r w j x * hat b w l x else 0) * U l i)
        + ∑ l : Fin 32, (if l ≤ j then ∑ x, rt r w j x * hat k w l x else 0) * v l i := by
  have : ∀ x, st a k b w v s0 (j.val + 1) i x * r j x = rt r w j x * s0 i x
      + ∑ l : Fin 32, ((if l ≤ j then rt r w j x * hat b w l x else 0) * U l i
        + (if l ≤ j then rt r w j x * hat k w l x else 0) * v l i) := by
    intro x
    rw [st_closed a k b w v s0 U hU (j.val + 1) (by omega) i x, add_mul, add_mul, Finset.sum_mul, Finset.sum_mul]
    congr 1
    · unfold rt; ring
    · refine Finset.sum_congr rfl fun l _ => ?_
      by_cases hl : l ≤ j
      · have hl' : l.val < j.val + 1 := Nat.lt_succ_of_le hl
        simp only [hl, hl', if_true]; unfold rt; ring
      · have hl' : ¬ l.val < j.val + 1 := fun h => hl (Nat.le_of_lt_succ h)
        simp only [hl, hl', if_false]; ring
  rw [outv, Finset.sum_congr rfl fun x _ => this x, Finset.sum_add_distrib, Finset.sum_comm, add_assoc, ← Finset.sum_add_distrib]
  congr 1
  refine Finset.sum_congr rfl fun l _ => ?_
  rw [Finset.sum_add_distrib, ← Finset.sum_mul, ← Finset.sum_mul]
  by_cases hl : l ≤ j
  · simp only [hl, if_true]
  · simp only [hl, if_false, Finset.sum_const_zero]

/-- The state after the chunk in closed form. -/
theorem st_32 (s0 : Fin 64 → Fin 96 → ℝ) (U : Fin 32 → Fin 64 → ℝ)
    (hU : ∀ j i, U j i = (∑ x, at' a w j x * s0 i x)
        + (∑ l : Fin 32, (if l < j then ∑ x, at' a w j x * hat k w l x else 0) * v l i)
        + ∑ l : Fin 32, (if l < j then ∑ x, at' a w j x * hat b w l x else 0) * U l i) (i : Fin 64) (κ : Fin 96) :
    st a k b w v s0 32 i κ = (s0 i κ + (∑ l : Fin 32, U l i * hat b w l κ) + ∑ l : Fin 32, v l i * hat k w l κ) * Real.exp (Gs w 32 κ) := by
  rw [st_closed a k b w v s0 U hU 32 le_rfl i κ, add_assoc, ← Finset.sum_add_distrib]
  congr 2

/-- Running on from token `c` is running from token 0. -/
theorem st_shift (s0 : Fin 64 → Fin 96 → ℝ) (c n : ℕ) :
    st (fun t => a (c + t)) (fun t => k (c + t)) (fun t => b (c + t)) (fun t => w (c + t)) (fun t => v (c + t)) (st a k b w v s0 c) n
      = st a k b w v s0 (c + n) := by
  induction n with
  | zero => rfl
  | succ n ih =>
    rw [← Nat.add_assoc]
    show tok _ _ _ _ _ _ = tok _ _ _ _ _ _
    rw [ih]

end Recurrence

end Cert.Chunk
-- ==== Proof.HeadIdeal.lean ====
/-
  One head of one chunk over real numbers: when the loaded rows are real numbers, what the kernel computes for the head is
  the token-by-token recurrence's output and state.
-/
module

public import proofs.«01_k».proof.Proof.Heads
public import proofs.«01_k».proof.Proof.Chunk
public import Idealize.ShloMosaic.Lib.Pointwise

@[expose] public section

set_option maxRecDepth 16384

noncomputable section

namespace Cert.KernelIdeal.Hand

open Cert.KernelIdeal Cert.KernelIdeal.Gen
open Idealize.ShloMosaic

/-- The row number of an entry of a 32×32 matrix. -/
abbrev vi : IVec S32x32 32 := iota Kind.tc S32x32 32 [0] iota_S32x32_d0_w32
/-- The column number of an entry of a 32×32 matrix. -/
abbrev vj : IVec S32x32 32 := iota Kind.tc S32x32 32 [1] iota_S32x32_d1_w32

/-- A sum of real numbers, read as extended reals, is the sum of the readings. -/
theorem coe_sum {n : ℕ} (f : Fin n → ℝ) : ((∑ x, f x : ℝ) : EReal) = ∑ x, (f x : EReal) := by
  induction n with
  | zero => simp
  | succ n ih => rw [Fin.sum_univ_succ, Fin.sum_univ_succ, EReal.coe_add, ih]

/-- A product sum of real numbers. -/
theorem sum_mul_coe {n : ℕ} (f g : Fin n → EReal) (f' g' : Fin n → ℝ) (hf : ∀ x, f x = f' x) (hg : ∀ x, g x = g' x) :
    (∑ x, f x * g x) = ((∑ x, f' x * g' x : ℝ) : EReal) := by
  rw [coe_sum]
  exact Finset.sum_congr rfl fun x _ => by rw [hf, hg, EReal.coe_mul]

/-- The strict mask. -/
theorem sgt_iff (j l : Fin 32) (x : EReal) : Scalar.select (IntOp.cmpi CmpIPredicate.sgt (BitVec.ofNat 32 j.val) (BitVec.ofNat 32 l.val)) x 0
    = if l < j then x else 0 := by
  have : IntOp.cmpi CmpIPredicate.sgt (BitVec.ofNat 32 j.val) (BitVec.ofNat 32 l.val) = BitVec.ofBool (decide (l < j)) := by
    revert j l; decide +kernel
  rw [this]
  by_cases h : l < j <;> simp [h, Scalar.select]

/-- The mask with the diagonal. -/
theorem sge_iff (j l : Fin 32) (x : EReal) : Scalar.select (IntOp.cmpi CmpIPredicate.sge (BitVec.ofNat 32 j.val) (BitVec.ofNat 32 l.val)) x 0
    = if l ≤ j then x else 0 := by
  have : IntOp.cmpi CmpIPredicate.sge (BitVec.ofNat 32 j.val) (BitVec.ofNat 32 l.val) = BitVec.ofBool (decide (l ≤ j)) := by
    revert j l; decide +kernel
  rw [this]
  by_cases h : l ≤ j <;> simp [h, Scalar.select]

/-- The vector holds the real matrix `M`. -/
def IsM {n m : ℕ} (X : FVec Ideal ⟨2, ![n, m]⟩ .f32) (M : Matrix (Fin n) (Fin m) ℝ) : Prop := ∀ j i, X (ix2 j i) = (M j i : EReal)

theorem IsM.add {n m : ℕ} {X Y : FVec Ideal ⟨2, ![n, m]⟩ .f32} {M N : Matrix (Fin n) (Fin m) ℝ} (hX : IsM X M) (hY : IsM Y N) :
    IsM (addf X Y) (M + N) := by
  intro j i
  pointwise
  rw [hX, hY, Matrix.add_apply, EReal.coe_add]

theorem IsM.mul64 {X : FVec Ideal S32x32 .f32} {Y : FVec Ideal S32x64 .f32} {M : Matrix (Fin 32) (Fin 32) ℝ} {N : Matrix (Fin 32) (Fin 64) ℝ}
    (hX : IsM X M) (hY : IsM Y N) :
    IsM (matmul dot_S32x32_S32x64_S32x64_1_0_0_1_n_n (some .fp32) X Y (constant S32x64 .f32 0x00000000#32)) (M * N) := by
  intro j i
  pointwise
  rw [Matrix.mul_apply]
  exact sum_mul_coe _ _ _ _ (fun x => hX j x) (fun x => hY x i)

theorem IsM.mul32 {X : FVec Ideal S32x32 .f32} {Y : FVec Ideal S32x32 .f32} {M : Matrix (Fin 32) (Fin 32) ℝ} {N : Matrix (Fin 32) (Fin 32) ℝ}
    (hX : IsM X M) (hY : IsM Y N) :
    IsM (matmul dot_S32x32_S32x32_S32x32_1_0_0_1_n_n (some .fp32) X Y (constant S32x32 .f32 0x00000000#32)) (M * N) := by
  intro j i
  pointwise
  rw [Matrix.mul_apply]
  exact sum_mul_coe _ _ _ _ (fun x => hX j x) (fun x => hY x i)

/-- The updates the kernel solves for satisfy the triangular system. -/
theorem solve (xV : FVec Ideal S32x64 .f32) (q : FVec Ideal S64x64 .f32) (P Q : FVec Ideal S32x32 .f32)
    (V : Matrix (Fin 32) (Fin 64) ℝ) (q' : Matrix (Fin 32) (Fin 64) ℝ) (A K : Matrix (Fin 32) (Fin 32) ℝ)
    (hV : IsM xV V) (hq : ∀ (j : Fin 32) (i : Fin 64), q (ix2 ⟨j.val, by omega⟩ i) = (q' j i : EReal))
    (hP : IsM P A) (hQ : IsM Q K) (hA : ∀ i j, i ≤ j → A i j = 0) :
    ∃ U : Matrix (Fin 32) (Fin 64) ℝ, IsM (k0_pay21 xV q P Q) U ∧ U = (q' + K * V) + A * U := by
  have hx : IsM (extractStridedSlice S32x64 ![0, 0] q slices_S64x64_o0_0_S32x64) q' := by
    intro j i
    pointwise
    exact hq j i
  have hR := hx.add (hQ.mul64 hV)
  have h1 := hR.add (hP.mul64 hR)
  have hP2 := hP.mul32 hP
  have h2 := h1.add (hP2.mul64 h1)
  have hP4 := hP2.mul32 hP2
  have h4 := h2.add (hP4.mul64 h2)
  have hP8 := hP4.mul32 hP4
  have h8 := h4.add (hP8.mul64 h4)
  have hP16 := hP8.mul32 hP8
  have h16 := h8.add (hP16.mul64 h8)
  exact ⟨_, h16, Chunk.neumann A hA _ _ _ _ _ _ _ _ _ _ rfl rfl rfl rfl rfl rfl rfl rfl rfl⟩

section Head

variable (r a k b w : ℕ → Fin 96 → ℝ) (v : ℕ → Fin 64 → ℝ) (s0 : Fin 64 → Fin 96 → ℝ)

/-- The rows loaded for one head are the chunk's scaled rows, and the state is the entry state. -/
structure Loaded (xR xA xK xB xV : Vec Ideal S1x32x128 .f32) (s : Vec Ideal S1x1x64x96 .f32) : Prop where
  hR : ∀ (j : Fin 32) (x : Fin 96), xR (ix3 0 j ⟨x.val, by omega⟩) = (Chunk.rt r w j x : EReal)
  hA : ∀ (j : Fin 32) (x : Fin 96), xA (ix3 0 j ⟨x.val, by omega⟩) = (Chunk.at' a w j x : EReal)
  hK : ∀ (j : Fin 32) (x : Fin 96), xK (ix3 0 j ⟨x.val, by omega⟩) = (Chunk.hat k w j x : EReal)
  hB : ∀ (j : Fin 32) (x : Fin 96), xB (ix3 0 j ⟨x.val, by omega⟩) = (Chunk.hat b w j x : EReal)
  hV : ∀ (j : Fin 32) (x : Fin 64), xV (ix3 0 j ⟨x.val, by omega⟩) = (v j x : EReal)
  hS : ∀ (i : Fin 64) (x : Fin 96), s (ix4 0 0 i x) = (s0 i x : EReal)

variable {r a k b w v s0} {xR xA xK xB xV : Vec Ideal S1x32x128 .f32} {s : Vec Ideal S1x1x64x96 .f32}

theorem coe_ite (c : Prop) [Decidable c] (x : ℝ) : (if c then (x : EReal) else 0) = ((if c then x else 0 : ℝ) : EReal) := by
  by_cases h : c <;> simp [h]

/-- The updates of one head, with the system they solve. -/
theorem head_U (h : Loaded r a k b w v s0 xR xA xK xB xV s) :
    ∃ U : Fin 32 → Fin 64 → ℝ,
      (∀ j i, k0_pay21 (F := Ideal) (k0_pay10 xV) (k0_pay15 xR xA s) (k0_pay16 vi vj xR xA xB) (k0_pay17 vi vj xR xA xK) (ix2 j i) = (U j i : EReal)) ∧
      ∀ j i, U j i = (∑ x, Chunk.at' a w j x * s0 i x)
        + (∑ l : Fin 32, (if l < j then ∑ x, Chunk.at' a w j x * Chunk.hat k w l x else 0) * v l i)
        + ∑ l : Fin 32, (if l < j then ∑ x, Chunk.at' a w j x * Chunk.hat b w l x else 0) * U l i := by
  obtain ⟨U, hU, e⟩ := solve (k0_pay10 (F := Ideal) xV) (k0_pay15 (F := Ideal) xR xA s) (k0_pay16 (F := Ideal) vi vj xR xA xB)
    (k0_pay17 (F := Ideal) vi vj xR xA xK)
    (Matrix.of fun j i => v j.val i) (Matrix.of fun j i => ∑ x, Chunk.at' a w j x * s0 i x)
    (Matrix.of fun j l => if l < j then ∑ x, Chunk.at' a w j x * Chunk.hat b w l x else 0)
    (Matrix.of fun j l => if l < j then ∑ x, Chunk.at' a w j x * Chunk.hat k w l x else 0)
    (by intro j i; pointwise [k0_pay10]; exact h.hV j i)
    (by intro j i; pointwise [k0_pay15, k0_pay12, k0_pay11]
        exact sum_mul_coe _ _ _ _ (fun x => h.hA j x) (fun x => h.hS i x))
    (by intro j i; pointwise [k0_pay16, k0_pay13, k0_pay12, k0_pay9, vi, vj]
        rw [sgt_iff, sum_mul_coe _ _ _ _ (fun x => h.hA j x) (fun x => h.hB i x), coe_ite]; rfl)
    (by intro j i; pointwise [k0_pay17, k0_pay14, k0_pay12, k0_pay8, vi, vj]
        rw [sgt_iff, sum_mul_coe _ _ _ _ (fun x => h.hA j x) (fun x => h.hK i x), coe_ite]; rfl)
    (by intro i j hij; rw [Matrix.of_apply, if_neg (not_lt.mpr hij)])
  refine ⟨U, hU, fun j i => ?_⟩
  have := congrFun (congrFun e j) i
  rw [Matrix.add_apply, Matrix.add_apply, Matrix.mul_apply, Matrix.mul_apply] at this
  exact this

/-- The state payload at an entry. -/
theorem pay23_apply (K B : FVec Ideal S32x96 .f32) (V : FVec Ideal S32x64 .f32) (S : FVec Ideal S64x96 .f32)
    (q : FVec Ideal S64x64 .f32) (P Q : FVec Ideal S32x32 .f32) (d : Vec Ideal S1x1x96 .f32) (i : Fin 64) (x : Fin 96) :
    k0_pay23 (F := Ideal) K B V S q P Q d (ix4 0 0 i x)
      = (S (ix2 i x) + ∑ l, k0_pay21 V q P Q (ix2 l i) * B (ix2 l x) + ∑ l, V (ix2 l i) * K (ix2 l x)) * d (ix3 0 0 x) := by
  pointwise [k0_pay23]

/-- The output payload at an entry. -/
theorem pay22_apply (V : FVec Ideal S32x64 .f32) (A1 : FVec Ideal S64x32 .f32)
    (q : FVec Ideal S64x64 .f32) (P Q B : FVec Ideal S32x32 .f32) (j : Fin 32) (i : Fin 64) :
    k0_pay22 (F := Ideal) vi vj V A1 q P Q (k0_pay18 vi vj) B k0_pay20 (ix2 j i)
      = q (ix2 ⟨32 + j.val, by omega⟩ i) + (∑ l, if l ≤ j then B (ix2 j l) * k0_pay21 V q P Q (ix2 l i) else 0)
        + ∑ l, if l ≤ j then A1 (ix2 ⟨32 + j.val, by omega⟩ l) * V (ix2 l i) else 0 := by
  pointwise [k0_pay22, k0_pay18, k0_pay20, vi, vj]
  simp only [sge_iff]

/-- A masked product sum of real numbers. -/
theorem sum_mask_coe (j : Fin 32) (f g : Fin 32 → EReal) (f' g' : Fin 32 → ℝ) (hf : ∀ x, f x = f' x) (hg : ∀ x, g x = g' x) :
    (∑ x, if x ≤ j then f x * g x else 0) = ((∑ x, (if x ≤ j then f' x else 0) * g' x : ℝ) : EReal) := by
  rw [coe_sum]
  refine Finset.sum_congr rfl fun x _ => ?_
  by_cases h : x ≤ j
  · rw [if_pos h, if_pos h, hf, hg, EReal.coe_mul]
  · rw [if_neg h, if_neg h, zero_mul, EReal.coe_zero]

/-- The state one head leaves is the recurrence's state after 32 tokens. -/
theorem headS_real (h : Loaded r a k b w v s0 xR xA xK xB xV s) (d : Vec Ideal S1x1x96 .f32)
    (hd : ∀ x : Fin 96, d (ix3 0 0 x) = (Real.exp (Chunk.Gs w 32 x) : EReal)) (i : Fin 64) (x : Fin 96) :
    headS (F := Ideal) vi vj xR xA xK xB xV s d (ix4 0 0 i x) = (Chunk.st a k b w v s0 32 i x : EReal) := by
  obtain ⟨U, hU, e⟩ := head_U h
  have e1 : ∀ l : Fin 32, k0_pay10 (F := Ideal) xV (ix2 l i) = (v l i : EReal) := by
    intro l; pointwise [k0_pay10]; exact h.hV l i
  have e2 : ∀ l : Fin 32, k0_pay8 (F := Ideal) xK (ix2 l x) = (Chunk.hat k w l x : EReal) := by
    intro l; pointwise [k0_pay8]; exact h.hK l x
  have e3 : ∀ l : Fin 32, k0_pay9 (F := Ideal) xB (ix2 l x) = (Chunk.hat b w l x : EReal) := by
    intro l; pointwise [k0_pay9]; exact h.hB l x
  have e4 : k0_pay11 (F := Ideal) s (ix2 i x) = (s0 i x : EReal) := by
    pointwise [k0_pay11]; exact h.hS i x
  rw [Chunk.st_32 a k b w v s0 U e, headS, pay23_apply, sum_mul_coe _ _ _ _ (fun l => hU l i) e3, sum_mul_coe _ _ _ _ e1 e2,
    e4, hd, EReal.coe_mul, EReal.coe_add, EReal.coe_add]

/-- The output of one head is the recurrence's output of the chunk's tokens. -/
theorem headO_real (h : Loaded r a k b w v s0 xR xA xK xB xV s) (j : Fin 32) (i : Fin 64) :
    headO (F := Ideal) vi vj xR xA xK xB xV s (ix2 j i) = (Chunk.outv r a k b w v s0 j i : EReal) := by
  obtain ⟨U, hU, e⟩ := head_U h
  have e1 : ∀ l : Fin 32, k0_pay10 (F := Ideal) xV (ix2 l i) = (v l i : EReal) := by
    intro l; pointwise [k0_pay10]; exact h.hV l i
  have e2 : ∀ l : Fin 32, k0_pay19 (F := Ideal) xR xA xB (ix2 j l) = ((∑ x, Chunk.rt r w j x * Chunk.hat b w l x : ℝ) : EReal) := by
    intro l
    pointwise [k0_pay19, k0_pay13, k0_pay12, k0_pay9]
    exact sum_mul_coe _ _ _ _ (fun x => h.hR j x) (fun x => h.hB l x)
  have e3 : ∀ l : Fin 32, k0_pay14 (F := Ideal) xR xA xK (ix2 ⟨32 + j.val, by omega⟩ l) = ((∑ x, Chunk.rt r w j x * Chunk.hat k w l x : ℝ) : EReal) := by
    intro l
    pointwise [k0_pay14, k0_pay12, k0_pay8]
    exact sum_mul_coe _ _ _ _ (fun x => h.hR j x) (fun x => h.hK l x)
  have e4 : k0_pay15 (F := Ideal) xR xA s (ix2 ⟨32 + j.val, by omega⟩ i) = ((∑ x, Chunk.rt r w j x * s0 i x : ℝ) : EReal) := by
    pointwise [k0_pay15, k0_pay12, k0_pay11]
    exact sum_mul_coe _ _ _ _ (fun x => h.hR j x) (fun x => h.hS i x)
  rw [Chunk.out_closed r a k b w v s0 U e, headO, pay22_apply, sum_mask_coe j _ _ _ _ e2 (fun l => hU l i), sum_mask_coe j _ _ _ _ e3 e1,
    e4, EReal.coe_add, EReal.coe_add]

end Head

end Cert.KernelIdeal.Hand
-- ==== Proof.Trip.lean ====
/-
  What one trip of a head loop stores, read back index by index, over real numbers.
-/
module

public import proofs.«01_k».proof.Proof.HeadIdeal
public import Idealize.ShloMosaic.Lib.WritesUnit

@[expose] public section

set_option maxRecDepth 16384

noncomputable section

namespace Cert.KernelIdeal.Hand

open Cert.KernelIdeal Cert.KernelIdeal.Gen
open Idealize.ShloMosaic

/-- One chunk's data, as real numbers: the rows of every batch, head and token, and the entry state. -/
structure Data where
  r : Fin 3 → Fin 40 → ℕ → Fin 96 → ℝ
  a : Fin 3 → Fin 40 → ℕ → Fin 96 → ℝ
  k : Fin 3 → Fin 40 → ℕ → Fin 96 → ℝ
  b : Fin 3 → Fin 40 → ℕ → Fin 96 → ℝ
  w : Fin 3 → Fin 40 → ℕ → Fin 96 → ℝ
  v : Fin 3 → Fin 40 → ℕ → Fin 64 → ℝ
  s : Fin 3 → Fin 40 → Fin 64 → Fin 96 → ℝ

/-- The state after `n` tokens. -/
def Data.stN (D : Data) (n : ℕ) (p : Fin 3) (h : Fin 40) : Fin 64 → Fin 96 → ℝ :=
  Chunk.st (D.a p h) (D.k p h) (D.b p h) (D.w p h) (D.v p h) (D.s p h) n

/-- The output of token `n`. -/
def Data.outN (D : Data) (p : Fin 3) (n : ℕ) (h : Fin 40) : Fin 64 → ℝ :=
  Chunk.outv (D.r p h) (D.a p h) (D.k p h) (D.b p h) (D.w p h) (D.v p h) (D.s p h) n

/-- The state array after the chunk. -/
def Data.stT (D : Data) : S3x40x64x96.Idx → EReal := fun y => (D.stN 32 (y 0) (y 1) (y 2) (y 3) : ℝ)

/-- The head of an output column, and the column within the head. -/
def colH (c : Fin 2560) : Fin 40 := ⟨c.val / 64, by omega⟩
def colI (c : Fin 2560) : Fin 64 := ⟨c.val % 64, Nat.mod_lt _ (by omega)⟩

/-- The output array of the chunk: the heads side by side. -/
def Data.outT (D : Data) : S3x32x2560.Idx → EReal := fun y => (D.outN (y 0) (y 1).val (colH (y 2)) (colI (y 2)) : ℝ)

/-- A head's staged rows, read at an entry. -/
theorem rows_apply (arg : Memref sig .tc .vmem S3x1320x128 .f32) (X : BufTy.Contents (Elt Ideal) arg.view.ty) (off : Fin 3 → Nat)
    (inb : ∀ x, S1x32x128.size x = 0 ∨ off x + (![1, 41, 1] : Fin 3 → Nat) x * (S1x32x128.size x - 1) < S3x1320x128.size x)
    (p : Fin 3) (h : Fin 40) (e : off = ![p.val, h.val, 0]) (j : Fin 32) (x : Fin 128) :
    rows (F := Ideal) arg X off inb (ix3 0 j x) = arg.view.read (Elt Ideal) X (ix3 p ⟨41 * j.val + h.val, by omega⟩ x) := by
  subst e
  unfold rows
  rw [View.readAt_apply]
  refine congrArg _ (funext fun a => Fin.ext ?_)
  fin_cases a
  · show p.val + 1 * 0 = p.val; omega
  · show h.val + 41 * j.val = 41 * j.val + h.val; omega
  · show 0 + 1 * x.val = x.val; omega

/-- A head's state, read at an entry. -/
theorem stAt_apply (arg : Memref sig .tc .vmem S3x40x64x96 .f32) (X : BufTy.Contents (Elt Ideal) arg.view.ty) (off : Fin 4 → Nat)
    (inb : ∀ x, off x + S1x1x64x96.size x ≤ S3x40x64x96.size x)
    (p : Fin 3) (h : Fin 40) (e : off = ![p.val, h.val, 0, 0]) (i : Fin 64) (x : Fin 96) :
    stAt (F := Ideal) arg X off inb (ix4 0 0 i x) = arg.view.read (Elt Ideal) X (ix4 p h i x) := by
  subst e
  unfold stAt
  rw [View.readAt_apply]
  refine congrArg _ (funext fun a => Fin.ext ?_)
  fin_cases a
  · show p.val + 1 * 0 = p.val; omega
  · show h.val + 1 * 0 = h.val; omega
  · show 0 + 1 * i.val = i.val; omega
  · show 0 + 1 * x.val = x.val; omega

/-- A head's decay, read at an entry. -/
theorem dcAt_apply (arg : Memref sig .tc .vmem S3x40x128 .f32) (X : BufTy.Contents (Elt Ideal) arg.view.ty) (off : Fin 3 → Nat)
    (inb : ∀ x, off x + S1x1x96.size x ≤ S3x40x128.size x)
    (p : Fin 3) (h : Fin 40) (e : off = ![p.val, h.val, 0]) (x : Fin 96) :
    dcAt (F := Ideal) arg X off inb (ix3 0 0 x) = arg.view.read (Elt Ideal) X (ix3 p h ⟨x.val, by omega⟩) := by
  subst e
  unfold dcAt
  rw [View.readAt_apply]
  refine congrArg _ (funext fun a => Fin.ext ?_)
  fin_cases a
  · show p.val + 1 * 0 = p.val; omega
  · show h.val + 1 * 0 = h.val; omega
  · show 0 + 1 * x.val = x.val; omega

section Staged

variable (arg13 arg14 arg15 arg16 arg17 : Memref sig .tc .vmem S3x1320x128 .f32) (arg18 : Memref sig .tc .vmem S3x40x128 .f32)
  (X13 : BufTy.Contents (Elt Ideal) arg13.view.ty) (X14 : BufTy.Contents (Elt Ideal) arg14.view.ty)
  (X15 : BufTy.Contents (Elt Ideal) arg15.view.ty) (X16 : BufTy.Contents (Elt Ideal) arg16.view.ty)
  (X17 : BufTy.Contents (Elt Ideal) arg17.view.ty) (X18 : BufTy.Contents (Elt Ideal) arg18.view.ty)

/-- The staged buffers hold the chunk's scaled rows and decays. -/
structure Staged (D : Data) : Prop where
  hR : ∀ (p : Fin 3) (h : Fin 40) (j : Fin 32) (x : Fin 96), arg13.view.read (Elt Ideal) X13 (ix3 p ⟨41 * j.val + h.val, by omega⟩ ⟨x.val, by omega⟩) = (Chunk.rt (D.r p h) (D.w p h) j x : EReal)
  hA : ∀ (p : Fin 3) (h : Fin 40) (j : Fin 32) (x : Fin 96), arg14.view.read (Elt Ideal) X14 (ix3 p ⟨41 * j.val + h.val, by omega⟩ ⟨x.val, by omega⟩) = (Chunk.at' (D.a p h) (D.w p h) j x : EReal)
  hK : ∀ (p : Fin 3) (h : Fin 40) (j : Fin 32) (x : Fin 96), arg15.view.read (Elt Ideal) X15 (ix3 p ⟨41 * j.val + h.val, by omega⟩ ⟨x.val, by omega⟩) = (Chunk.hat (D.k p h) (D.w p h) j x : EReal)
  hB : ∀ (p : Fin 3) (h : Fin 40) (j : Fin 32) (x : Fin 96), arg16.view.read (Elt Ideal) X16 (ix3 p ⟨41 * j.val + h.val, by omega⟩ ⟨x.val, by omega⟩) = (Chunk.hat (D.b p h) (D.w p h) j x : EReal)
  hV : ∀ (p : Fin 3) (h : Fin 40) (j : Fin 32) (x : Fin 64), arg17.view.read (Elt Ideal) X17 (ix3 p ⟨41 * j.val + h.val, by omega⟩ ⟨x.val, by omega⟩) = (D.v p h j x : EReal)
  hD : ∀ (p : Fin 3) (h : Fin 40) (x : Fin 96), arg18.view.read (Elt Ideal) X18 (ix3 p h ⟨x.val, by omega⟩) = (Real.exp (Chunk.Gs (D.w p h) 32 x) : EReal)

variable {arg13 arg14 arg15 arg16 arg17 arg18 X13 X14 X15 X16 X17 X18} {D : Data}

/-- The rows a trip loads for head `h` of batch `p`. -/
theorem Staged.loaded (H : Staged arg13 arg14 arg15 arg16 arg17 arg18 X13 X14 X15 X16 X17 X18 D) (p : Fin 3) (h : Fin 40)
    (arg12 : Memref sig .tc .vmem S3x40x64x96 .f32) (f : BufTy.Contents (Elt Ideal) arg12.view.ty)
    (hf : ∀ (i : Fin 64) (x : Fin 96), arg12.view.read (Elt Ideal) f (ix4 p h i x) = (D.s p h i x : EReal))
    (off : Fin 3 → Nat) (inb : ∀ x, S1x32x128.size x = 0 ∨ off x + (![1, 41, 1] : Fin 3 → Nat) x * (S1x32x128.size x - 1) < S3x1320x128.size x)
    (e : off = ![p.val, h.val, 0]) (off' : Fin 4 → Nat) (inb' : ∀ x, off' x + S1x1x64x96.size x ≤ S3x40x64x96.size x)
    (e' : off' = ![p.val, h.val, 0, 0]) :
    Loaded (D.r p h) (D.a p h) (D.k p h) (D.b p h) (D.w p h) (D.v p h) (D.s p h)
      (rows arg13 X13 off inb) (rows arg14 X14 off inb) (rows arg15 X15 off inb) (rows arg16 X16 off inb) (rows arg17 X17 off inb)
      (stAt arg12 f off' inb') where
  hR j x := by rw [rows_apply _ _ _ _ p h e]; exact H.hR p h j x
  hA j x := by rw [rows_apply _ _ _ _ p h e]; exact H.hA p h j x
  hK j x := by rw [rows_apply _ _ _ _ p h e]; exact H.hK p h j x
  hB j x := by rw [rows_apply _ _ _ _ p h e]; exact H.hB p h j x
  hV j x := by rw [rows_apply _ _ _ _ p h e]; exact H.hV p h j x
  hS i x := by rw [stAt_apply _ _ _ _ p h e']; exact hf i x

end Staged

/-- Storing two heads' states. -/
theorem read_two (arg : Memref sig .tc .vmem S3x40x64x96 .f32) (f : BufTy.Contents (Elt Ideal) arg.view.ty) (T : S3x40x64x96.Idx → EReal)
    (p : Fin 3) (n : ℕ) (hn : n < 20) (o1 o0 : Fin 4 → Nat) (inb1 : ∀ x, o1 x + S1x1x64x96.size x ≤ S3x40x64x96.size x)
    (inb0 : ∀ x, o0 x + S1x1x64x96.size x ≤ S3x40x64x96.size x) (e1 : o1 = ![p.val, 2 * n + 1, 0, 0]) (e0 : o0 = ![p.val, 2 * n, 0, 0])
    (w1 w0 : FVec Ideal S1x1x64x96 .f32)
    (h1 : ∀ (i : Fin 64) (x : Fin 96), w1 (ix4 0 0 i x) = T (ix4 p ⟨2 * n + 1, by omega⟩ i x))
    (h0 : ∀ (i : Fin 64) (x : Fin 96), w0 (ix4 0 0 i x) = T (ix4 p ⟨2 * n, by omega⟩ i x))
    (q : Fin 3) (h : Fin 40) (i : Fin 64) (x : Fin 96) :
    arg.view.read (Elt Ideal) (arg.view.writes (Elt Ideal) f
      [⟨Rect.unit (s := S3x40x64x96) o1 S1x1x64x96.size inb1, w1⟩, ⟨Rect.unit (s := S3x40x64x96) o0 S1x1x64x96.size inb0, w0⟩]) (ix4 q h i x)
      = if q = p ∧ (h.val = 2 * n ∨ h.val = 2 * n + 1) then T (ix4 q h i x) else arg.view.read (Elt Ideal) f (ix4 q h i x) := by
  by_cases hq : q = p
  · subst hq
    by_cases hh1 : h.val = 2 * n + 1
    · rw [if_pos ⟨rfl, Or.inr hh1⟩,
        View.read_writes_cons_unit_of_mem arg.view f inb1 w1 _ (ix4 q h i x) (ix4 0 0 i x) e1 (by
          intro a; fin_cases a
          · show q.val = q.val + 0; omega
          · show h.val = (2 * n + 1) + 0; omega
          · show i.val = 0 + i.val; omega
          · show x.val = 0 + x.val; omega)]
      rw [h1]; congr 2; exact Fin.ext hh1.symm
    · rw [View.read_writes_cons_unit_of_not_mem arg.view f inb1 w1 _ (ix4 q h i x) e1 1 (by
          show h.val < 2 * n + 1 ∨ 2 * n + 1 + 1 ≤ h.val; omega)]
      by_cases hh0 : h.val = 2 * n
      · rw [if_pos ⟨rfl, Or.inl hh0⟩,
          View.read_writes_cons_unit_of_mem arg.view f inb0 w0 _ (ix4 q h i x) (ix4 0 0 i x) e0 (by
            intro a; fin_cases a
            · show q.val = q.val + 0; omega
            · show h.val = (2 * n) + 0; omega
            · show i.val = 0 + i.val; omega
            · show x.val = 0 + x.val; omega)]
        rw [h0]; congr 2; exact Fin.ext hh0.symm
      · rw [if_neg (by rintro ⟨_, h | h⟩ <;> omega),
          View.read_writes_cons_unit_of_not_mem arg.view f inb0 w0 _ (ix4 q h i x) e0 1 (by
            show h.val < 2 * n ∨ 2 * n + 1 ≤ h.val; omega)]
        rfl
  · have hv : q.val ≠ p.val := fun e => hq (Fin.ext e)
    rw [if_neg (fun e => hq e.1),
      View.read_writes_cons_unit_of_not_mem arg.view f inb1 w1 _ (ix4 q h i x) e1 0 (by
        show q.val < p.val ∨ p.val + 1 ≤ q.val; omega),
      View.read_writes_cons_unit_of_not_mem arg.view f inb0 w0 _ (ix4 q h i x) e0 0 (by
        show q.val < p.val ∨ p.val + 1 ≤ q.val; omega)]
    rfl

/-- Storing two heads' outputs side by side. -/
theorem read_cols (arg : Memref sig .tc .vmem S3x32x2560 .bf16) (f : BufTy.Contents (Elt Ideal) arg.view.ty) (T : S3x32x2560.Idx → EReal)
    (p : Fin 3) (n : ℕ) (hn : n < 20) (o : Fin 3 → Nat) (inb : ∀ x, o x + S1x32x128.size x ≤ S3x32x2560.size x)
    (e : o = ![p.val, 0, 128 * n]) (w : FVec Ideal S1x32x128 .bf16)
    (hw : ∀ (j : Fin 32) (c : Fin 128), w (ix3 0 j c) = T (ix3 p j ⟨128 * n + c.val, by omega⟩))
    (q : Fin 3) (j : Fin 32) (c : Fin 2560) :
    arg.view.read (Elt Ideal) (arg.view.writes (Elt Ideal) f
      [⟨Rect.unit (s := S3x32x2560) o S1x32x128.size inb, w⟩]) (ix3 q j c)
      = if q = p ∧ (128 * n ≤ c.val ∧ c.val < 128 * n + 128) then T (ix3 q j c) else arg.view.read (Elt Ideal) f (ix3 q j c) := by
  by_cases hq : q = p
  · subst hq
    by_cases hc : 128 * n ≤ c.val ∧ c.val < 128 * n + 128
    · rw [if_pos ⟨rfl, hc⟩,
        View.read_writes_cons_unit_of_mem arg.view f inb w _ (ix3 q j c) (ix3 0 j ⟨c.val - 128 * n, by omega⟩) e (by
          intro a; fin_cases a
          · show q.val = q.val + 0; omega
          · show j.val = 0 + j.val; omega
          · show c.val = 128 * n + (c.val - 128 * n); omega)]
      rw [hw]; congr 2; exact Fin.ext (by show 128 * n + (c.val - 128 * n) = c.val; omega)
    · rw [if_neg (fun e => hc e.2),
        View.read_writes_cons_unit_of_not_mem arg.view f inb w _ (ix3 q j c) e 2 (by
          show c.val < 128 * n ∨ 128 * n + 128 ≤ c.val; omega)]
      rfl
  · have hv : q.val ≠ p.val := fun e => hq (Fin.ext e)
    rw [if_neg (fun e => hq e.1),
      View.read_writes_cons_unit_of_not_mem arg.view f inb w _ (ix3 q j c) e 0 (by
        show q.val < p.val ∨ p.val + 1 ≤ q.val; omega)]
    rfl

/-- The output block of a trip: the first head's 64 columns, then the second's. -/
theorem pay3_apply (x y : FVec Ideal S32x64 .f32) (j : Fin 32) (c : Fin 128) :
    k0_pay3 (F := Ideal) x y (ix3 0 j c) = if h : c.val < 64 then x (ix2 j ⟨c.val, h⟩) else y (ix2 j ⟨c.val - 64, by omega⟩) := by
  pointwise [k0_pay3]

end Cert.KernelIdeal.Hand
-- ==== Proof.Finite.lean ====
/-
  What the precondition says of the arguments: every code stands for a real number, and every float is one.
-/
module

public import proofs.«01_k».proof.Proof.Gen.Pre_finite
public import proofs.«01_k».proof.Proof.Trip
public import Idealize.ShloMosaic.Lib.ReduceAll

@[expose] public section

set_option maxRecDepth 16384

noncomputable section

namespace Cert.Pre_finite.Value

open Cert.Pre_finite Cert.Pre_finite.Gen
open Cert.KernelIdeal.Hand (Data)
open Idealize.ShloMosaic Idealize.ShloMosaic.Tactic

/-! ## One number -/

/-- The number a code stands for. -/
abbrev codeVal (b : BitVec 8) : EReal := Ideal.ofBits .fp8e4m3 b

/-- A code other than the two that stand for no number stands for a real number. -/
theorem code_real (b : BitVec 8) (h1 : b ≠ 127#8) (h2 : b ≠ 255#8) : codeVal b = ((codeVal b).toReal : EReal) := by
  have key : ∃ x : ℝ, codeVal b = (x : EReal) := by
    show ∃ x : ℝ, Ideal.e4m3fn b = (x : EReal)
    unfold Ideal.e4m3fn
    have hn : ¬((b.extractLsb' 3 4).toNat = 15 ∧ (b.extractLsb' 0 3).toNat = 7) := by
      revert h1 h2; revert b; decide +kernel
    dsimp only
    rw [if_neg hn]
    split_ifs
    · exact ⟨_, rfl⟩
    · exact ⟨_, rfl⟩
    · exact ⟨_, rfl⟩
    · exact ⟨_, rfl⟩
  obtain ⟨x, hx⟩ := key
  rw [hx, EReal.toReal_coe]

/-- A number whose magnitude is below infinity is real. -/
theorem real_of_abs (x : EReal) (h : max x (-x) < ⊤) : x = (x.toReal : EReal) := by
  have h1 : x ≠ ⊤ := fun e => by rw [e] at h; simp at h
  have h2 : x ≠ ⊥ := fun e => by rw [e] at h; simp at h
  exact (EReal.coe_toReal h1 h2).symm

theorem inf_f32 : Ideal.ofBits .f32 0x7F800000#32 = (⊤ : EReal) := by simp [Ideal.ofBits, Ideal.ieee]
theorem inf_bf16 : Ideal.ofBits .bf16 0x7F80#16 = (⊤ : EReal) := by simp [Ideal.ofBits, Ideal.ieee]

theorem ofBool_eq_one (b : Bool) (h : BitVec.ofBool b = 1#1) : b = true := by revert h; cases b <;> decide

theorem and_eq_one (a b : BitVec 1) (h : IntOp.andi a b = 1#1) : a = 1#1 ∧ b = 1#1 := by
  revert a b; decide

/-! ## One array -/

/-- A whole array's test came out one: so did every element's. -/
theorem all_of {s : Shape} {axes : List (Fin s.rank)} (x : s.Idx → BitVec 1) (init : S_.Idx → BitVec 1) (h : s.ReducesTo axes S_)
    (e : Host.reduce IntOp.andi x init h h_S_ ix0 = 1#1) (i : s.Idx) : x i = 1#1 :=
  haveI : Subsingleton S_.Idx := ⟨fun a b => funext fun k => k.elim0⟩
  Host.reduce_andi_all x init h h_S_ ix0 e i

theorem codes_of {s : Shape} {axes : List (Fin s.rank)} (x : IVec s 8) (hb : S_.BroadcastsInDim s (![] : Fin 0 → Fin s.rank)) (h : s.ReducesTo axes S_)
    (e : Host.reduce IntOp.andi (andi (cmpi .ne x (broadcastInDim s ![] hb (constantI S_ 8 127#8))) (cmpi .ne x (broadcastInDim s ![] hb (constantI S_ 8 255#8)))) (constantI S_ 1 1#1) h h_S_ ix0 = 1#1) (i : s.Idx) :
    codeVal (x i) = ((codeVal (x i)).toReal : EReal) := by
  obtain ⟨e1, e2⟩ := and_eq_one _ _ (all_of _ _ h e i)
  have f1 := ofBool_eq_one _ e1
  have f2 := ofBool_eq_one _ e2
  exact code_real _ (bne_iff_ne.1 f1) (bne_iff_ne.1 f2)

theorem f32_of {s : Shape} {axes : List (Fin s.rank)} (x : FVec Ideal s .f32) (hb : S_.BroadcastsInDim s (![] : Fin 0 → Fin s.rank)) (h : s.ReducesTo axes S_)
    (e : Host.reduce IntOp.andi (cmpf .olt (Host.absf x) (broadcastInDim s ![] hb (constant S_ .f32 0x7F800000#32))) (constantI S_ 1 1#1) h h_S_ ix0 = 1#1) (i : s.Idx) :
    x i = ((x i : EReal).toReal : EReal) := by
  have f := of_decide_eq_true (ofBool_eq_one _ (all_of _ _ h e i))
  refine real_of_abs _ (lt_of_lt_of_eq f ?_)
  exact inf_f32

theorem bf16_of {s : Shape} {axes : List (Fin s.rank)} (x : FVec Ideal s .bf16) (hb : S_.BroadcastsInDim s (![] : Fin 0 → Fin s.rank)) (h : s.ReducesTo axes S_)
    (e : Host.reduce IntOp.andi (cmpf .olt (Host.absf x) (broadcastInDim s ![] hb (constant S_ .bf16 0x7F80#16))) (constantI S_ 1 1#1) h h_S_ ix0 = 1#1) (i : s.Idx) :
    x i = ((x i : EReal).toReal : EReal) := by
  have f := of_decide_eq_true (ofBool_eq_one _ (all_of _ _ h e i))
  refine real_of_abs _ (lt_of_lt_of_eq f ?_)
  exact inf_bf16

/-! ## All ten arguments -/

section arrays
variable (x0 : IVec S3x4096x40x96 8) (x1 : FVec Ideal S3x4096x40 .f32) (x2 : IVec S3x4096x40x96 8) (x3 : FVec Ideal S3x4096x40 .f32) (x4 : IVec S3x4096x40x64 8) (x5 : FVec Ideal S3x4096x40 .f32) (x6 : FVec Ideal S3x4096x40x96 .bf16) (x7 : FVec Ideal S3x4096x40x96 .bf16) (x8 : FVec Ideal S3x4096x40x96 .f32) (x9 : FVec Ideal S3x40x64x96 .f32)

/-- Every code stands for a real number, and every float is one. -/
structure Real : Prop where
  h0 : ∀ i, codeVal (x0 i) = ((codeVal (x0 i)).toReal : EReal)
  h1 : ∀ i, x1 i = ((x1 i : EReal).toReal : EReal)
  h2 : ∀ i, codeVal (x2 i) = ((codeVal (x2 i)).toReal : EReal)
  h3 : ∀ i, x3 i = ((x3 i : EReal).toReal : EReal)
  h4 : ∀ i, codeVal (x4 i) = ((codeVal (x4 i)).toReal : EReal)
  h5 : ∀ i, x5 i = ((x5 i : EReal).toReal : EReal)
  h6 : ∀ i, x6 i = ((x6 i : EReal).toReal : EReal)
  h7 : ∀ i, x7 i = ((x7 i : EReal).toReal : EReal)
  h8 : ∀ i, x8 i = ((x8 i : EReal).toReal : EReal)
  h9 : ∀ i, x9 i = ((x9 i : EReal).toReal : EReal)

/-- The precondition says it. -/
theorem real_of_pre (h : fn (F := Ideal) x0 x1 x2 x3 x4 x5 x6 x7 x8 x9 = fun _ => 1#1) : Real x0 x1 x2 x3 x4 x5 x6 x7 x8 x9 := by
  have e := congrFun h ix0
  unfold fn fn_part1 fn_part2 fn_part3 at e
  dsimp only at e
  obtain ⟨e, e9⟩ := and_eq_one _ _ e
  obtain ⟨e, e8⟩ := and_eq_one _ _ e
  obtain ⟨e, e7⟩ := and_eq_one _ _ e
  obtain ⟨e, e6⟩ := and_eq_one _ _ e
  obtain ⟨e, e5⟩ := and_eq_one _ _ e
  obtain ⟨e, e3⟩ := and_eq_one _ _ e
  obtain ⟨e, e1⟩ := and_eq_one _ _ e
  obtain ⟨e, e4⟩ := and_eq_one _ _ e
  obtain ⟨e0, e2⟩ := and_eq_one _ _ e
  exact ⟨codes_of _ _ _ e0, f32_of _ _ _ e1, codes_of _ _ _ e2, f32_of _ _ _ e3, codes_of _ _ _ e4, f32_of _ _ _ e5,
    bf16_of _ _ _ e6, bf16_of _ _ _ e7, f32_of _ _ _ e8, f32_of _ _ _ e9⟩

/-- The real numbers the arguments hold, each code scaled by its row's scale. -/
def data : Data where
  r p h n x := (codeVal (x0 (ix4 p (Fin.ofNat 4096 n) h x))).toReal * (x1 (ix3 p (Fin.ofNat 4096 n) h) : EReal).toReal
  k p h n x := (codeVal (x2 (ix4 p (Fin.ofNat 4096 n) h x))).toReal * (x3 (ix3 p (Fin.ofNat 4096 n) h) : EReal).toReal
  v p h n x := (codeVal (x4 (ix4 p (Fin.ofNat 4096 n) h x))).toReal * (x5 (ix3 p (Fin.ofNat 4096 n) h) : EReal).toReal
  a p h n x := (x6 (ix4 p (Fin.ofNat 4096 n) h x) : EReal).toReal
  b p h n x := (x7 (ix4 p (Fin.ofNat 4096 n) h x) : EReal).toReal
  w p h n x := (x8 (ix4 p (Fin.ofNat 4096 n) h x) : EReal).toReal
  s p h z x := (x9 (ix4 p h z x) : EReal).toReal

theorem ofNat_self (n : Fin 4096) : Fin.ofNat 4096 n.val = n := Fin.ext (Nat.mod_eq_of_lt n.isLt)

/-- A product of two numbers that are real. -/
theorem mul_real {u v : EReal} (hu : u = (u.toReal : EReal)) (hv : v = (v.toReal : EReal)) : u * v = ((u.toReal * v.toReal : ℝ) : EReal) := by
  rw [EReal.coe_mul, ← hu, ← hv]

end arrays

end Cert.Pre_finite.Value

end
-- ==== Proof.Canon.lean ====
/-
  What the staging part of the body stores, row by row: the named values of its run are the values written here once
  for every batch and token. Facts about names only; no arithmetic is used.
-/
module

public import proofs.«01_k».proof.Proof.IdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem inbTok96 (b t : ℕ) : ∀ a, (![b % 3, t % 32, 0, 0] : Fin 4 → Nat) a + S1x1x40x96.size a ≤ S3x32x40x96.size a := by
  have h1 := Nat.mod_lt b (show 0 < 3 by decide)
  have h2 := Nat.mod_lt t (show 0 < 32 by decide)
  intro a; fin_cases a <;> simp [S1x1x40x96, S3x32x40x96] <;> omega
theorem inbTok64 (b t : ℕ) : ∀ a, (![b % 3, t % 32, 0, 0] : Fin 4 → Nat) a + S1x1x40x64.size a ≤ S3x32x40x64.size a := by
  have h1 := Nat.mod_lt b (show 0 < 3 by decide)
  have h2 := Nat.mod_lt t (show 0 < 32 by decide)
  intro a; fin_cases a <;> simp [S1x1x40x64, S3x32x40x64] <;> omega
theorem inbScale (b : ℕ) : ∀ a, (![b % 3, 0, 0] : Fin 3 → Nat) a + S1x32x40.size a ≤ S3x32x40.size a := by
  have h1 := Nat.mod_lt b (show 0 < 3 by decide)
  intro a; fin_cases a <;> simp [S1x32x40, S3x32x40] <;> omega
theorem inbRow96 (b t : ℕ) : ∀ a, (![b % 3, 41 * (t % 32), 0] : Fin 3 → Nat) a + S1x40x96.size a ≤ S3x1320x128.size a := by
  have h1 := Nat.mod_lt b (show 0 < 3 by decide)
  have h2 := Nat.mod_lt t (show 0 < 32 by decide)
  intro a; fin_cases a <;> simp [S1x40x96, S3x1320x128] <;> omega
theorem inbRow64 (b t : ℕ) : ∀ a, (![b % 3, 41 * (t % 32), 0] : Fin 3 → Nat) a + S1x40x64.size a ≤ S3x1320x128.size a := by
  have h1 := Nat.mod_lt b (show 0 < 3 by decide)
  have h2 := Nat.mod_lt t (show 0 < 32 by decide)
  intro a; fin_cases a <;> simp [S1x40x64, S3x1320x128] <;> omega
theorem inbDec (b : ℕ) : ∀ a, (![b % 3, 0, 0] : Fin 3 → Nat) a + S1x40x96.size a ≤ S3x40x128.size a := by
  have h1 := Nat.mod_lt b (show 0 < 3 by decide)
  intro a; fin_cases a <;> simp [S1x40x96, S3x40x128] <;> omega
theorem slicesCol (t : ℕ) : S40x32.Slices ![0, t % 32] S40x1 := by
  have h2 := Nat.mod_lt t (show 0 < 32 by decide)
  refine ⟨rfl, fun a => ?_⟩
  fin_cases a <;> simp [S40x1, S40x32] <;> omega

/-- Token `t` of batch `b`: all heads' rows of an input. -/
def tok96 {e : EltTy} (arg : Memref sig .tc .vmem S3x32x40x96 e) (f : BufTy.Contents (Elt F) arg.view.ty) (b t : ℕ) : Vec F S1x1x40x96 e :=
  View.readAt (Elt F) arg.view (Rect.unit (s := S3x32x40x96) ![b % 3, t % 32, 0, 0] S1x1x40x96.size (inbTok96 b t)).toLoadRect f
def tok64 {e : EltTy} (arg : Memref sig .tc .vmem S3x32x40x64 e) (f : BufTy.Contents (Elt F) arg.view.ty) (b t : ℕ) : Vec F S1x1x40x64 e :=
  View.readAt (Elt F) arg.view (Rect.unit (s := S3x32x40x64) ![b % 3, t % 32, 0, 0] S1x1x40x64.size (inbTok64 b t)).toLoadRect f
/-- The scales of batch `b`, heads by tokens, and token `t`'s column of them. -/
def scl (arg : Memref sig .tc .vmem S3x32x40 .f32) (f : BufTy.Contents (Elt F) arg.view.ty) (b t : ℕ) : FVec F S40x1 .f32 :=
  extractStridedSlice S40x1 ![0, t % 32] (transpose S40x32 [1, 0] (shapeCast S32x40 (View.readAt (Elt F) arg.view (Rect.unit (s := S3x32x40) ![b % 3, 0, 0] S1x32x40.size (inbScale b)).toLoadRect f) shapeCasts_S1x32x40_S32x40) transposes_S32x40_p1_0_S40x32) (slicesCol t)

variable (arg1 : Memref sig .tc .vmem S3x32x40x96 .fp8e4m3) (arg2 : Memref sig .tc .vmem S3x32x40 .f32) (arg3 : Memref sig .tc .vmem S3x32x40x96 .fp8e4m3) (arg4 : Memref sig .tc .vmem S3x32x40 .f32) (arg5 : Memref sig .tc .vmem S3x32x40x64 .fp8e4m3) (arg6 : Memref sig .tc .vmem S3x32x40 .f32) (arg7 : Memref sig .tc .vmem S3x32x40x96 .bf16) (arg8 : Memref sig .tc .vmem S3x32x40x96 .bf16) (arg9 : Memref sig .tc .vmem S3x32x40x96 .f32)
  (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty)

/-- The running sum of the log-decays of batch `b` over its first `t` tokens. -/
def Gv (b : ℕ) : ℕ → FVec F S40x96 .f32
  | 0 => broadcast S40x96 (Scalar.ofBits .f32 0x00000000#32)
  | t + 1 => addf (Gv b t) (shapeCast S40x96 (tok96 arg9 f9 b t) shapeCasts_S1x1x40x96_S40x96)
theorem Gv_succ (b t : ℕ) : Gv arg9 f9 b (t + 1) = addf (Gv arg9 f9 b t) (shapeCast S40x96 (tok96 arg9 f9 b t) shapeCasts_S1x1x40x96_S40x96) := rfl
/-- The decay before token `t`: one before the first. -/
def ePrev (b : ℕ) : ℕ → FVec F S40x96 .f32
  | 0 => k0_pay101
  | t + 1 => exp (Gv arg9 f9 b (t + 1))
/-- The inverse decay up to and with token `t`. -/
def eNeg (b t : ℕ) : FVec F S40x96 .f32 := exp (subf (broadcast S40x96 (Scalar.ofBits .f32 0x00000000#32)) (Gv arg9 f9 b (t + 1)))

/-- The rows stored for token `t` of batch `b`: `r`, `a`, `k`, `b`, `v`. -/
def rowR (b t : ℕ) : FVec F S1x40x96 .f32 :=
  shapeCast S1x40x96 (mulf (mulf (extf .f32 (shapeCast S40x96 (tok96 arg1 f1 b t) shapeCasts_S1x1x40x96_S40x96) bitsLt_fp8e4m3_f32) (broadcastTo S40x96 (scl arg2 f2 b t) broadcasts_S40x1_S40x96)) (exp (Gv arg9 f9 b (t + 1)))) shapeCasts_S40x96_S1x40x96
def rowA (b t : ℕ) : FVec F S1x40x96 .f32 :=
  shapeCast S1x40x96 (mulf (extf .f32 (shapeCast S40x96 (tok96 arg7 f7 b t) shapeCasts_S1x1x40x96_S40x96) bitsLt_bf16_f32) (ePrev arg9 f9 b t)) shapeCasts_S40x96_S1x40x96
def rowK (b t : ℕ) : FVec F S1x40x96 .f32 :=
  shapeCast S1x40x96 (mulf (mulf (extf .f32 (shapeCast S40x96 (tok96 arg3 f3 b t) shapeCasts_S1x1x40x96_S40x96) bitsLt_fp8e4m3_f32) (broadcastTo S40x96 (scl arg4 f4 b t) broadcasts_S40x1_S40x96)) (eNeg arg9 f9 b t)) shapeCasts_S40x96_S1x40x96
def rowB (b t : ℕ) : FVec F S1x40x96 .f32 :=
  shapeCast S1x40x96 (mulf (extf .f32 (shapeCast S40x96 (tok96 arg8 f8 b t) shapeCasts_S1x1x40x96_S40x96) bitsLt_bf16_f32) (eNeg arg9 f9 b t)) shapeCasts_S40x96_S1x40x96
def rowV (b t : ℕ) : FVec F S1x40x64 .f32 :=
  shapeCast S1x40x64 (mulf (extf .f32 (shapeCast S40x64 (tok64 arg5 f5 b t) shapeCasts_S1x1x40x64_S40x64) bitsLt_fp8e4m3_f32) (broadcastTo S40x64 (scl arg6 f6 b t) broadcasts_S40x1_S40x64)) shapeCasts_S40x64_S1x40x64

/-- The first `n` stores of each scratch buffer, the newest first. -/
def canR : ℕ → List (View.Piece (Elt F) S3x1320x128 .f32)
  | 0 => []
  | n + 1 => ⟨Rect.unit (s := S3x1320x128) ![(n / 32) % 3, 41 * (n % 32 % 32), 0] S1x40x96.size (inbRow96 (n / 32) (n % 32)), rowR arg1 arg2 arg9 f1 f2 f9 (n / 32) (n % 32)⟩ :: canR n
def canA : ℕ → List (View.Piece (Elt F) S3x1320x128 .f32)
  | 0 => []
  | n + 1 => ⟨Rect.unit (s := S3x1320x128) ![(n / 32) % 3, 41 * (n % 32 % 32), 0] S1x40x96.size (inbRow96 (n / 32) (n % 32)), rowA arg7 arg9 f7 f9 (n / 32) (n % 32)⟩ :: canA n
def canK : ℕ → List (View.Piece (Elt F) S3x1320x128 .f32)
  | 0 => []
  | n + 1 => ⟨Rect.unit (s := S3x1320x128) ![(n / 32) % 3, 41 * (n % 32 % 32), 0] S1x40x96.size (inbRow96 (n / 32) (n % 32)), rowK arg3 arg4 arg9 f3 f4 f9 (n / 32) (n % 32)⟩ :: canK n
def canB : ℕ → List (View.Piece (Elt F) S3x1320x128 .f32)
  | 0 => []
  | n + 1 => ⟨Rect.unit (s := S3x1320x128) ![(n / 32) % 3, 41 * (n % 32 % 32), 0] S1x40x96.size (inbRow96 (n / 32) (n % 32)), rowB arg8 arg9 f8 f9 (n / 32) (n % 32)⟩ :: canB n
def canV : ℕ → List (View.Piece (Elt F) S3x1320x128 .f32)
  | 0 => []
  | n + 1 => ⟨Rect.unit (s := S3x1320x128) ![(n / 32) % 3, 41 * (n % 32 % 32), 0] S1x40x64.size (inbRow64 (n / 32) (n % 32)), rowV arg5 arg6 f5 f6 (n / 32) (n % 32)⟩ :: canV n
def canD : ℕ → List (View.Piece (Elt F) S3x40x128 .f32)
  | 0 => []
  | b + 1 => ⟨Rect.unit (s := S3x40x128) ![b % 3, 0, 0] S1x40x96.size (inbDec b), shapeCast S1x40x96 (exp (Gv arg9 f9 b 32)) shapeCasts_S40x96_S1x40x96⟩ :: canD b

theorem r_3_eq : bodyRun.sl.r_3 arg9 f9 = Gv arg9 f9 0 1 := by
  unfold bodyRun.sl.r_3
  exact (Gv_succ arg9 f9 0 0).symm
theorem r_7_eq : bodyRun.sl.r_7 arg9 f9 = Gv arg9 f9 0 2 := by
  unfold bodyRun.sl.r_7
  rw [r_3_eq]
  exact (Gv_succ arg9 f9 0 1).symm
theorem r_11_eq : bodyRun.sl.r_11 arg9 f9 = Gv arg9 f9 0 3 := by
  unfold bodyRun.sl.r_11
  rw [r_7_eq]
  exact (Gv_succ arg9 f9 0 2).symm
theorem r_16_eq : bodyRun.sl.r_16 arg9 f9 = Gv arg9 f9 0 4 := by
  unfold bodyRun.sl.r_16
  rw [r_11_eq]
  exact (Gv_succ arg9 f9 0 3).symm
theorem r_20_eq : bodyRun.sl.r_20 arg9 f9 = Gv arg9 f9 0 5 := by
  unfold bodyRun.sl.r_20
  rw [r_16_eq]
  exact (Gv_succ arg9 f9 0 4).symm
theorem r_24_eq : bodyRun.sl.r_24 arg9 f9 = Gv arg9 f9 0 6 := by
  unfold bodyRun.sl.r_24
  rw [r_20_eq]
  exact (Gv_succ arg9 f9 0 5).symm
theorem r_28_eq : bodyRun.sl.r_28 arg9 f9 = Gv arg9 f9 0 7 := by
  unfold bodyRun.sl.r_28
  rw [r_24_eq]
  exact (Gv_succ arg9 f9 0 6).symm
theorem r_32_eq : bodyRun.sl.r_32 arg9 f9 = Gv arg9 f9 0 8 := by
  unfold bodyRun.sl.r_32
  rw [r_28_eq]
  exact (Gv_succ arg9 f9 0 7).symm
theorem r_38_eq : bodyRun.sl.r_38 arg9 f9 = Gv arg9 f9 0 9 := by
  unfold bodyRun.sl.r_38
  rw [r_32_eq]
  exact (Gv_succ arg9 f9 0 8).symm
theorem r_41_eq : bodyRun.sl.r_41 arg9 f9 = Gv arg9 f9 0 10 := by
  unfold bodyRun.sl.r_41
  rw [r_38_eq]
  exact (Gv_succ arg9 f9 0 9).symm
theorem r_45_eq : bodyRun.sl.r_45 arg9 f9 = Gv arg9 f9 0 11 := by
  unfold bodyRun.sl.r_45
  rw [r_41_eq]
  exact (Gv_succ arg9 f9 0 10).symm
theorem r_50_eq : bodyRun.sl.r_50 arg9 f9 = Gv arg9 f9 0 12 := by
  unfold bodyRun.sl.r_50 bodyRun.sl.r_49
  rw [r_45_eq]
  exact (Gv_succ arg9 f9 0 11).symm
theorem r_53_eq : bodyRun.sl.r_53 arg9 f9 = Gv arg9 f9 0 13 := by
  unfold bodyRun.sl.r_53
  rw [r_50_eq]
  exact (Gv_succ arg9 f9 0 12).symm
theorem r_57_eq : bodyRun.sl.r_57 arg9 f9 = Gv arg9 f9 0 14 := by
  unfold bodyRun.sl.r_57
  rw [r_53_eq]
  exact (Gv_succ arg9 f9 0 13).symm
theorem r_61_eq : bodyRun.sl.r_61 arg9 f9 = Gv arg9 f9 0 15 := by
  unfold bodyRun.sl.r_61
  rw [r_57_eq]
  exact (Gv_succ arg9 f9 0 14).symm
theorem r_66_eq : bodyRun.sl.r_66 arg9 f9 = Gv arg9 f9 0 16 := by
  unfold bodyRun.sl.r_66
  rw [r_61_eq]
  exact (Gv_succ arg9 f9 0 15).symm
theorem r_70_eq : bodyRun.sl.r_70 arg9 f9 = Gv arg9 f9 0 17 := by
  unfold bodyRun.sl.r_70
  rw [r_66_eq]
  exact (Gv_succ arg9 f9 0 16).symm
theorem r_74_eq : bodyRun.sl.r_74 arg9 f9 = Gv arg9 f9 0 18 := by
  unfold bodyRun.sl.r_74
  rw [r_70_eq]
  exact (Gv_succ arg9 f9 0 17).symm
theorem r_78_eq : bodyRun.sl.r_78 arg9 f9 = Gv arg9 f9 0 19 := by
  unfold bodyRun.sl.r_78
  rw [r_74_eq]
  exact (Gv_succ arg9 f9 0 18).symm
theorem r_82_eq : bodyRun.sl.r_82 arg9 f9 = Gv arg9 f9 0 20 := by
  unfold bodyRun.sl.r_82
  rw [r_78_eq]
  exact (Gv_succ arg9 f9 0 19).symm
theorem r_88_eq : bodyRun.sl.r_88 arg9 f9 = Gv arg9 f9 0 21 := by
  unfold bodyRun.sl.r_88
  rw [r_82_eq]
  exact (Gv_succ arg9 f9 0 20).symm
theorem r_91_eq : bodyRun.sl.r_91 arg9 f9 = Gv arg9 f9 0 22 := by
  unfold bodyRun.sl.r_91
  rw [r_88_eq]
  exact (Gv_succ arg9 f9 0 21).symm
theorem r_95_eq : bodyRun.sl.r_95 arg9 f9 = Gv arg9 f9 0 23 := by
  unfold bodyRun.sl.r_95
  rw [r_91_eq]
  exact (Gv_succ arg9 f9 0 22).symm
theorem r_100_eq : bodyRun.sl.r_100 arg9 f9 = Gv arg9 f9 0 24 := by
  unfold bodyRun.sl.r_100 bodyRun.sl.r_99
  rw [r_95_eq]
  exact (Gv_succ arg9 f9 0 23).symm
theorem r_103_eq : bodyRun.sl.r_103 arg9 f9 = Gv arg9 f9 0 25 := by
  unfold bodyRun.sl.r_103
  rw [r_100_eq]
  exact (Gv_succ arg9 f9 0 24).symm
theorem r_107_eq : bodyRun.sl.r_107 arg9 f9 = Gv arg9 f9 0 26 := by
  unfold bodyRun.sl.r_107
  rw [r_103_eq]
  exact (Gv_succ arg9 f9 0 25).symm
theorem r_111_eq : bodyRun.sl.r_111 arg9 f9 = Gv arg9 f9 0 27 := by
  unfold bodyRun.sl.r_111
  rw [r_107_eq]
  exact (Gv_succ arg9 f9 0 26).symm
theorem r_116_eq : bodyRun.sl.r_116 arg9 f9 = Gv arg9 f9 0 28 := by
  unfold bodyRun.sl.r_116
  rw [r_111_eq]
  exact (Gv_succ arg9 f9 0 27).symm
theorem r_120_eq : bodyRun.sl.r_120 arg9 f9 = Gv arg9 f9 0 29 := by
  unfold bodyRun.sl.r_120
  rw [r_116_eq]
  exact (Gv_succ arg9 f9 0 28).symm
theorem r_124_eq : bodyRun.sl.r_124 arg9 f9 = Gv arg9 f9 0 30 := by
  unfold bodyRun.sl.r_124
  rw [r_120_eq]
  exact (Gv_succ arg9 f9 0 29).symm
theorem r_128_eq : bodyRun.sl.r_128 arg9 f9 = Gv arg9 f9 0 31 := by
  unfold bodyRun.sl.r_128
  rw [r_124_eq]
  exact (Gv_succ arg9 f9 0 30).symm
theorem r_140_eq : bodyRun.sl.r_140 arg9 f9 = Gv arg9 f9 1 1 := by
  unfold bodyRun.sl.r_140
  exact (Gv_succ arg9 f9 1 0).symm
theorem r_144_eq : bodyRun.sl.r_144 arg9 f9 = Gv arg9 f9 1 2 := by
  unfold bodyRun.sl.r_144
  rw [r_140_eq]
  exact (Gv_succ arg9 f9 1 1).symm
theorem r_148_eq : bodyRun.sl.r_148 arg9 f9 = Gv arg9 f9 1 3 := by
  unfold bodyRun.sl.r_148
  rw [r_144_eq]
  exact (Gv_succ arg9 f9 1 2).symm
theorem r_152_eq : bodyRun.sl.r_152 arg9 f9 = Gv arg9 f9 1 4 := by
  unfold bodyRun.sl.r_152
  rw [r_148_eq]
  exact (Gv_succ arg9 f9 1 3).symm
theorem r_156_eq : bodyRun.sl.r_156 arg9 f9 = Gv arg9 f9 1 5 := by
  unfold bodyRun.sl.r_156
  rw [r_152_eq]
  exact (Gv_succ arg9 f9 1 4).symm
theorem r_160_eq : bodyRun.sl.r_160 arg9 f9 = Gv arg9 f9 1 6 := by
  unfold bodyRun.sl.r_160
  rw [r_156_eq]
  exact (Gv_succ arg9 f9 1 5).symm
theorem r_166_eq : bodyRun.sl.r_166 arg9 f9 = Gv arg9 f9 1 7 := by
  unfold bodyRun.sl.r_166
  rw [r_160_eq]
  exact (Gv_succ arg9 f9 1 6).symm
theorem r_169_eq : bodyRun.sl.r_169 arg9 f9 = Gv arg9 f9 1 8 := by
  unfold bodyRun.sl.r_169
  rw [r_166_eq]
  exact (Gv_succ arg9 f9 1 7).symm
theorem r_174_eq : bodyRun.sl.r_174 arg9 f9 = Gv arg9 f9 1 9 := by
  unfold bodyRun.sl.r_174
  rw [r_169_eq]
  exact (Gv_succ arg9 f9 1 8).symm
theorem r_178_eq : bodyRun.sl.r_178 arg9 f9 = Gv arg9 f9 1 10 := by
  unfold bodyRun.sl.r_178
  rw [r_174_eq]
  exact (Gv_succ arg9 f9 1 9).symm
theorem r_181_eq : bodyRun.sl.r_181 arg9 f9 = Gv arg9 f9 1 11 := by
  unfold bodyRun.sl.r_181
  rw [r_178_eq]
  exact (Gv_succ arg9 f9 1 10).symm
theorem r_185_eq : bodyRun.sl.r_185 arg9 f9 = Gv arg9 f9 1 12 := by
  unfold bodyRun.sl.r_185
  rw [r_181_eq]
  exact (Gv_succ arg9 f9 1 11).symm
theorem r_189_eq : bodyRun.sl.r_189 arg9 f9 = Gv arg9 f9 1 13 := by
  unfold bodyRun.sl.r_189
  rw [r_185_eq]
  exact (Gv_succ arg9 f9 1 12).symm
theorem r_193_eq : bodyRun.sl.r_193 arg9 f9 = Gv arg9 f9 1 14 := by
  unfold bodyRun.sl.r_193
  rw [r_189_eq]
  exact (Gv_succ arg9 f9 1 13).symm
theorem r_197_eq : bodyRun.sl.r_197 arg9 f9 = Gv arg9 f9 1 15 := by
  unfold bodyRun.sl.r_197
  rw [r_193_eq]
  exact (Gv_succ arg9 f9 1 14).symm
theorem r_201_eq : bodyRun.sl.r_201 arg9 f9 = Gv arg9 f9 1 16 := by
  unfold bodyRun.sl.r_201
  rw [r_197_eq]
  exact (Gv_succ arg9 f9 1 15).symm
theorem r_205_eq : bodyRun.sl.r_205 arg9 f9 = Gv arg9 f9 1 17 := by
  unfold bodyRun.sl.r_205
  rw [r_201_eq]
  exact (Gv_succ arg9 f9 1 16).symm
theorem r_209_eq : bodyRun.sl.r_209 arg9 f9 = Gv arg9 f9 1 18 := by
  unfold bodyRun.sl.r_209
  rw [r_205_eq]
  exact (Gv_succ arg9 f9 1 17).symm
theorem r_215_eq : bodyRun.sl.r_215 arg9 f9 = Gv arg9 f9 1 19 := by
  unfold bodyRun.sl.r_215
  rw [r_209_eq]
  exact (Gv_succ arg9 f9 1 18).symm
theorem r_218_eq : bodyRun.sl.r_218 arg9 f9 = Gv arg9 f9 1 20 := by
  unfold bodyRun.sl.r_218
  rw [r_215_eq]
  exact (Gv_succ arg9 f9 1 19).symm
theorem r_223_eq : bodyRun.sl.r_223 arg9 f9 = Gv arg9 f9 1 21 := by
  unfold bodyRun.sl.r_223
  rw [r_218_eq]
  exact (Gv_succ arg9 f9 1 20).symm
theorem r_227_eq : bodyRun.sl.r_227 arg9 f9 = Gv arg9 f9 1 22 := by
  unfold bodyRun.sl.r_227
  rw [r_223_eq]
  exact (Gv_succ arg9 f9 1 21).symm
theorem r_230_eq : bodyRun.sl.r_230 arg9 f9 = Gv arg9 f9 1 23 := by
  unfold bodyRun.sl.r_230
  rw [r_227_eq]
  exact (Gv_succ arg9 f9 1 22).symm
theorem r_234_eq : bodyRun.sl.r_234 arg9 f9 = Gv arg9 f9 1 24 := by
  unfold bodyRun.sl.r_234
  rw [r_230_eq]
  exact (Gv_succ arg9 f9 1 23).symm
theorem r_238_eq : bodyRun.sl.r_238 arg9 f9 = Gv arg9 f9 1 25 := by
  unfold bodyRun.sl.r_238
  rw [r_234_eq]
  exact (Gv_succ arg9 f9 1 24).symm
theorem r_242_eq : bodyRun.sl.r_242 arg9 f9 = Gv arg9 f9 1 26 := by
  unfold bodyRun.sl.r_242
  rw [r_238_eq]
  exact (Gv_succ arg9 f9 1 25).symm
theorem r_246_eq : bodyRun.sl.r_246 arg9 f9 = Gv arg9 f9 1 27 := by
  unfold bodyRun.sl.r_246
  rw [r_242_eq]
  exact (Gv_succ arg9 f9 1 26).symm
theorem r_250_eq : bodyRun.sl.r_250 arg9 f9 = Gv arg9 f9 1 28 := by
  unfold bodyRun.sl.r_250
  rw [r_246_eq]
  exact (Gv_succ arg9 f9 1 27).symm
theorem r_254_eq : bodyRun.sl.r_254 arg9 f9 = Gv arg9 f9 1 29 := by
  unfold bodyRun.sl.r_254
  rw [r_250_eq]
  exact (Gv_succ arg9 f9 1 28).symm
theorem r_258_eq : bodyRun.sl.r_258 arg9 f9 = Gv arg9 f9 1 30 := by
  unfold bodyRun.sl.r_258
  rw [r_254_eq]
  exact (Gv_succ arg9 f9 1 29).symm
theorem r_264_eq : bodyRun.sl.r_264 arg9 f9 = Gv arg9 f9 1 31 := by
  unfold bodyRun.sl.r_264
  rw [r_258_eq]
  exact (Gv_succ arg9 f9 1 30).symm
theorem r_274_eq : bodyRun.sl.r_274 arg9 f9 = Gv arg9 f9 2 1 := by
  unfold bodyRun.sl.r_274
  exact (Gv_succ arg9 f9 2 0).symm
theorem r_278_eq : bodyRun.sl.r_278 arg9 f9 = Gv arg9 f9 2 2 := by
  unfold bodyRun.sl.r_278
  rw [r_274_eq]
  exact (Gv_succ arg9 f9 2 1).symm
theorem r_283_eq : bodyRun.sl.r_283 arg9 f9 = Gv arg9 f9 2 3 := by
  unfold bodyRun.sl.r_283
  rw [r_278_eq]
  exact (Gv_succ arg9 f9 2 2).symm
theorem r_286_eq : bodyRun.sl.r_286 arg9 f9 = Gv arg9 f9 2 4 := by
  unfold bodyRun.sl.r_286
  rw [r_283_eq]
  exact (Gv_succ arg9 f9 2 3).symm
theorem r_291_eq : bodyRun.sl.r_291 arg9 f9 = Gv arg9 f9 2 5 := by
  unfold bodyRun.sl.r_291
  rw [r_286_eq]
  exact (Gv_succ arg9 f9 2 4).symm
theorem r_295_eq : bodyRun.sl.r_295 arg9 f9 = Gv arg9 f9 2 6 := by
  unfold bodyRun.sl.r_295
  rw [r_291_eq]
  exact (Gv_succ arg9 f9 2 5).symm
theorem r_299_eq : bodyRun.sl.r_299 arg9 f9 = Gv arg9 f9 2 7 := by
  unfold bodyRun.sl.r_299
  rw [r_295_eq]
  exact (Gv_succ arg9 f9 2 6).symm
theorem r_303_eq : bodyRun.sl.r_303 arg9 f9 = Gv arg9 f9 2 8 := by
  unfold bodyRun.sl.r_303
  rw [r_299_eq]
  exact (Gv_succ arg9 f9 2 7).symm
theorem r_307_eq : bodyRun.sl.r_307 arg9 f9 = Gv arg9 f9 2 9 := by
  unfold bodyRun.sl.r_307
  rw [r_303_eq]
  exact (Gv_succ arg9 f9 2 8).symm
theorem r_311_eq : bodyRun.sl.r_311 arg9 f9 = Gv arg9 f9 2 10 := by
  unfold bodyRun.sl.r_311
  rw [r_307_eq]
  exact (Gv_succ arg9 f9 2 9).symm
theorem r_315_eq : bodyRun.sl.r_315 arg9 f9 = Gv arg9 f9 2 11 := by
  unfold bodyRun.sl.r_315
  rw [r_311_eq]
  exact (Gv_succ arg9 f9 2 10).symm
theorem r_320_eq : bodyRun.sl.r_320 arg9 f9 = Gv arg9 f9 2 12 := by
  unfold bodyRun.sl.r_320
  rw [r_315_eq]
  exact (Gv_succ arg9 f9 2 11).symm
theorem r_323_eq : bodyRun.sl.r_323 arg9 f9 = Gv arg9 f9 2 13 := by
  unfold bodyRun.sl.r_323
  rw [r_320_eq]
  exact (Gv_succ arg9 f9 2 12).symm
theorem r_327_eq : bodyRun.sl.r_327 arg9 f9 = Gv arg9 f9 2 14 := by
  unfold bodyRun.sl.r_327
  rw [r_323_eq]
  exact (Gv_succ arg9 f9 2 13).symm
theorem r_332_eq : bodyRun.sl.r_332 arg9 f9 = Gv arg9 f9 2 15 := by
  unfold bodyRun.sl.r_332
  rw [r_327_eq]
  exact (Gv_succ arg9 f9 2 14).symm
theorem r_335_eq : bodyRun.sl.r_335 arg9 f9 = Gv arg9 f9 2 16 := by
  unfold bodyRun.sl.r_335
  rw [r_332_eq]
  exact (Gv_succ arg9 f9 2 15).symm
theorem r_340_eq : bodyRun.sl.r_340 arg9 f9 = Gv arg9 f9 2 17 := by
  unfold bodyRun.sl.r_340
  rw [r_335_eq]
  exact (Gv_succ arg9 f9 2 16).symm
theorem r_344_eq : bodyRun.sl.r_344 arg9 f9 = Gv arg9 f9 2 18 := by
  unfold bodyRun.sl.r_344
  rw [r_340_eq]
  exact (Gv_succ arg9 f9 2 17).symm
theorem r_348_eq : bodyRun.sl.r_348 arg9 f9 = Gv arg9 f9 2 19 := by
  unfold bodyRun.sl.r_348
  rw [r_344_eq]
  exact (Gv_succ arg9 f9 2 18).symm
theorem r_352_eq : bodyRun.sl.r_352 arg9 f9 = Gv arg9 f9 2 20 := by
  unfold bodyRun.sl.r_352
  rw [r_348_eq]
  exact (Gv_succ arg9 f9 2 19).symm
theorem r_356_eq : bodyRun.sl.r_356 arg9 f9 = Gv arg9 f9 2 21 := by
  unfold bodyRun.sl.r_356
  rw [r_352_eq]
  exact (Gv_succ arg9 f9 2 20).symm
theorem r_360_eq : bodyRun.sl.r_360 arg9 f9 = Gv arg9 f9 2 22 := by
  unfold bodyRun.sl.r_360
  rw [r_356_eq]
  exact (Gv_succ arg9 f9 2 21).symm
theorem r_364_eq : bodyRun.sl.r_364 arg9 f9 = Gv arg9 f9 2 23 := by
  unfold bodyRun.sl.r_364
  rw [r_360_eq]
  exact (Gv_succ arg9 f9 2 22).symm
theorem r_369_eq : bodyRun.sl.r_369 arg9 f9 = Gv arg9 f9 2 24 := by
  unfold bodyRun.sl.r_369
  rw [r_364_eq]
  exact (Gv_succ arg9 f9 2 23).symm
theorem r_372_eq : bodyRun.sl.r_372 arg9 f9 = Gv arg9 f9 2 25 := by
  unfold bodyRun.sl.r_372
  rw [r_369_eq]
  exact (Gv_succ arg9 f9 2 24).symm
theorem r_376_eq : bodyRun.sl.r_376 arg9 f9 = Gv arg9 f9 2 26 := by
  unfold bodyRun.sl.r_376
  rw [r_372_eq]
  exact (Gv_succ arg9 f9 2 25).symm
theorem r_381_eq : bodyRun.sl.r_381 arg9 f9 = Gv arg9 f9 2 27 := by
  unfold bodyRun.sl.r_381
  rw [r_376_eq]
  exact (Gv_succ arg9 f9 2 26).symm
theorem r_384_eq : bodyRun.sl.r_384 arg9 f9 = Gv arg9 f9 2 28 := by
  unfold bodyRun.sl.r_384
  rw [r_381_eq]
  exact (Gv_succ arg9 f9 2 27).symm
theorem r_389_eq : bodyRun.sl.r_389 arg9 f9 = Gv arg9 f9 2 29 := by
  unfold bodyRun.sl.r_389
  rw [r_384_eq]
  exact (Gv_succ arg9 f9 2 28).symm
theorem r_393_eq : bodyRun.sl.r_393 arg9 f9 = Gv arg9 f9 2 30 := by
  unfold bodyRun.sl.r_393
  rw [r_389_eq]
  exact (Gv_succ arg9 f9 2 29).symm
theorem r_397_eq : bodyRun.sl.r_397 arg9 f9 = Gv arg9 f9 2 31 := by
  unfold bodyRun.sl.r_397
  rw [r_393_eq]
  exact (Gv_succ arg9 f9 2 30).symm
theorem r_401_eq : bodyRun.sl.r_401 arg9 f9 = Gv arg9 f9 2 32 := by
  unfold bodyRun.sl.r_401
  rw [r_397_eq]
  exact (Gv_succ arg9 f9 2 31).symm
theorem H13_1_eq : bodyRun.sl.H13_1 arg1 arg2 arg9 f1 f2 f9 = canR arg1 arg2 arg9 f1 f2 f9 1 := by
  unfold bodyRun.sl.H13_1
  rfl
theorem H13_2_eq : bodyRun.sl.H13_2 arg1 arg2 arg9 f1 f2 f9 = canR arg1 arg2 arg9 f1 f2 f9 2 := by
  unfold bodyRun.sl.H13_2 bodyRun.sl.r
  rw [H13_1_eq, r_3_eq]
  rfl
theorem H13_3_eq : bodyRun.sl.H13_3 arg1 arg2 arg9 f1 f2 f9 = canR arg1 arg2 arg9 f1 f2 f9 3 := by
  unfold bodyRun.sl.H13_3 bodyRun.sl.r_12 bodyRun.sl.r_14 bodyRun.sl.r_15 bodyRun.sl.r
  rw [H13_2_eq, r_7_eq]
  rfl
theorem H13_4_eq : bodyRun.sl.H13_4 arg1 arg2 arg9 f1 f2 f9 = canR arg1 arg2 arg9 f1 f2 f9 4 := by
  unfold bodyRun.sl.H13_4 bodyRun.sl.r
  rw [H13_3_eq, r_11_eq]
  rfl
theorem H13_5_eq : bodyRun.sl.H13_5 arg1 arg2 arg9 f1 f2 f9 = canR arg1 arg2 arg9 f1 f2 f9 5 := by
  unfold bodyRun.sl.H13_5 bodyRun.sl.r bodyRun.sl.r_21
  rw [H13_4_eq, r_16_eq]
  rfl
theorem H13_6_eq : bodyRun.sl.H13_6 arg1 arg2 arg9 f1 f2 f9 = canR arg1 arg2 arg9 f1 f2 f9 6 := by
  unfold bodyRun.sl.H13_6 bodyRun.sl.r
  rw [H13_5_eq, r_20_eq]
  rfl
theorem H13_7_eq : bodyRun.sl.H13_7 arg1 arg2 arg9 f1 f2 f9 = canR arg1 arg2 arg9 f1 f2 f9 7 := by
  unfold bodyRun.sl.H13_7 bodyRun.sl.r
  rw [H13_6_eq, r_24_eq]
  rfl
theorem H13_8_eq : bodyRun.sl.H13_8 arg1 arg2 arg9 f1 f2 f9 = canR arg1 arg2 arg9 f1 f2 f9 8 := by
  unfold bodyRun.sl.H13_8 bodyRun.sl.r_35 bodyRun.sl.r
  rw [H13_7_eq, r_28_eq]
  rfl
theorem H13_9_eq : bodyRun.sl.H13_9 arg1 arg2 arg9 f1 f2 f9 = canR arg1 arg2 arg9 f1 f2 f9 9 := by
  unfold bodyRun.sl.H13_9 bodyRun.sl.r
  rw [H13_8_eq, r_32_eq]
  rfl
theorem H13_10_eq : bodyRun.sl.H13_10 arg1 arg2 arg9 f1 f2 f9 = canR arg1 arg2 arg9 f1 f2 f9 10 := by
  unfold bodyRun.sl.H13_10 bodyRun.sl.r bodyRun.sl.r_42
  rw [H13_9_eq, r_38_eq]
  rfl
theorem H13_11_eq : bodyRun.sl.H13_11 arg1 arg2 arg9 f1 f2 f9 = canR arg1 arg2 arg9 f1 f2 f9 11 := by
  unfold bodyRun.sl.H13_11 bodyRun.sl.r
  rw [H13_10_eq, r_41_eq]
  rfl
theorem H13_12_eq : bodyRun.sl.H13_12 arg1 arg2 arg9 f1 f2 f9 = canR arg1 arg2 arg9 f1 f2 f9 12 := by
  unfold bodyRun.sl.H13_12 bodyRun.sl.r bodyRun.sl.r_49
  rw [H13_11_eq, r_45_eq]
  rfl
theorem H13_13_eq : bodyRun.sl.H13_13 arg1 arg2 arg9 f1 f2 f9 = canR arg1 arg2 arg9 f1 f2 f9 13 := by
  unfold bodyRun.sl.H13_13 bodyRun.sl.r
  rw [H13_12_eq, r_50_eq]
  rfl
theorem H13_14_eq : bodyRun.sl.H13_14 arg1 arg2 arg9 f1 f2 f9 = canR arg1 arg2 arg9 f1 f2 f9 14 := by
  unfold bodyRun.sl.H13_14 bodyRun.sl.r
  rw [H13_13_eq, r_53_eq]
  rfl
theorem H13_15_eq : bodyRun.sl.H13_15 arg1 arg2 arg9 f1 f2 f9 = canR arg1 arg2 arg9 f1 f2 f9 15 := by
  unfold bodyRun.sl.H13_15 bodyRun.sl.r_62 bodyRun.sl.r_64 bodyRun.sl.r_65 bodyRun.sl.r
  rw [H13_14_eq, r_57_eq]
  rfl
theorem H13_16_eq : bodyRun.sl.H13_16 arg1 arg2 arg9 f1 f2 f9 = canR arg1 arg2 arg9 f1 f2 f9 16 := by
  unfold bodyRun.sl.H13_16 bodyRun.sl.r
  rw [H13_15_eq, r_61_eq]
  rfl
theorem H13_17_eq : bodyRun.sl.H13_17 arg1 arg2 arg9 f1 f2 f9 = canR arg1 arg2 arg9 f1 f2 f9 17 := by
  unfold bodyRun.sl.H13_17 bodyRun.sl.r bodyRun.sl.r_71
  rw [H13_16_eq, r_66_eq]
  rfl
theorem H13_18_eq : bodyRun.sl.H13_18 arg1 arg2 arg9 f1 f2 f9 = canR arg1 arg2 arg9 f1 f2 f9 18 := by
  unfold bodyRun.sl.H13_18 bodyRun.sl.r
  rw [H13_17_eq, r_70_eq]
  rfl
theorem H13_19_eq : bodyRun.sl.H13_19 arg1 arg2 arg9 f1 f2 f9 = canR arg1 arg2 arg9 f1 f2 f9 19 := by
  unfold bodyRun.sl.H13_19 bodyRun.sl.r
  rw [H13_18_eq, r_74_eq]
  rfl
theorem H13_20_eq : bodyRun.sl.H13_20 arg1 arg2 arg9 f1 f2 f9 = canR arg1 arg2 arg9 f1 f2 f9 20 := by
  unfold bodyRun.sl.H13_20 bodyRun.sl.r_85 bodyRun.sl.r
  rw [H13_19_eq, r_78_eq]
  rfl
theorem H13_21_eq : bodyRun.sl.H13_21 arg1 arg2 arg9 f1 f2 f9 = canR arg1 arg2 arg9 f1 f2 f9 21 := by
  unfold bodyRun.sl.H13_21 bodyRun.sl.r
  rw [H13_20_eq, r_82_eq]
  rfl
theorem H13_22_eq : bodyRun.sl.H13_22 arg1 arg2 arg9 f1 f2 f9 = canR arg1 arg2 arg9 f1 f2 f9 22 := by
  unfold bodyRun.sl.H13_22 bodyRun.sl.r bodyRun.sl.r_92
  rw [H13_21_eq, r_88_eq]
  rfl
theorem H13_23_eq : bodyRun.sl.H13_23 arg1 arg2 arg9 f1 f2 f9 = canR arg1 arg2 arg9 f1 f2 f9 23 := by
  unfold bodyRun.sl.H13_23 bodyRun.sl.r
  rw [H13_22_eq, r_91_eq]
  rfl
theorem H13_24_eq : bodyRun.sl.H13_24 arg1 arg2 arg9 f1 f2 f9 = canR arg1 arg2 arg9 f1 f2 f9 24 := by
  unfold bodyRun.sl.H13_24 bodyRun.sl.r bodyRun.sl.r_99
  rw [H13_23_eq, r_95_eq]
  rfl
theorem H13_25_eq : bodyRun.sl.H13_25 arg1 arg2 arg9 f1 f2 f9 = canR arg1 arg2 arg9 f1 f2 f9 25 := by
  unfold bodyRun.sl.H13_25 bodyRun.sl.r
  rw [H13_24_eq, r_100_eq]
  rfl
theorem H13_26_eq : bodyRun.sl.H13_26 arg1 arg2 arg9 f1 f2 f9 = canR arg1 arg2 arg9 f1 f2 f9 26 := by
  unfold bodyRun.sl.H13_26 bodyRun.sl.r
  rw [H13_25_eq, r_103_eq]
  rfl
theorem H13_27_eq : bodyRun.sl.H13_27 arg1 arg2 arg9 f1 f2 f9 = canR arg1 arg2 arg9 f1 f2 f9 27 := by
  unfold bodyRun.sl.H13_27 bodyRun.sl.r_112 bodyRun.sl.r_114 bodyRun.sl.r_115 bodyRun.sl.r
  rw [H13_26_eq, r_107_eq]
  rfl
theorem H13_28_eq : bodyRun.sl.H13_28 arg1 arg2 arg9 f1 f2 f9 = canR arg1 arg2 arg9 f1 f2 f9 28 := by
  unfold bodyRun.sl.H13_28 bodyRun.sl.r
  rw [H13_27_eq, r_111_eq]
  rfl
theorem H13_29_eq : bodyRun.sl.H13_29 arg1 arg2 arg9 f1 f2 f9 = canR arg1 arg2 arg9 f1 f2 f9 29 := by
  unfold bodyRun.sl.H13_29 bodyRun.sl.r bodyRun.sl.r_121
  rw [H13_28_eq, r_116_eq]
  rfl
theorem H13_30_eq : bodyRun.sl.H13_30 arg1 arg2 arg9 f1 f2 f9 = canR arg1 arg2 arg9 f1 f2 f9 30 := by
  unfold bodyRun.sl.H13_30 bodyRun.sl.r
  rw [H13_29_eq, r_120_eq]
  rfl
theorem H13_31_eq : bodyRun.sl.H13_31 arg1 arg2 arg9 f1 f2 f9 = canR arg1 arg2 arg9 f1 f2 f9 31 := by
  unfold bodyRun.sl.H13_31 bodyRun.sl.r
  rw [H13_30_eq, r_124_eq]
  rfl
theorem H13_32_eq : bodyRun.sl.H13_32 arg1 arg2 arg9 f1 f2 f9 = canR arg1 arg2 arg9 f1 f2 f9 32 := by
  unfold bodyRun.sl.H13_32 bodyRun.sl.r_134 bodyRun.sl.r
  rw [H13_31_eq, r_128_eq]
  rfl
theorem H13_33_eq : bodyRun.sl.H13_33 arg1 arg2 arg9 f1 f2 f9 = canR arg1 arg2 arg9 f1 f2 f9 33 := by
  unfold bodyRun.sl.H13_33 bodyRun.sl.r_141 bodyRun.sl.r_143
  rw [H13_32_eq]
  rfl
theorem H13_34_eq : bodyRun.sl.H13_34 arg1 arg2 arg9 f1 f2 f9 = canR arg1 arg2 arg9 f1 f2 f9 34 := by
  unfold bodyRun.sl.H13_34 bodyRun.sl.r_137
  rw [H13_33_eq, r_140_eq]
  rfl
theorem H13_35_eq : bodyRun.sl.H13_35 arg1 arg2 arg9 f1 f2 f9 = canR arg1 arg2 arg9 f1 f2 f9 35 := by
  unfold bodyRun.sl.H13_35 bodyRun.sl.r_137 bodyRun.sl.r_149
  rw [H13_34_eq, r_144_eq]
  rfl
theorem H13_36_eq : bodyRun.sl.H13_36 arg1 arg2 arg9 f1 f2 f9 = canR arg1 arg2 arg9 f1 f2 f9 36 := by
  unfold bodyRun.sl.H13_36 bodyRun.sl.r_137
  rw [H13_35_eq, r_148_eq]
  rfl
theorem H13_37_eq : bodyRun.sl.H13_37 arg1 arg2 arg9 f1 f2 f9 = canR arg1 arg2 arg9 f1 f2 f9 37 := by
  unfold bodyRun.sl.H13_37 bodyRun.sl.r_137
  rw [H13_36_eq, r_152_eq]
  rfl
theorem H13_38_eq : bodyRun.sl.H13_38 arg1 arg2 arg9 f1 f2 f9 = canR arg1 arg2 arg9 f1 f2 f9 38 := by
  unfold bodyRun.sl.H13_38 bodyRun.sl.r_163 bodyRun.sl.r_137
  rw [H13_37_eq, r_156_eq]
  rfl
theorem H13_39_eq : bodyRun.sl.H13_39 arg1 arg2 arg9 f1 f2 f9 = canR arg1 arg2 arg9 f1 f2 f9 39 := by
  unfold bodyRun.sl.H13_39 bodyRun.sl.r_137
  rw [H13_38_eq, r_160_eq]
  rfl
theorem H13_40_eq : bodyRun.sl.H13_40 arg1 arg2 arg9 f1 f2 f9 = canR arg1 arg2 arg9 f1 f2 f9 40 := by
  unfold bodyRun.sl.H13_40 bodyRun.sl.r_137 bodyRun.sl.r_170 bodyRun.sl.r_172
  rw [H13_39_eq, r_166_eq]
  rfl
theorem H13_41_eq : bodyRun.sl.H13_41 arg1 arg2 arg9 f1 f2 f9 = canR arg1 arg2 arg9 f1 f2 f9 41 := by
  unfold bodyRun.sl.H13_41 bodyRun.sl.r_137
  rw [H13_40_eq, r_169_eq]
  rfl
theorem H13_42_eq : bodyRun.sl.H13_42 arg1 arg2 arg9 f1 f2 f9 = canR arg1 arg2 arg9 f1 f2 f9 42 := by
  unfold bodyRun.sl.H13_42 bodyRun.sl.r_137
  rw [H13_41_eq, r_178_eq]
  rfl
theorem H13_43_eq : bodyRun.sl.H13_43 arg1 arg2 arg9 f1 f2 f9 = canR arg1 arg2 arg9 f1 f2 f9 43 := by
  unfold bodyRun.sl.H13_43 bodyRun.sl.r_137
  rw [H13_42_eq, r_178_eq]
  rfl
theorem H13_44_eq : bodyRun.sl.H13_44 arg1 arg2 arg9 f1 f2 f9 = canR arg1 arg2 arg9 f1 f2 f9 44 := by
  unfold bodyRun.sl.H13_44 bodyRun.sl.r_137
  rw [H13_43_eq, r_181_eq]
  rfl
theorem H13_45_eq : bodyRun.sl.H13_45 arg1 arg2 arg9 f1 f2 f9 = canR arg1 arg2 arg9 f1 f2 f9 45 := by
  unfold bodyRun.sl.H13_45 bodyRun.sl.r_190 bodyRun.sl.r_192 bodyRun.sl.r_137
  rw [H13_44_eq, r_185_eq]
  rfl
theorem H13_46_eq : bodyRun.sl.H13_46 arg1 arg2 arg9 f1 f2 f9 = canR arg1 arg2 arg9 f1 f2 f9 46 := by
  unfold bodyRun.sl.H13_46 bodyRun.sl.r_137
  rw [H13_45_eq, r_189_eq]
  rfl
theorem H13_47_eq : bodyRun.sl.H13_47 arg1 arg2 arg9 f1 f2 f9 = canR arg1 arg2 arg9 f1 f2 f9 47 := by
  unfold bodyRun.sl.H13_47 bodyRun.sl.r_137 bodyRun.sl.r_198
  rw [H13_46_eq, r_193_eq]
  rfl
theorem H13_48_eq : bodyRun.sl.H13_48 arg1 arg2 arg9 f1 f2 f9 = canR arg1 arg2 arg9 f1 f2 f9 48 := by
  unfold bodyRun.sl.H13_48 bodyRun.sl.r_137
  rw [H13_47_eq, r_197_eq]
  rfl
theorem H13_49_eq : bodyRun.sl.H13_49 arg1 arg2 arg9 f1 f2 f9 = canR arg1 arg2 arg9 f1 f2 f9 49 := by
  unfold bodyRun.sl.H13_49 bodyRun.sl.r_137
  rw [H13_48_eq, r_201_eq]
  rfl
theorem H13_50_eq : bodyRun.sl.H13_50 arg1 arg2 arg9 f1 f2 f9 = canR arg1 arg2 arg9 f1 f2 f9 50 := by
  unfold bodyRun.sl.H13_50 bodyRun.sl.r_212 bodyRun.sl.r_137
  rw [H13_49_eq, r_205_eq]
  rfl
theorem H13_51_eq : bodyRun.sl.H13_51 arg1 arg2 arg9 f1 f2 f9 = canR arg1 arg2 arg9 f1 f2 f9 51 := by
  unfold bodyRun.sl.H13_51 bodyRun.sl.r_137
  rw [H13_50_eq, r_209_eq]
  rfl
theorem H13_52_eq : bodyRun.sl.H13_52 arg1 arg2 arg9 f1 f2 f9 = canR arg1 arg2 arg9 f1 f2 f9 52 := by
  unfold bodyRun.sl.H13_52 bodyRun.sl.r_137 bodyRun.sl.r_219 bodyRun.sl.r_221
  rw [H13_51_eq, r_215_eq]
  rfl
theorem H13_53_eq : bodyRun.sl.H13_53 arg1 arg2 arg9 f1 f2 f9 = canR arg1 arg2 arg9 f1 f2 f9 53 := by
  unfold bodyRun.sl.H13_53 bodyRun.sl.r_137
  rw [H13_52_eq, r_218_eq]
  rfl
theorem H13_54_eq : bodyRun.sl.H13_54 arg1 arg2 arg9 f1 f2 f9 = canR arg1 arg2 arg9 f1 f2 f9 54 := by
  unfold bodyRun.sl.H13_54 bodyRun.sl.r_137
  rw [H13_53_eq, r_227_eq]
  rfl
theorem H13_55_eq : bodyRun.sl.H13_55 arg1 arg2 arg9 f1 f2 f9 = canR arg1 arg2 arg9 f1 f2 f9 55 := by
  unfold bodyRun.sl.H13_55 bodyRun.sl.r_137
  rw [H13_54_eq, r_227_eq]
  rfl
theorem H13_56_eq : bodyRun.sl.H13_56 arg1 arg2 arg9 f1 f2 f9 = canR arg1 arg2 arg9 f1 f2 f9 56 := by
  unfold bodyRun.sl.H13_56 bodyRun.sl.r_137
  rw [H13_55_eq, r_230_eq]
  rfl
theorem H13_57_eq : bodyRun.sl.H13_57 arg1 arg2 arg9 f1 f2 f9 = canR arg1 arg2 arg9 f1 f2 f9 57 := by
  unfold bodyRun.sl.H13_57 bodyRun.sl.r_239 bodyRun.sl.r_241 bodyRun.sl.r_137
  rw [H13_56_eq, r_234_eq]
  rfl
theorem H13_58_eq : bodyRun.sl.H13_58 arg1 arg2 arg9 f1 f2 f9 = canR arg1 arg2 arg9 f1 f2 f9 58 := by
  unfold bodyRun.sl.H13_58 bodyRun.sl.r_137
  rw [H13_57_eq, r_238_eq]
  rfl
theorem H13_59_eq : bodyRun.sl.H13_59 arg1 arg2 arg9 f1 f2 f9 = canR arg1 arg2 arg9 f1 f2 f9 59 := by
  unfold bodyRun.sl.H13_59 bodyRun.sl.r_137 bodyRun.sl.r_247
  rw [H13_58_eq, r_242_eq]
  rfl
theorem H13_60_eq : bodyRun.sl.H13_60 arg1 arg2 arg9 f1 f2 f9 = canR arg1 arg2 arg9 f1 f2 f9 60 := by
  unfold bodyRun.sl.H13_60 bodyRun.sl.r_137
  rw [H13_59_eq, r_246_eq]
  rfl
theorem H13_61_eq : bodyRun.sl.H13_61 arg1 arg2 arg9 f1 f2 f9 = canR arg1 arg2 arg9 f1 f2 f9 61 := by
  unfold bodyRun.sl.H13_61 bodyRun.sl.r_137
  rw [H13_60_eq, r_250_eq]
  rfl
theorem H13_62_eq : bodyRun.sl.H13_62 arg1 arg2 arg9 f1 f2 f9 = canR arg1 arg2 arg9 f1 f2 f9 62 := by
  unfold bodyRun.sl.H13_62 bodyRun.sl.r_261 bodyRun.sl.r_137
  rw [H13_61_eq, r_254_eq]
  rfl
theorem H13_63_eq : bodyRun.sl.H13_63 arg1 arg2 arg9 f1 f2 f9 = canR arg1 arg2 arg9 f1 f2 f9 63 := by
  unfold bodyRun.sl.H13_63 bodyRun.sl.r_137
  rw [H13_62_eq, r_258_eq]
  rfl
theorem H13_64_eq : bodyRun.sl.H13_64 arg1 arg2 arg9 f1 f2 f9 = canR arg1 arg2 arg9 f1 f2 f9 64 := by
  unfold bodyRun.sl.H13_64 bodyRun.sl.r_137 bodyRun.sl.r_267 bodyRun.sl.r_269
  rw [H13_63_eq, r_264_eq]
  rfl
theorem H13_65_eq : bodyRun.sl.H13_65 arg1 arg2 arg9 f1 f2 f9 = canR arg1 arg2 arg9 f1 f2 f9 65 := by
  unfold bodyRun.sl.H13_65 bodyRun.sl.r_271 bodyRun.sl.r_275
  rw [H13_64_eq]
  rfl
theorem H13_66_eq : bodyRun.sl.H13_66 arg1 arg2 arg9 f1 f2 f9 = canR arg1 arg2 arg9 f1 f2 f9 66 := by
  unfold bodyRun.sl.H13_66 bodyRun.sl.r_271
  rw [H13_65_eq, r_274_eq]
  rfl
theorem H13_67_eq : bodyRun.sl.H13_67 arg1 arg2 arg9 f1 f2 f9 = canR arg1 arg2 arg9 f1 f2 f9 67 := by
  unfold bodyRun.sl.H13_67 bodyRun.sl.r_271
  rw [H13_66_eq, r_278_eq]
  rfl
theorem H13_68_eq : bodyRun.sl.H13_68 arg1 arg2 arg9 f1 f2 f9 = canR arg1 arg2 arg9 f1 f2 f9 68 := by
  unfold bodyRun.sl.H13_68 bodyRun.sl.r_289 bodyRun.sl.r_271
  rw [H13_67_eq, r_283_eq]
  rfl
theorem H13_69_eq : bodyRun.sl.H13_69 arg1 arg2 arg9 f1 f2 f9 = canR arg1 arg2 arg9 f1 f2 f9 69 := by
  unfold bodyRun.sl.H13_69 bodyRun.sl.r_271
  rw [H13_68_eq, r_286_eq]
  rfl
theorem H13_70_eq : bodyRun.sl.H13_70 arg1 arg2 arg9 f1 f2 f9 = canR arg1 arg2 arg9 f1 f2 f9 70 := by
  unfold bodyRun.sl.H13_70 bodyRun.sl.r_271 bodyRun.sl.r_296 bodyRun.sl.r_298
  rw [H13_69_eq, r_291_eq]
  rfl
theorem H13_71_eq : bodyRun.sl.H13_71 arg1 arg2 arg9 f1 f2 f9 = canR arg1 arg2 arg9 f1 f2 f9 71 := by
  unfold bodyRun.sl.H13_71 bodyRun.sl.r_271
  rw [H13_70_eq, r_295_eq]
  rfl
theorem H13_72_eq : bodyRun.sl.H13_72 arg1 arg2 arg9 f1 f2 f9 = canR arg1 arg2 arg9 f1 f2 f9 72 := by
  unfold bodyRun.sl.H13_72 bodyRun.sl.r_271 bodyRun.sl.r_304
  rw [H13_71_eq, r_299_eq]
  rfl
theorem H13_73_eq : bodyRun.sl.H13_73 arg1 arg2 arg9 f1 f2 f9 = canR arg1 arg2 arg9 f1 f2 f9 73 := by
  unfold bodyRun.sl.H13_73 bodyRun.sl.r_271
  rw [H13_72_eq, r_303_eq]
  rfl
theorem H13_74_eq : bodyRun.sl.H13_74 arg1 arg2 arg9 f1 f2 f9 = canR arg1 arg2 arg9 f1 f2 f9 74 := by
  unfold bodyRun.sl.H13_74 bodyRun.sl.r_271
  rw [H13_73_eq, r_307_eq]
  rfl
theorem H13_75_eq : bodyRun.sl.H13_75 arg1 arg2 arg9 f1 f2 f9 = canR arg1 arg2 arg9 f1 f2 f9 75 := by
  unfold bodyRun.sl.H13_75 bodyRun.sl.r_318 bodyRun.sl.r_271
  rw [H13_74_eq, r_311_eq]
  rfl
theorem H13_76_eq : bodyRun.sl.H13_76 arg1 arg2 arg9 f1 f2 f9 = canR arg1 arg2 arg9 f1 f2 f9 76 := by
  unfold bodyRun.sl.H13_76 bodyRun.sl.r_271
  rw [H13_75_eq, r_315_eq]
  rfl
theorem H13_77_eq : bodyRun.sl.H13_77 arg1 arg2 arg9 f1 f2 f9 = canR arg1 arg2 arg9 f1 f2 f9 77 := by
  unfold bodyRun.sl.H13_77 bodyRun.sl.r_271 bodyRun.sl.r_324
  rw [H13_76_eq, r_320_eq]
  rfl
theorem H13_78_eq : bodyRun.sl.H13_78 arg1 arg2 arg9 f1 f2 f9 = canR arg1 arg2 arg9 f1 f2 f9 78 := by
  unfold bodyRun.sl.H13_78 bodyRun.sl.r_271
  rw [H13_77_eq, r_323_eq]
  rfl
theorem H13_79_eq : bodyRun.sl.H13_79 arg1 arg2 arg9 f1 f2 f9 = canR arg1 arg2 arg9 f1 f2 f9 79 := by
  unfold bodyRun.sl.H13_79 bodyRun.sl.r_271
  rw [H13_78_eq, r_327_eq]
  rfl
theorem H13_80_eq : bodyRun.sl.H13_80 arg1 arg2 arg9 f1 f2 f9 = canR arg1 arg2 arg9 f1 f2 f9 80 := by
  unfold bodyRun.sl.H13_80 bodyRun.sl.r_338 bodyRun.sl.r_271
  rw [H13_79_eq, r_332_eq]
  rfl
theorem H13_81_eq : bodyRun.sl.H13_81 arg1 arg2 arg9 f1 f2 f9 = canR arg1 arg2 arg9 f1 f2 f9 81 := by
  unfold bodyRun.sl.H13_81 bodyRun.sl.r_271
  rw [H13_80_eq, r_335_eq]
  rfl
theorem H13_82_eq : bodyRun.sl.H13_82 arg1 arg2 arg9 f1 f2 f9 = canR arg1 arg2 arg9 f1 f2 f9 82 := by
  unfold bodyRun.sl.H13_82 bodyRun.sl.r_271 bodyRun.sl.r_345 bodyRun.sl.r_347
  rw [H13_81_eq, r_340_eq]
  rfl
theorem H13_83_eq : bodyRun.sl.H13_83 arg1 arg2 arg9 f1 f2 f9 = canR arg1 arg2 arg9 f1 f2 f9 83 := by
  unfold bodyRun.sl.H13_83 bodyRun.sl.r_271
  rw [H13_82_eq, r_344_eq]
  rfl
theorem H13_84_eq : bodyRun.sl.H13_84 arg1 arg2 arg9 f1 f2 f9 = canR arg1 arg2 arg9 f1 f2 f9 84 := by
  unfold bodyRun.sl.H13_84 bodyRun.sl.r_271 bodyRun.sl.r_353
  rw [H13_83_eq, r_348_eq]
  rfl
theorem H13_85_eq : bodyRun.sl.H13_85 arg1 arg2 arg9 f1 f2 f9 = canR arg1 arg2 arg9 f1 f2 f9 85 := by
  unfold bodyRun.sl.H13_85 bodyRun.sl.r_271
  rw [H13_84_eq, r_352_eq]
  rfl
theorem H13_86_eq : bodyRun.sl.H13_86 arg1 arg2 arg9 f1 f2 f9 = canR arg1 arg2 arg9 f1 f2 f9 86 := by
  unfold bodyRun.sl.H13_86 bodyRun.sl.r_271
  rw [H13_85_eq, r_356_eq]
  rfl
theorem H13_87_eq : bodyRun.sl.H13_87 arg1 arg2 arg9 f1 f2 f9 = canR arg1 arg2 arg9 f1 f2 f9 87 := by
  unfold bodyRun.sl.H13_87 bodyRun.sl.r_367 bodyRun.sl.r_271
  rw [H13_86_eq, r_360_eq]
  rfl
theorem H13_88_eq : bodyRun.sl.H13_88 arg1 arg2 arg9 f1 f2 f9 = canR arg1 arg2 arg9 f1 f2 f9 88 := by
  unfold bodyRun.sl.H13_88 bodyRun.sl.r_271
  rw [H13_87_eq, r_364_eq]
  rfl
theorem H13_89_eq : bodyRun.sl.H13_89 arg1 arg2 arg9 f1 f2 f9 = canR arg1 arg2 arg9 f1 f2 f9 89 := by
  unfold bodyRun.sl.H13_89 bodyRun.sl.r_271 bodyRun.sl.r_373
  rw [H13_88_eq, r_369_eq]
  rfl
theorem H13_90_eq : bodyRun.sl.H13_90 arg1 arg2 arg9 f1 f2 f9 = canR arg1 arg2 arg9 f1 f2 f9 90 := by
  unfold bodyRun.sl.H13_90 bodyRun.sl.r_271
  rw [H13_89_eq, r_372_eq]
  rfl
theorem H13_91_eq : bodyRun.sl.H13_91 arg1 arg2 arg9 f1 f2 f9 = canR arg1 arg2 arg9 f1 f2 f9 91 := by
  unfold bodyRun.sl.H13_91 bodyRun.sl.r_271
  rw [H13_90_eq, r_376_eq]
  rfl
theorem H13_92_eq : bodyRun.sl.H13_92 arg1 arg2 arg9 f1 f2 f9 = canR arg1 arg2 arg9 f1 f2 f9 92 := by
  unfold bodyRun.sl.H13_92 bodyRun.sl.r_387 bodyRun.sl.r_271
  rw [H13_91_eq, r_381_eq]
  rfl
theorem H13_93_eq : bodyRun.sl.H13_93 arg1 arg2 arg9 f1 f2 f9 = canR arg1 arg2 arg9 f1 f2 f9 93 := by
  unfold bodyRun.sl.H13_93 bodyRun.sl.r_271
  rw [H13_92_eq, r_384_eq]
  rfl
theorem H13_94_eq : bodyRun.sl.H13_94 arg1 arg2 arg9 f1 f2 f9 = canR arg1 arg2 arg9 f1 f2 f9 94 := by
  unfold bodyRun.sl.H13_94 bodyRun.sl.r_271 bodyRun.sl.r_394 bodyRun.sl.r_396
  rw [H13_93_eq, r_389_eq]
  rfl
theorem H13_95_eq : bodyRun.sl.H13_95 arg1 arg2 arg9 f1 f2 f9 = canR arg1 arg2 arg9 f1 f2 f9 95 := by
  unfold bodyRun.sl.H13_95 bodyRun.sl.r_271
  rw [H13_94_eq, r_393_eq]
  rfl
theorem H14_1_eq : bodyRun.sl.H14_1 arg7 f7 = canA arg7 arg9 f7 f9 1 := by
  unfold bodyRun.sl.H14_1
  rfl
theorem H14_2_eq : bodyRun.sl.H14_2 arg7 arg9 f7 f9 = canA arg7 arg9 f7 f9 2 := by
  unfold bodyRun.sl.H14_2 bodyRun.sl.r_10 bodyRun.sl.r_4
  rw [H14_1_eq arg7 arg9 f7 f9]
  rfl
theorem H14_3_eq : bodyRun.sl.H14_3 arg7 arg9 f7 f9 = canA arg7 arg9 f7 f9 3 := by
  unfold bodyRun.sl.H14_3 bodyRun.sl.r_8
  rw [H14_2_eq, r_3_eq]
  rfl
theorem H14_4_eq : bodyRun.sl.H14_4 arg7 arg9 f7 f9 = canA arg7 arg9 f7 f9 4 := by
  unfold bodyRun.sl.H14_4 bodyRun.sl.r_12
  rw [H14_3_eq, r_7_eq]
  rfl
theorem H14_5_eq : bodyRun.sl.H14_5 arg7 arg9 f7 f9 = canA arg7 arg9 f7 f9 5 := by
  unfold bodyRun.sl.H14_5 bodyRun.sl.r_17
  rw [H14_4_eq, r_11_eq]
  rfl
theorem H14_6_eq : bodyRun.sl.H14_6 arg7 arg9 f7 f9 = canA arg7 arg9 f7 f9 6 := by
  unfold bodyRun.sl.H14_6 bodyRun.sl.r_21
  rw [H14_5_eq, r_16_eq]
  rfl
theorem H14_7_eq : bodyRun.sl.H14_7 arg7 arg9 f7 f9 = canA arg7 arg9 f7 f9 7 := by
  unfold bodyRun.sl.H14_7 bodyRun.sl.r_31 bodyRun.sl.r_25
  rw [H14_6_eq, r_20_eq]
  rfl
theorem H14_8_eq : bodyRun.sl.H14_8 arg7 arg9 f7 f9 = canA arg7 arg9 f7 f9 8 := by
  unfold bodyRun.sl.H14_8 bodyRun.sl.r_29
  rw [H14_7_eq, r_24_eq]
  rfl
theorem H14_9_eq : bodyRun.sl.H14_9 arg7 arg9 f7 f9 = canA arg7 arg9 f7 f9 9 := by
  unfold bodyRun.sl.H14_9 bodyRun.sl.r_33
  rw [H14_8_eq, r_28_eq]
  rfl
theorem H14_10_eq : bodyRun.sl.H14_10 arg7 arg9 f7 f9 = canA arg7 arg9 f7 f9 10 := by
  unfold bodyRun.sl.H14_10 bodyRun.sl.r_39
  rw [H14_9_eq, r_32_eq]
  rfl
theorem H14_11_eq : bodyRun.sl.H14_11 arg7 arg9 f7 f9 = canA arg7 arg9 f7 f9 11 := by
  unfold bodyRun.sl.H14_11 bodyRun.sl.r_42
  rw [H14_10_eq, r_38_eq]
  rfl
theorem H14_12_eq : bodyRun.sl.H14_12 arg7 arg9 f7 f9 = canA arg7 arg9 f7 f9 12 := by
  unfold bodyRun.sl.H14_12 bodyRun.sl.r_46
  rw [H14_11_eq, r_41_eq]
  rfl
theorem H14_13_eq : bodyRun.sl.H14_13 arg7 arg9 f7 f9 = canA arg7 arg9 f7 f9 13 := by
  unfold bodyRun.sl.H14_13 bodyRun.sl.r_51 bodyRun.sl.r_49
  rw [H14_12_eq, r_45_eq]
  rfl
theorem H14_14_eq : bodyRun.sl.H14_14 arg7 arg9 f7 f9 = canA arg7 arg9 f7 f9 14 := by
  unfold bodyRun.sl.H14_14 bodyRun.sl.r_60 bodyRun.sl.r_54
  rw [H14_13_eq, r_50_eq]
  rfl
theorem H14_15_eq : bodyRun.sl.H14_15 arg7 arg9 f7 f9 = canA arg7 arg9 f7 f9 15 := by
  unfold bodyRun.sl.H14_15 bodyRun.sl.r_58
  rw [H14_14_eq, r_53_eq]
  rfl
theorem H14_16_eq : bodyRun.sl.H14_16 arg7 arg9 f7 f9 = canA arg7 arg9 f7 f9 16 := by
  unfold bodyRun.sl.H14_16 bodyRun.sl.r_62
  rw [H14_15_eq, r_57_eq]
  rfl
theorem H14_17_eq : bodyRun.sl.H14_17 arg7 arg9 f7 f9 = canA arg7 arg9 f7 f9 17 := by
  unfold bodyRun.sl.H14_17 bodyRun.sl.r_67
  rw [H14_16_eq, r_61_eq]
  rfl
theorem H14_18_eq : bodyRun.sl.H14_18 arg7 arg9 f7 f9 = canA arg7 arg9 f7 f9 18 := by
  unfold bodyRun.sl.H14_18 bodyRun.sl.r_71
  rw [H14_17_eq, r_66_eq]
  rfl
theorem H14_19_eq : bodyRun.sl.H14_19 arg7 arg9 f7 f9 = canA arg7 arg9 f7 f9 19 := by
  unfold bodyRun.sl.H14_19 bodyRun.sl.r_81 bodyRun.sl.r_75
  rw [H14_18_eq, r_70_eq]
  rfl
theorem H14_20_eq : bodyRun.sl.H14_20 arg7 arg9 f7 f9 = canA arg7 arg9 f7 f9 20 := by
  unfold bodyRun.sl.H14_20 bodyRun.sl.r_79
  rw [H14_19_eq, r_74_eq]
  rfl
theorem H14_21_eq : bodyRun.sl.H14_21 arg7 arg9 f7 f9 = canA arg7 arg9 f7 f9 21 := by
  unfold bodyRun.sl.H14_21 bodyRun.sl.r_83
  rw [H14_20_eq, r_78_eq]
  rfl
theorem H14_22_eq : bodyRun.sl.H14_22 arg7 arg9 f7 f9 = canA arg7 arg9 f7 f9 22 := by
  unfold bodyRun.sl.H14_22 bodyRun.sl.r_89
  rw [H14_21_eq, r_82_eq]
  rfl
theorem H14_23_eq : bodyRun.sl.H14_23 arg7 arg9 f7 f9 = canA arg7 arg9 f7 f9 23 := by
  unfold bodyRun.sl.H14_23 bodyRun.sl.r_92
  rw [H14_22_eq, r_88_eq]
  rfl
theorem H14_24_eq : bodyRun.sl.H14_24 arg7 arg9 f7 f9 = canA arg7 arg9 f7 f9 24 := by
  unfold bodyRun.sl.H14_24 bodyRun.sl.r_96
  rw [H14_23_eq, r_91_eq]
  rfl
theorem H14_25_eq : bodyRun.sl.H14_25 arg7 arg9 f7 f9 = canA arg7 arg9 f7 f9 25 := by
  unfold bodyRun.sl.H14_25 bodyRun.sl.r_101 bodyRun.sl.r_99
  rw [H14_24_eq, r_95_eq]
  rfl
theorem H14_26_eq : bodyRun.sl.H14_26 arg7 arg9 f7 f9 = canA arg7 arg9 f7 f9 26 := by
  unfold bodyRun.sl.H14_26 bodyRun.sl.r_110 bodyRun.sl.r_104
  rw [H14_25_eq, r_100_eq]
  rfl
theorem H14_27_eq : bodyRun.sl.H14_27 arg7 arg9 f7 f9 = canA arg7 arg9 f7 f9 27 := by
  unfold bodyRun.sl.H14_27 bodyRun.sl.r_108
  rw [H14_26_eq, r_103_eq]
  rfl
theorem H14_28_eq : bodyRun.sl.H14_28 arg7 arg9 f7 f9 = canA arg7 arg9 f7 f9 28 := by
  unfold bodyRun.sl.H14_28 bodyRun.sl.r_112
  rw [H14_27_eq, r_107_eq]
  rfl
theorem H14_29_eq : bodyRun.sl.H14_29 arg7 arg9 f7 f9 = canA arg7 arg9 f7 f9 29 := by
  unfold bodyRun.sl.H14_29 bodyRun.sl.r_117
  rw [H14_28_eq, r_111_eq]
  rfl
theorem H14_30_eq : bodyRun.sl.H14_30 arg7 arg9 f7 f9 = canA arg7 arg9 f7 f9 30 := by
  unfold bodyRun.sl.H14_30 bodyRun.sl.r_121
  rw [H14_29_eq, r_116_eq]
  rfl
theorem H14_31_eq : bodyRun.sl.H14_31 arg7 arg9 f7 f9 = canA arg7 arg9 f7 f9 31 := by
  unfold bodyRun.sl.H14_31 bodyRun.sl.r_131 bodyRun.sl.r_125
  rw [H14_30_eq, r_120_eq]
  rfl
theorem H14_32_eq : bodyRun.sl.H14_32 arg7 arg9 f7 f9 = canA arg7 arg9 f7 f9 32 := by
  unfold bodyRun.sl.H14_32 bodyRun.sl.r_129
  rw [H14_31_eq, r_124_eq]
  rfl
theorem H14_33_eq : bodyRun.sl.H14_33 arg7 arg9 f7 f9 = canA arg7 arg9 f7 f9 33 := by
  unfold bodyRun.sl.H14_33
  rw [H14_32_eq]
  rfl
theorem H14_34_eq : bodyRun.sl.H14_34 arg7 arg9 f7 f9 = canA arg7 arg9 f7 f9 34 := by
  unfold bodyRun.sl.H14_34 bodyRun.sl.r_141
  rw [H14_33_eq]
  rfl
theorem H14_35_eq : bodyRun.sl.H14_35 arg7 arg9 f7 f9 = canA arg7 arg9 f7 f9 35 := by
  unfold bodyRun.sl.H14_35 bodyRun.sl.r_145
  rw [H14_34_eq, r_140_eq]
  rfl
theorem H14_36_eq : bodyRun.sl.H14_36 arg7 arg9 f7 f9 = canA arg7 arg9 f7 f9 36 := by
  unfold bodyRun.sl.H14_36 bodyRun.sl.r_149
  rw [H14_35_eq, r_144_eq]
  rfl
theorem H14_37_eq : bodyRun.sl.H14_37 arg7 arg9 f7 f9 = canA arg7 arg9 f7 f9 37 := by
  unfold bodyRun.sl.H14_37 bodyRun.sl.r_159 bodyRun.sl.r_153
  rw [H14_36_eq, r_148_eq]
  rfl
theorem H14_38_eq : bodyRun.sl.H14_38 arg7 arg9 f7 f9 = canA arg7 arg9 f7 f9 38 := by
  unfold bodyRun.sl.H14_38 bodyRun.sl.r_157
  rw [H14_37_eq, r_152_eq]
  rfl
theorem H14_39_eq : bodyRun.sl.H14_39 arg7 arg9 f7 f9 = canA arg7 arg9 f7 f9 39 := by
  unfold bodyRun.sl.H14_39 bodyRun.sl.r_161
  rw [H14_38_eq, r_156_eq]
  rfl
theorem H14_40_eq : bodyRun.sl.H14_40 arg7 arg9 f7 f9 = canA arg7 arg9 f7 f9 40 := by
  unfold bodyRun.sl.H14_40 bodyRun.sl.r_167
  rw [H14_39_eq, r_160_eq]
  rfl
theorem H14_41_eq : bodyRun.sl.H14_41 arg7 arg9 f7 f9 = canA arg7 arg9 f7 f9 41 := by
  unfold bodyRun.sl.H14_41 bodyRun.sl.r_170
  rw [H14_40_eq, r_166_eq]
  rfl
theorem H14_42_eq : bodyRun.sl.H14_42 arg7 arg9 f7 f9 = canA arg7 arg9 f7 f9 42 := by
  unfold bodyRun.sl.H14_42 bodyRun.sl.r_175
  rw [H14_41_eq, r_169_eq]
  rfl
theorem H14_43_eq : bodyRun.sl.H14_43 arg7 arg9 f7 f9 = canA arg7 arg9 f7 f9 43 := by
  unfold bodyRun.sl.H14_43 bodyRun.sl.r_179
  rw [H14_42_eq, r_178_eq]
  rfl
theorem H14_44_eq : bodyRun.sl.H14_44 arg7 arg9 f7 f9 = canA arg7 arg9 f7 f9 44 := by
  unfold bodyRun.sl.H14_44 bodyRun.sl.r_188 bodyRun.sl.r_182
  rw [H14_43_eq, r_178_eq]
  rfl
theorem H14_45_eq : bodyRun.sl.H14_45 arg7 arg9 f7 f9 = canA arg7 arg9 f7 f9 45 := by
  unfold bodyRun.sl.H14_45 bodyRun.sl.r_186
  rw [H14_44_eq, r_181_eq]
  rfl
theorem H14_46_eq : bodyRun.sl.H14_46 arg7 arg9 f7 f9 = canA arg7 arg9 f7 f9 46 := by
  unfold bodyRun.sl.H14_46 bodyRun.sl.r_190
  rw [H14_45_eq, r_185_eq]
  rfl
theorem H14_47_eq : bodyRun.sl.H14_47 arg7 arg9 f7 f9 = canA arg7 arg9 f7 f9 47 := by
  unfold bodyRun.sl.H14_47 bodyRun.sl.r_194
  rw [H14_46_eq, r_189_eq]
  rfl
theorem H14_48_eq : bodyRun.sl.H14_48 arg7 arg9 f7 f9 = canA arg7 arg9 f7 f9 48 := by
  unfold bodyRun.sl.H14_48 bodyRun.sl.r_198
  rw [H14_47_eq, r_193_eq]
  rfl
theorem H14_49_eq : bodyRun.sl.H14_49 arg7 arg9 f7 f9 = canA arg7 arg9 f7 f9 49 := by
  unfold bodyRun.sl.H14_49 bodyRun.sl.r_208 bodyRun.sl.r_202
  rw [H14_48_eq, r_197_eq]
  rfl
theorem H14_50_eq : bodyRun.sl.H14_50 arg7 arg9 f7 f9 = canA arg7 arg9 f7 f9 50 := by
  unfold bodyRun.sl.H14_50 bodyRun.sl.r_206
  rw [H14_49_eq, r_201_eq]
  rfl
theorem H14_51_eq : bodyRun.sl.H14_51 arg7 arg9 f7 f9 = canA arg7 arg9 f7 f9 51 := by
  unfold bodyRun.sl.H14_51 bodyRun.sl.r_210
  rw [H14_50_eq, r_205_eq]
  rfl
theorem H14_52_eq : bodyRun.sl.H14_52 arg7 arg9 f7 f9 = canA arg7 arg9 f7 f9 52 := by
  unfold bodyRun.sl.H14_52 bodyRun.sl.r_216
  rw [H14_51_eq, r_209_eq]
  rfl
theorem H14_53_eq : bodyRun.sl.H14_53 arg7 arg9 f7 f9 = canA arg7 arg9 f7 f9 53 := by
  unfold bodyRun.sl.H14_53 bodyRun.sl.r_219
  rw [H14_52_eq, r_215_eq]
  rfl
theorem H14_54_eq : bodyRun.sl.H14_54 arg7 arg9 f7 f9 = canA arg7 arg9 f7 f9 54 := by
  unfold bodyRun.sl.H14_54 bodyRun.sl.r_224
  rw [H14_53_eq, r_218_eq]
  rfl
theorem H14_55_eq : bodyRun.sl.H14_55 arg7 arg9 f7 f9 = canA arg7 arg9 f7 f9 55 := by
  unfold bodyRun.sl.H14_55 bodyRun.sl.r_228
  rw [H14_54_eq, r_227_eq]
  rfl
theorem H14_56_eq : bodyRun.sl.H14_56 arg7 arg9 f7 f9 = canA arg7 arg9 f7 f9 56 := by
  unfold bodyRun.sl.H14_56 bodyRun.sl.r_237 bodyRun.sl.r_231
  rw [H14_55_eq, r_227_eq]
  rfl
theorem H14_57_eq : bodyRun.sl.H14_57 arg7 arg9 f7 f9 = canA arg7 arg9 f7 f9 57 := by
  unfold bodyRun.sl.H14_57 bodyRun.sl.r_235
  rw [H14_56_eq, r_230_eq]
  rfl
theorem H14_58_eq : bodyRun.sl.H14_58 arg7 arg9 f7 f9 = canA arg7 arg9 f7 f9 58 := by
  unfold bodyRun.sl.H14_58 bodyRun.sl.r_239
  rw [H14_57_eq, r_234_eq]
  rfl
theorem H14_59_eq : bodyRun.sl.H14_59 arg7 arg9 f7 f9 = canA arg7 arg9 f7 f9 59 := by
  unfold bodyRun.sl.H14_59 bodyRun.sl.r_243
  rw [H14_58_eq, r_238_eq]
  rfl
theorem H14_60_eq : bodyRun.sl.H14_60 arg7 arg9 f7 f9 = canA arg7 arg9 f7 f9 60 := by
  unfold bodyRun.sl.H14_60 bodyRun.sl.r_247
  rw [H14_59_eq, r_242_eq]
  rfl
theorem H14_61_eq : bodyRun.sl.H14_61 arg7 arg9 f7 f9 = canA arg7 arg9 f7 f9 61 := by
  unfold bodyRun.sl.H14_61 bodyRun.sl.r_257 bodyRun.sl.r_251
  rw [H14_60_eq, r_246_eq]
  rfl
theorem H14_62_eq : bodyRun.sl.H14_62 arg7 arg9 f7 f9 = canA arg7 arg9 f7 f9 62 := by
  unfold bodyRun.sl.H14_62 bodyRun.sl.r_255
  rw [H14_61_eq, r_250_eq]
  rfl
theorem H14_63_eq : bodyRun.sl.H14_63 arg7 arg9 f7 f9 = canA arg7 arg9 f7 f9 63 := by
  unfold bodyRun.sl.H14_63 bodyRun.sl.r_259
  rw [H14_62_eq, r_254_eq]
  rfl
theorem H14_64_eq : bodyRun.sl.H14_64 arg7 arg9 f7 f9 = canA arg7 arg9 f7 f9 64 := by
  unfold bodyRun.sl.H14_64 bodyRun.sl.r_265
  rw [H14_63_eq, r_258_eq]
  rfl
theorem H14_65_eq : bodyRun.sl.H14_65 arg7 arg9 f7 f9 = canA arg7 arg9 f7 f9 65 := by
  unfold bodyRun.sl.H14_65
  rw [H14_64_eq]
  rfl
theorem H14_66_eq : bodyRun.sl.H14_66 arg7 arg9 f7 f9 = canA arg7 arg9 f7 f9 66 := by
  unfold bodyRun.sl.H14_66 bodyRun.sl.r_275
  rw [H14_65_eq]
  rfl
theorem H14_67_eq : bodyRun.sl.H14_67 arg7 arg9 f7 f9 = canA arg7 arg9 f7 f9 67 := by
  unfold bodyRun.sl.H14_67 bodyRun.sl.r_279
  rw [H14_66_eq, r_274_eq]
  rfl
theorem H14_68_eq : bodyRun.sl.H14_68 arg7 arg9 f7 f9 = canA arg7 arg9 f7 f9 68 := by
  unfold bodyRun.sl.H14_68 bodyRun.sl.r_284
  rw [H14_67_eq, r_278_eq]
  rfl
theorem H14_69_eq : bodyRun.sl.H14_69 arg7 arg9 f7 f9 = canA arg7 arg9 f7 f9 69 := by
  unfold bodyRun.sl.H14_69 bodyRun.sl.r_287 bodyRun.sl.r_294
  rw [H14_68_eq, r_283_eq]
  rfl
theorem H14_70_eq : bodyRun.sl.H14_70 arg7 arg9 f7 f9 = canA arg7 arg9 f7 f9 70 := by
  unfold bodyRun.sl.H14_70 bodyRun.sl.r_292
  rw [H14_69_eq, r_286_eq]
  rfl
theorem H14_71_eq : bodyRun.sl.H14_71 arg7 arg9 f7 f9 = canA arg7 arg9 f7 f9 71 := by
  unfold bodyRun.sl.H14_71 bodyRun.sl.r_296
  rw [H14_70_eq, r_291_eq]
  rfl
theorem H14_72_eq : bodyRun.sl.H14_72 arg7 arg9 f7 f9 = canA arg7 arg9 f7 f9 72 := by
  unfold bodyRun.sl.H14_72 bodyRun.sl.r_300
  rw [H14_71_eq, r_295_eq]
  rfl
theorem H14_73_eq : bodyRun.sl.H14_73 arg7 arg9 f7 f9 = canA arg7 arg9 f7 f9 73 := by
  unfold bodyRun.sl.H14_73 bodyRun.sl.r_304
  rw [H14_72_eq, r_299_eq]
  rfl
theorem H14_74_eq : bodyRun.sl.H14_74 arg7 arg9 f7 f9 = canA arg7 arg9 f7 f9 74 := by
  unfold bodyRun.sl.H14_74 bodyRun.sl.r_314 bodyRun.sl.r_308
  rw [H14_73_eq, r_303_eq]
  rfl
theorem H14_75_eq : bodyRun.sl.H14_75 arg7 arg9 f7 f9 = canA arg7 arg9 f7 f9 75 := by
  unfold bodyRun.sl.H14_75 bodyRun.sl.r_312
  rw [H14_74_eq, r_307_eq]
  rfl
theorem H14_76_eq : bodyRun.sl.H14_76 arg7 arg9 f7 f9 = canA arg7 arg9 f7 f9 76 := by
  unfold bodyRun.sl.H14_76 bodyRun.sl.r_316
  rw [H14_75_eq, r_311_eq]
  rfl
theorem H14_77_eq : bodyRun.sl.H14_77 arg7 arg9 f7 f9 = canA arg7 arg9 f7 f9 77 := by
  unfold bodyRun.sl.H14_77 bodyRun.sl.r_321
  rw [H14_76_eq, r_315_eq]
  rfl
theorem H14_78_eq : bodyRun.sl.H14_78 arg7 arg9 f7 f9 = canA arg7 arg9 f7 f9 78 := by
  unfold bodyRun.sl.H14_78 bodyRun.sl.r_324
  rw [H14_77_eq, r_320_eq]
  rfl
theorem H14_79_eq : bodyRun.sl.H14_79 arg7 arg9 f7 f9 = canA arg7 arg9 f7 f9 79 := by
  unfold bodyRun.sl.H14_79 bodyRun.sl.r_328
  rw [H14_78_eq, r_323_eq]
  rfl
theorem H14_80_eq : bodyRun.sl.H14_80 arg7 arg9 f7 f9 = canA arg7 arg9 f7 f9 80 := by
  unfold bodyRun.sl.H14_80 bodyRun.sl.r_333
  rw [H14_79_eq, r_327_eq]
  rfl
theorem H14_81_eq : bodyRun.sl.H14_81 arg7 arg9 f7 f9 = canA arg7 arg9 f7 f9 81 := by
  unfold bodyRun.sl.H14_81 bodyRun.sl.r_336 bodyRun.sl.r_343
  rw [H14_80_eq, r_332_eq]
  rfl
theorem H14_82_eq : bodyRun.sl.H14_82 arg7 arg9 f7 f9 = canA arg7 arg9 f7 f9 82 := by
  unfold bodyRun.sl.H14_82 bodyRun.sl.r_341
  rw [H14_81_eq, r_335_eq]
  rfl
theorem H14_83_eq : bodyRun.sl.H14_83 arg7 arg9 f7 f9 = canA arg7 arg9 f7 f9 83 := by
  unfold bodyRun.sl.H14_83 bodyRun.sl.r_345
  rw [H14_82_eq, r_340_eq]
  rfl
theorem H14_84_eq : bodyRun.sl.H14_84 arg7 arg9 f7 f9 = canA arg7 arg9 f7 f9 84 := by
  unfold bodyRun.sl.H14_84 bodyRun.sl.r_349
  rw [H14_83_eq, r_344_eq]
  rfl
theorem H14_85_eq : bodyRun.sl.H14_85 arg7 arg9 f7 f9 = canA arg7 arg9 f7 f9 85 := by
  unfold bodyRun.sl.H14_85 bodyRun.sl.r_353
  rw [H14_84_eq, r_348_eq]
  rfl
theorem H14_86_eq : bodyRun.sl.H14_86 arg7 arg9 f7 f9 = canA arg7 arg9 f7 f9 86 := by
  unfold bodyRun.sl.H14_86 bodyRun.sl.r_363 bodyRun.sl.r_357
  rw [H14_85_eq, r_352_eq]
  rfl
theorem H14_87_eq : bodyRun.sl.H14_87 arg7 arg9 f7 f9 = canA arg7 arg9 f7 f9 87 := by
  unfold bodyRun.sl.H14_87 bodyRun.sl.r_361
  rw [H14_86_eq, r_356_eq]
  rfl
theorem H14_88_eq : bodyRun.sl.H14_88 arg7 arg9 f7 f9 = canA arg7 arg9 f7 f9 88 := by
  unfold bodyRun.sl.H14_88 bodyRun.sl.r_365
  rw [H14_87_eq, r_360_eq]
  rfl
theorem H14_89_eq : bodyRun.sl.H14_89 arg7 arg9 f7 f9 = canA arg7 arg9 f7 f9 89 := by
  unfold bodyRun.sl.H14_89 bodyRun.sl.r_370
  rw [H14_88_eq, r_364_eq]
  rfl
theorem H14_90_eq : bodyRun.sl.H14_90 arg7 arg9 f7 f9 = canA arg7 arg9 f7 f9 90 := by
  unfold bodyRun.sl.H14_90 bodyRun.sl.r_373
  rw [H14_89_eq, r_369_eq]
  rfl
theorem H14_91_eq : bodyRun.sl.H14_91 arg7 arg9 f7 f9 = canA arg7 arg9 f7 f9 91 := by
  unfold bodyRun.sl.H14_91 bodyRun.sl.r_377
  rw [H14_90_eq, r_372_eq]
  rfl
theorem H14_92_eq : bodyRun.sl.H14_92 arg7 arg9 f7 f9 = canA arg7 arg9 f7 f9 92 := by
  unfold bodyRun.sl.H14_92 bodyRun.sl.r_382
  rw [H14_91_eq, r_376_eq]
  rfl
theorem H14_93_eq : bodyRun.sl.H14_93 arg7 arg9 f7 f9 = canA arg7 arg9 f7 f9 93 := by
  unfold bodyRun.sl.H14_93 bodyRun.sl.r_385 bodyRun.sl.r_392
  rw [H14_92_eq, r_381_eq]
  rfl
theorem H14_94_eq : bodyRun.sl.H14_94 arg7 arg9 f7 f9 = canA arg7 arg9 f7 f9 94 := by
  unfold bodyRun.sl.H14_94 bodyRun.sl.r_390
  rw [H14_93_eq, r_384_eq]
  rfl
theorem H14_95_eq : bodyRun.sl.H14_95 arg7 arg9 f7 f9 = canA arg7 arg9 f7 f9 95 := by
  unfold bodyRun.sl.H14_95 bodyRun.sl.r_394
  rw [H14_94_eq, r_389_eq]
  rfl
theorem H15_1_eq : bodyRun.sl.H15_1 arg3 arg4 arg9 f3 f4 f9 = canK arg3 arg4 arg9 f3 f4 f9 1 := by
  unfold bodyRun.sl.H15_1 bodyRun.sl.r_1 bodyRun.sl.r_5
  rfl
theorem H15_2_eq : bodyRun.sl.H15_2 arg3 arg4 arg9 f3 f4 f9 = canK arg3 arg4 arg9 f3 f4 f9 2 := by
  unfold bodyRun.sl.H15_2 bodyRun.sl.r_1
  rw [H15_1_eq, r_3_eq]
  rfl
theorem H15_3_eq : bodyRun.sl.H15_3 arg3 arg4 arg9 f3 f4 f9 = canK arg3 arg4 arg9 f3 f4 f9 3 := by
  unfold bodyRun.sl.H15_3 bodyRun.sl.r_1 bodyRun.sl.r_13
  rw [H15_2_eq, r_7_eq]
  rfl
theorem H15_4_eq : bodyRun.sl.H15_4 arg3 arg4 arg9 f3 f4 f9 = canK arg3 arg4 arg9 f3 f4 f9 4 := by
  unfold bodyRun.sl.H15_4 bodyRun.sl.r_19 bodyRun.sl.r_1
  rw [H15_3_eq, r_11_eq]
  rfl
theorem H15_5_eq : bodyRun.sl.H15_5 arg3 arg4 arg9 f3 f4 f9 = canK arg3 arg4 arg9 f3 f4 f9 5 := by
  unfold bodyRun.sl.H15_5 bodyRun.sl.r_1 bodyRun.sl.r_22
  rw [H15_4_eq, r_16_eq]
  rfl
theorem H15_6_eq : bodyRun.sl.H15_6 arg3 arg4 arg9 f3 f4 f9 = canK arg3 arg4 arg9 f3 f4 f9 6 := by
  unfold bodyRun.sl.H15_6 bodyRun.sl.r_1 bodyRun.sl.r_26 bodyRun.sl.r_27
  rw [H15_5_eq, r_20_eq]
  rfl
theorem H15_7_eq : bodyRun.sl.H15_7 arg3 arg4 arg9 f3 f4 f9 = canK arg3 arg4 arg9 f3 f4 f9 7 := by
  unfold bodyRun.sl.H15_7 bodyRun.sl.r_1
  rw [H15_6_eq, r_24_eq]
  rfl
theorem H15_8_eq : bodyRun.sl.H15_8 arg3 arg4 arg9 f3 f4 f9 = canK arg3 arg4 arg9 f3 f4 f9 8 := by
  unfold bodyRun.sl.H15_8 bodyRun.sl.r_1 bodyRun.sl.r_34
  rw [H15_7_eq, r_28_eq]
  rfl
theorem H15_9_eq : bodyRun.sl.H15_9 arg3 arg4 arg9 f3 f4 f9 = canK arg3 arg4 arg9 f3 f4 f9 9 := by
  unfold bodyRun.sl.H15_9 bodyRun.sl.r_1
  rw [H15_8_eq, r_32_eq]
  rfl
theorem H15_10_eq : bodyRun.sl.H15_10 arg3 arg4 arg9 f3 f4 f9 = canK arg3 arg4 arg9 f3 f4 f9 10 := by
  unfold bodyRun.sl.H15_10 bodyRun.sl.r_1 bodyRun.sl.r_43
  rw [H15_9_eq, r_38_eq]
  rfl
theorem H15_11_eq : bodyRun.sl.H15_11 arg3 arg4 arg9 f3 f4 f9 = canK arg3 arg4 arg9 f3 f4 f9 11 := by
  unfold bodyRun.sl.H15_11 bodyRun.sl.r_48 bodyRun.sl.r_1
  rw [H15_10_eq, r_41_eq]
  rfl
theorem H15_12_eq : bodyRun.sl.H15_12 arg3 arg4 arg9 f3 f4 f9 = canK arg3 arg4 arg9 f3 f4 f9 12 := by
  unfold bodyRun.sl.H15_12 bodyRun.sl.r_1 bodyRun.sl.r_49
  rw [H15_11_eq, r_45_eq]
  rfl
theorem H15_13_eq : bodyRun.sl.H15_13 arg3 arg4 arg9 f3 f4 f9 = canK arg3 arg4 arg9 f3 f4 f9 13 := by
  unfold bodyRun.sl.H15_13 bodyRun.sl.r_1 bodyRun.sl.r_55
  rw [H15_12_eq, r_50_eq]
  rfl
theorem H15_14_eq : bodyRun.sl.H15_14 arg3 arg4 arg9 f3 f4 f9 = canK arg3 arg4 arg9 f3 f4 f9 14 := by
  unfold bodyRun.sl.H15_14 bodyRun.sl.r_1
  rw [H15_13_eq, r_53_eq]
  rfl
theorem H15_15_eq : bodyRun.sl.H15_15 arg3 arg4 arg9 f3 f4 f9 = canK arg3 arg4 arg9 f3 f4 f9 15 := by
  unfold bodyRun.sl.H15_15 bodyRun.sl.r_1 bodyRun.sl.r_63
  rw [H15_14_eq, r_57_eq]
  rfl
theorem H15_16_eq : bodyRun.sl.H15_16 arg3 arg4 arg9 f3 f4 f9 = canK arg3 arg4 arg9 f3 f4 f9 16 := by
  unfold bodyRun.sl.H15_16 bodyRun.sl.r_69 bodyRun.sl.r_1
  rw [H15_15_eq, r_61_eq]
  rfl
theorem H15_17_eq : bodyRun.sl.H15_17 arg3 arg4 arg9 f3 f4 f9 = canK arg3 arg4 arg9 f3 f4 f9 17 := by
  unfold bodyRun.sl.H15_17 bodyRun.sl.r_1 bodyRun.sl.r_72
  rw [H15_16_eq, r_66_eq]
  rfl
theorem H15_18_eq : bodyRun.sl.H15_18 arg3 arg4 arg9 f3 f4 f9 = canK arg3 arg4 arg9 f3 f4 f9 18 := by
  unfold bodyRun.sl.H15_18 bodyRun.sl.r_1 bodyRun.sl.r_76 bodyRun.sl.r_77
  rw [H15_17_eq, r_70_eq]
  rfl
theorem H15_19_eq : bodyRun.sl.H15_19 arg3 arg4 arg9 f3 f4 f9 = canK arg3 arg4 arg9 f3 f4 f9 19 := by
  unfold bodyRun.sl.H15_19 bodyRun.sl.r_1
  rw [H15_18_eq, r_74_eq]
  rfl
theorem H15_20_eq : bodyRun.sl.H15_20 arg3 arg4 arg9 f3 f4 f9 = canK arg3 arg4 arg9 f3 f4 f9 20 := by
  unfold bodyRun.sl.H15_20 bodyRun.sl.r_1 bodyRun.sl.r_84
  rw [H15_19_eq, r_78_eq]
  rfl
theorem H15_21_eq : bodyRun.sl.H15_21 arg3 arg4 arg9 f3 f4 f9 = canK arg3 arg4 arg9 f3 f4 f9 21 := by
  unfold bodyRun.sl.H15_21 bodyRun.sl.r_1
  rw [H15_20_eq, r_82_eq]
  rfl
theorem H15_22_eq : bodyRun.sl.H15_22 arg3 arg4 arg9 f3 f4 f9 = canK arg3 arg4 arg9 f3 f4 f9 22 := by
  unfold bodyRun.sl.H15_22 bodyRun.sl.r_1 bodyRun.sl.r_93
  rw [H15_21_eq, r_88_eq]
  rfl
theorem H15_23_eq : bodyRun.sl.H15_23 arg3 arg4 arg9 f3 f4 f9 = canK arg3 arg4 arg9 f3 f4 f9 23 := by
  unfold bodyRun.sl.H15_23 bodyRun.sl.r_98 bodyRun.sl.r_1
  rw [H15_22_eq, r_91_eq]
  rfl
theorem H15_24_eq : bodyRun.sl.H15_24 arg3 arg4 arg9 f3 f4 f9 = canK arg3 arg4 arg9 f3 f4 f9 24 := by
  unfold bodyRun.sl.H15_24 bodyRun.sl.r_1 bodyRun.sl.r_99
  rw [H15_23_eq, r_95_eq]
  rfl
theorem H15_25_eq : bodyRun.sl.H15_25 arg3 arg4 arg9 f3 f4 f9 = canK arg3 arg4 arg9 f3 f4 f9 25 := by
  unfold bodyRun.sl.H15_25 bodyRun.sl.r_1 bodyRun.sl.r_105
  rw [H15_24_eq, r_100_eq]
  rfl
theorem H15_26_eq : bodyRun.sl.H15_26 arg3 arg4 arg9 f3 f4 f9 = canK arg3 arg4 arg9 f3 f4 f9 26 := by
  unfold bodyRun.sl.H15_26 bodyRun.sl.r_1
  rw [H15_25_eq, r_103_eq]
  rfl
theorem H15_27_eq : bodyRun.sl.H15_27 arg3 arg4 arg9 f3 f4 f9 = canK arg3 arg4 arg9 f3 f4 f9 27 := by
  unfold bodyRun.sl.H15_27 bodyRun.sl.r_1 bodyRun.sl.r_113
  rw [H15_26_eq, r_107_eq]
  rfl
theorem H15_28_eq : bodyRun.sl.H15_28 arg3 arg4 arg9 f3 f4 f9 = canK arg3 arg4 arg9 f3 f4 f9 28 := by
  unfold bodyRun.sl.H15_28 bodyRun.sl.r_119 bodyRun.sl.r_1
  rw [H15_27_eq, r_111_eq]
  rfl
theorem H15_29_eq : bodyRun.sl.H15_29 arg3 arg4 arg9 f3 f4 f9 = canK arg3 arg4 arg9 f3 f4 f9 29 := by
  unfold bodyRun.sl.H15_29 bodyRun.sl.r_1 bodyRun.sl.r_122
  rw [H15_28_eq, r_116_eq]
  rfl
theorem H15_30_eq : bodyRun.sl.H15_30 arg3 arg4 arg9 f3 f4 f9 = canK arg3 arg4 arg9 f3 f4 f9 30 := by
  unfold bodyRun.sl.H15_30 bodyRun.sl.r_1 bodyRun.sl.r_126 bodyRun.sl.r_127
  rw [H15_29_eq, r_120_eq]
  rfl
theorem H15_31_eq : bodyRun.sl.H15_31 arg3 arg4 arg9 f3 f4 f9 = canK arg3 arg4 arg9 f3 f4 f9 31 := by
  unfold bodyRun.sl.H15_31 bodyRun.sl.r_1
  rw [H15_30_eq, r_124_eq]
  rfl
theorem H15_32_eq : bodyRun.sl.H15_32 arg3 arg4 arg9 f3 f4 f9 = canK arg3 arg4 arg9 f3 f4 f9 32 := by
  unfold bodyRun.sl.H15_32 bodyRun.sl.r_1 bodyRun.sl.r_133
  rw [H15_31_eq, r_128_eq]
  rfl
theorem H15_33_eq : bodyRun.sl.H15_33 arg3 arg4 arg9 f3 f4 f9 = canK arg3 arg4 arg9 f3 f4 f9 33 := by
  unfold bodyRun.sl.H15_33 bodyRun.sl.r_138 bodyRun.sl.r_142
  rw [H15_32_eq]
  rfl
theorem H15_34_eq : bodyRun.sl.H15_34 arg3 arg4 arg9 f3 f4 f9 = canK arg3 arg4 arg9 f3 f4 f9 34 := by
  unfold bodyRun.sl.H15_34 bodyRun.sl.r_147 bodyRun.sl.r_138
  rw [H15_33_eq, r_140_eq]
  rfl
theorem H15_35_eq : bodyRun.sl.H15_35 arg3 arg4 arg9 f3 f4 f9 = canK arg3 arg4 arg9 f3 f4 f9 35 := by
  unfold bodyRun.sl.H15_35 bodyRun.sl.r_138 bodyRun.sl.r_150
  rw [H15_34_eq, r_144_eq]
  rfl
theorem H15_36_eq : bodyRun.sl.H15_36 arg3 arg4 arg9 f3 f4 f9 = canK arg3 arg4 arg9 f3 f4 f9 36 := by
  unfold bodyRun.sl.H15_36 bodyRun.sl.r_138 bodyRun.sl.r_154 bodyRun.sl.r_155
  rw [H15_35_eq, r_148_eq]
  rfl
theorem H15_37_eq : bodyRun.sl.H15_37 arg3 arg4 arg9 f3 f4 f9 = canK arg3 arg4 arg9 f3 f4 f9 37 := by
  unfold bodyRun.sl.H15_37 bodyRun.sl.r_138
  rw [H15_36_eq, r_152_eq]
  rfl
theorem H15_38_eq : bodyRun.sl.H15_38 arg3 arg4 arg9 f3 f4 f9 = canK arg3 arg4 arg9 f3 f4 f9 38 := by
  unfold bodyRun.sl.H15_38 bodyRun.sl.r_138 bodyRun.sl.r_162
  rw [H15_37_eq, r_156_eq]
  rfl
theorem H15_39_eq : bodyRun.sl.H15_39 arg3 arg4 arg9 f3 f4 f9 = canK arg3 arg4 arg9 f3 f4 f9 39 := by
  unfold bodyRun.sl.H15_39 bodyRun.sl.r_138
  rw [H15_38_eq, r_160_eq]
  rfl
theorem H15_40_eq : bodyRun.sl.H15_40 arg3 arg4 arg9 f3 f4 f9 = canK arg3 arg4 arg9 f3 f4 f9 40 := by
  unfold bodyRun.sl.H15_40 bodyRun.sl.r_138 bodyRun.sl.r_171
  rw [H15_39_eq, r_166_eq]
  rfl
theorem H15_41_eq : bodyRun.sl.H15_41 arg3 arg4 arg9 f3 f4 f9 = canK arg3 arg4 arg9 f3 f4 f9 41 := by
  unfold bodyRun.sl.H15_41 bodyRun.sl.r_177 bodyRun.sl.r_138
  rw [H15_40_eq, r_169_eq]
  rfl
theorem H15_42_eq : bodyRun.sl.H15_42 arg3 arg4 arg9 f3 f4 f9 = canK arg3 arg4 arg9 f3 f4 f9 42 := by
  unfold bodyRun.sl.H15_42 bodyRun.sl.r_138
  rw [H15_41_eq, r_178_eq]
  rfl
theorem H15_43_eq : bodyRun.sl.H15_43 arg3 arg4 arg9 f3 f4 f9 = canK arg3 arg4 arg9 f3 f4 f9 43 := by
  unfold bodyRun.sl.H15_43 bodyRun.sl.r_138 bodyRun.sl.r_183
  rw [H15_42_eq, r_178_eq]
  rfl
theorem H15_44_eq : bodyRun.sl.H15_44 arg3 arg4 arg9 f3 f4 f9 = canK arg3 arg4 arg9 f3 f4 f9 44 := by
  unfold bodyRun.sl.H15_44 bodyRun.sl.r_138
  rw [H15_43_eq, r_181_eq]
  rfl
theorem H15_45_eq : bodyRun.sl.H15_45 arg3 arg4 arg9 f3 f4 f9 = canK arg3 arg4 arg9 f3 f4 f9 45 := by
  unfold bodyRun.sl.H15_45 bodyRun.sl.r_138 bodyRun.sl.r_191
  rw [H15_44_eq, r_185_eq]
  rfl
theorem H15_46_eq : bodyRun.sl.H15_46 arg3 arg4 arg9 f3 f4 f9 = canK arg3 arg4 arg9 f3 f4 f9 46 := by
  unfold bodyRun.sl.H15_46 bodyRun.sl.r_196 bodyRun.sl.r_138
  rw [H15_45_eq, r_189_eq]
  rfl
theorem H15_47_eq : bodyRun.sl.H15_47 arg3 arg4 arg9 f3 f4 f9 = canK arg3 arg4 arg9 f3 f4 f9 47 := by
  unfold bodyRun.sl.H15_47 bodyRun.sl.r_138 bodyRun.sl.r_199
  rw [H15_46_eq, r_193_eq]
  rfl
theorem H15_48_eq : bodyRun.sl.H15_48 arg3 arg4 arg9 f3 f4 f9 = canK arg3 arg4 arg9 f3 f4 f9 48 := by
  unfold bodyRun.sl.H15_48 bodyRun.sl.r_138 bodyRun.sl.r_203 bodyRun.sl.r_204
  rw [H15_47_eq, r_197_eq]
  rfl
theorem H15_49_eq : bodyRun.sl.H15_49 arg3 arg4 arg9 f3 f4 f9 = canK arg3 arg4 arg9 f3 f4 f9 49 := by
  unfold bodyRun.sl.H15_49 bodyRun.sl.r_138
  rw [H15_48_eq, r_201_eq]
  rfl
theorem H15_50_eq : bodyRun.sl.H15_50 arg3 arg4 arg9 f3 f4 f9 = canK arg3 arg4 arg9 f3 f4 f9 50 := by
  unfold bodyRun.sl.H15_50 bodyRun.sl.r_138 bodyRun.sl.r_211
  rw [H15_49_eq, r_205_eq]
  rfl
theorem H15_51_eq : bodyRun.sl.H15_51 arg3 arg4 arg9 f3 f4 f9 = canK arg3 arg4 arg9 f3 f4 f9 51 := by
  unfold bodyRun.sl.H15_51 bodyRun.sl.r_138
  rw [H15_50_eq, r_209_eq]
  rfl
theorem H15_52_eq : bodyRun.sl.H15_52 arg3 arg4 arg9 f3 f4 f9 = canK arg3 arg4 arg9 f3 f4 f9 52 := by
  unfold bodyRun.sl.H15_52 bodyRun.sl.r_138 bodyRun.sl.r_220
  rw [H15_51_eq, r_215_eq]
  rfl
theorem H15_53_eq : bodyRun.sl.H15_53 arg3 arg4 arg9 f3 f4 f9 = canK arg3 arg4 arg9 f3 f4 f9 53 := by
  unfold bodyRun.sl.H15_53 bodyRun.sl.r_226 bodyRun.sl.r_138
  rw [H15_52_eq, r_218_eq]
  rfl
theorem H15_54_eq : bodyRun.sl.H15_54 arg3 arg4 arg9 f3 f4 f9 = canK arg3 arg4 arg9 f3 f4 f9 54 := by
  unfold bodyRun.sl.H15_54 bodyRun.sl.r_138
  rw [H15_53_eq, r_227_eq]
  rfl
theorem H15_55_eq : bodyRun.sl.H15_55 arg3 arg4 arg9 f3 f4 f9 = canK arg3 arg4 arg9 f3 f4 f9 55 := by
  unfold bodyRun.sl.H15_55 bodyRun.sl.r_138 bodyRun.sl.r_232
  rw [H15_54_eq, r_227_eq]
  rfl
theorem H15_56_eq : bodyRun.sl.H15_56 arg3 arg4 arg9 f3 f4 f9 = canK arg3 arg4 arg9 f3 f4 f9 56 := by
  unfold bodyRun.sl.H15_56 bodyRun.sl.r_138
  rw [H15_55_eq, r_230_eq]
  rfl
theorem H15_57_eq : bodyRun.sl.H15_57 arg3 arg4 arg9 f3 f4 f9 = canK arg3 arg4 arg9 f3 f4 f9 57 := by
  unfold bodyRun.sl.H15_57 bodyRun.sl.r_138 bodyRun.sl.r_240
  rw [H15_56_eq, r_234_eq]
  rfl
theorem H15_58_eq : bodyRun.sl.H15_58 arg3 arg4 arg9 f3 f4 f9 = canK arg3 arg4 arg9 f3 f4 f9 58 := by
  unfold bodyRun.sl.H15_58 bodyRun.sl.r_245 bodyRun.sl.r_138
  rw [H15_57_eq, r_238_eq]
  rfl
theorem H15_59_eq : bodyRun.sl.H15_59 arg3 arg4 arg9 f3 f4 f9 = canK arg3 arg4 arg9 f3 f4 f9 59 := by
  unfold bodyRun.sl.H15_59 bodyRun.sl.r_138 bodyRun.sl.r_248
  rw [H15_58_eq, r_242_eq]
  rfl
theorem H15_60_eq : bodyRun.sl.H15_60 arg3 arg4 arg9 f3 f4 f9 = canK arg3 arg4 arg9 f3 f4 f9 60 := by
  unfold bodyRun.sl.H15_60 bodyRun.sl.r_138 bodyRun.sl.r_252 bodyRun.sl.r_253
  rw [H15_59_eq, r_246_eq]
  rfl
theorem H15_61_eq : bodyRun.sl.H15_61 arg3 arg4 arg9 f3 f4 f9 = canK arg3 arg4 arg9 f3 f4 f9 61 := by
  unfold bodyRun.sl.H15_61 bodyRun.sl.r_138
  rw [H15_60_eq, r_250_eq]
  rfl
theorem H15_62_eq : bodyRun.sl.H15_62 arg3 arg4 arg9 f3 f4 f9 = canK arg3 arg4 arg9 f3 f4 f9 62 := by
  unfold bodyRun.sl.H15_62 bodyRun.sl.r_138 bodyRun.sl.r_260
  rw [H15_61_eq, r_254_eq]
  rfl
theorem H15_63_eq : bodyRun.sl.H15_63 arg3 arg4 arg9 f3 f4 f9 = canK arg3 arg4 arg9 f3 f4 f9 63 := by
  unfold bodyRun.sl.H15_63 bodyRun.sl.r_138
  rw [H15_62_eq, r_258_eq]
  rfl
theorem H15_64_eq : bodyRun.sl.H15_64 arg3 arg4 arg9 f3 f4 f9 = canK arg3 arg4 arg9 f3 f4 f9 64 := by
  unfold bodyRun.sl.H15_64 bodyRun.sl.r_138 bodyRun.sl.r_268
  rw [H15_63_eq, r_264_eq]
  rfl
theorem H15_65_eq : bodyRun.sl.H15_65 arg3 arg4 arg9 f3 f4 f9 = canK arg3 arg4 arg9 f3 f4 f9 65 := by
  unfold bodyRun.sl.H15_65 bodyRun.sl.r_272 bodyRun.sl.r_276
  rw [H15_64_eq]
  rfl
theorem H15_66_eq : bodyRun.sl.H15_66 arg3 arg4 arg9 f3 f4 f9 = canK arg3 arg4 arg9 f3 f4 f9 66 := by
  unfold bodyRun.sl.H15_66 bodyRun.sl.r_280 bodyRun.sl.r_281 bodyRun.sl.r_282 bodyRun.sl.r_272
  rw [H15_65_eq, r_274_eq]
  rfl
theorem H15_67_eq : bodyRun.sl.H15_67 arg3 arg4 arg9 f3 f4 f9 = canK arg3 arg4 arg9 f3 f4 f9 67 := by
  unfold bodyRun.sl.H15_67 bodyRun.sl.r_272
  rw [H15_66_eq, r_278_eq]
  rfl
theorem H15_68_eq : bodyRun.sl.H15_68 arg3 arg4 arg9 f3 f4 f9 = canK arg3 arg4 arg9 f3 f4 f9 68 := by
  unfold bodyRun.sl.H15_68 bodyRun.sl.r_272 bodyRun.sl.r_288
  rw [H15_67_eq, r_283_eq]
  rfl
theorem H15_69_eq : bodyRun.sl.H15_69 arg3 arg4 arg9 f3 f4 f9 = canK arg3 arg4 arg9 f3 f4 f9 69 := by
  unfold bodyRun.sl.H15_69 bodyRun.sl.r_272
  rw [H15_68_eq, r_286_eq]
  rfl
theorem H15_70_eq : bodyRun.sl.H15_70 arg3 arg4 arg9 f3 f4 f9 = canK arg3 arg4 arg9 f3 f4 f9 70 := by
  unfold bodyRun.sl.H15_70 bodyRun.sl.r_272 bodyRun.sl.r_297
  rw [H15_69_eq, r_291_eq]
  rfl
theorem H15_71_eq : bodyRun.sl.H15_71 arg3 arg4 arg9 f3 f4 f9 = canK arg3 arg4 arg9 f3 f4 f9 71 := by
  unfold bodyRun.sl.H15_71 bodyRun.sl.r_302 bodyRun.sl.r_272
  rw [H15_70_eq, r_295_eq]
  rfl
theorem H15_72_eq : bodyRun.sl.H15_72 arg3 arg4 arg9 f3 f4 f9 = canK arg3 arg4 arg9 f3 f4 f9 72 := by
  unfold bodyRun.sl.H15_72 bodyRun.sl.r_272
  rw [H15_71_eq, r_303_eq]
  rfl
theorem H15_73_eq : bodyRun.sl.H15_73 arg3 arg4 arg9 f3 f4 f9 = canK arg3 arg4 arg9 f3 f4 f9 73 := by
  unfold bodyRun.sl.H15_73 bodyRun.sl.r_272 bodyRun.sl.r_309
  rw [H15_72_eq, r_303_eq]
  rfl
theorem H15_74_eq : bodyRun.sl.H15_74 arg3 arg4 arg9 f3 f4 f9 = canK arg3 arg4 arg9 f3 f4 f9 74 := by
  unfold bodyRun.sl.H15_74 bodyRun.sl.r_272
  rw [H15_73_eq, r_307_eq]
  rfl
theorem H15_75_eq : bodyRun.sl.H15_75 arg3 arg4 arg9 f3 f4 f9 = canK arg3 arg4 arg9 f3 f4 f9 75 := by
  unfold bodyRun.sl.H15_75 bodyRun.sl.r_272 bodyRun.sl.r_317
  rw [H15_74_eq, r_311_eq]
  rfl
theorem H15_76_eq : bodyRun.sl.H15_76 arg3 arg4 arg9 f3 f4 f9 = canK arg3 arg4 arg9 f3 f4 f9 76 := by
  unfold bodyRun.sl.H15_76 bodyRun.sl.r_272
  rw [H15_75_eq, r_315_eq]
  rfl
theorem H15_77_eq : bodyRun.sl.H15_77 arg3 arg4 arg9 f3 f4 f9 = canK arg3 arg4 arg9 f3 f4 f9 77 := by
  unfold bodyRun.sl.H15_77 bodyRun.sl.r_272 bodyRun.sl.r_325
  rw [H15_76_eq, r_320_eq]
  rfl
theorem H15_78_eq : bodyRun.sl.H15_78 arg3 arg4 arg9 f3 f4 f9 = canK arg3 arg4 arg9 f3 f4 f9 78 := by
  unfold bodyRun.sl.H15_78 bodyRun.sl.r_329 bodyRun.sl.r_330 bodyRun.sl.r_331 bodyRun.sl.r_272
  rw [H15_77_eq, r_323_eq]
  rfl
theorem H15_79_eq : bodyRun.sl.H15_79 arg3 arg4 arg9 f3 f4 f9 = canK arg3 arg4 arg9 f3 f4 f9 79 := by
  unfold bodyRun.sl.H15_79 bodyRun.sl.r_272
  rw [H15_78_eq, r_327_eq]
  rfl
theorem H15_80_eq : bodyRun.sl.H15_80 arg3 arg4 arg9 f3 f4 f9 = canK arg3 arg4 arg9 f3 f4 f9 80 := by
  unfold bodyRun.sl.H15_80 bodyRun.sl.r_272 bodyRun.sl.r_337
  rw [H15_79_eq, r_332_eq]
  rfl
theorem H15_81_eq : bodyRun.sl.H15_81 arg3 arg4 arg9 f3 f4 f9 = canK arg3 arg4 arg9 f3 f4 f9 81 := by
  unfold bodyRun.sl.H15_81 bodyRun.sl.r_272
  rw [H15_80_eq, r_335_eq]
  rfl
theorem H15_82_eq : bodyRun.sl.H15_82 arg3 arg4 arg9 f3 f4 f9 = canK arg3 arg4 arg9 f3 f4 f9 82 := by
  unfold bodyRun.sl.H15_82 bodyRun.sl.r_272 bodyRun.sl.r_346
  rw [H15_81_eq, r_340_eq]
  rfl
theorem H15_83_eq : bodyRun.sl.H15_83 arg3 arg4 arg9 f3 f4 f9 = canK arg3 arg4 arg9 f3 f4 f9 83 := by
  unfold bodyRun.sl.H15_83 bodyRun.sl.r_351 bodyRun.sl.r_272
  rw [H15_82_eq, r_344_eq]
  rfl
theorem H15_84_eq : bodyRun.sl.H15_84 arg3 arg4 arg9 f3 f4 f9 = canK arg3 arg4 arg9 f3 f4 f9 84 := by
  unfold bodyRun.sl.H15_84 bodyRun.sl.r_272
  rw [H15_83_eq, r_352_eq]
  rfl
theorem H15_85_eq : bodyRun.sl.H15_85 arg3 arg4 arg9 f3 f4 f9 = canK arg3 arg4 arg9 f3 f4 f9 85 := by
  unfold bodyRun.sl.H15_85 bodyRun.sl.r_272 bodyRun.sl.r_358
  rw [H15_84_eq, r_352_eq]
  rfl
theorem H15_86_eq : bodyRun.sl.H15_86 arg3 arg4 arg9 f3 f4 f9 = canK arg3 arg4 arg9 f3 f4 f9 86 := by
  unfold bodyRun.sl.H15_86 bodyRun.sl.r_272
  rw [H15_85_eq, r_356_eq]
  rfl
theorem H15_87_eq : bodyRun.sl.H15_87 arg3 arg4 arg9 f3 f4 f9 = canK arg3 arg4 arg9 f3 f4 f9 87 := by
  unfold bodyRun.sl.H15_87 bodyRun.sl.r_272 bodyRun.sl.r_366
  rw [H15_86_eq, r_360_eq]
  rfl
theorem H15_88_eq : bodyRun.sl.H15_88 arg3 arg4 arg9 f3 f4 f9 = canK arg3 arg4 arg9 f3 f4 f9 88 := by
  unfold bodyRun.sl.H15_88 bodyRun.sl.r_272
  rw [H15_87_eq, r_364_eq]
  rfl
theorem H15_89_eq : bodyRun.sl.H15_89 arg3 arg4 arg9 f3 f4 f9 = canK arg3 arg4 arg9 f3 f4 f9 89 := by
  unfold bodyRun.sl.H15_89 bodyRun.sl.r_272 bodyRun.sl.r_374
  rw [H15_88_eq, r_369_eq]
  rfl
theorem H15_90_eq : bodyRun.sl.H15_90 arg3 arg4 arg9 f3 f4 f9 = canK arg3 arg4 arg9 f3 f4 f9 90 := by
  unfold bodyRun.sl.H15_90 bodyRun.sl.r_378 bodyRun.sl.r_379 bodyRun.sl.r_380 bodyRun.sl.r_272
  rw [H15_89_eq, r_372_eq]
  rfl
theorem H15_91_eq : bodyRun.sl.H15_91 arg3 arg4 arg9 f3 f4 f9 = canK arg3 arg4 arg9 f3 f4 f9 91 := by
  unfold bodyRun.sl.H15_91 bodyRun.sl.r_272
  rw [H15_90_eq, r_376_eq]
  rfl
theorem H15_92_eq : bodyRun.sl.H15_92 arg3 arg4 arg9 f3 f4 f9 = canK arg3 arg4 arg9 f3 f4 f9 92 := by
  unfold bodyRun.sl.H15_92 bodyRun.sl.r_272 bodyRun.sl.r_386
  rw [H15_91_eq, r_381_eq]
  rfl
theorem H15_93_eq : bodyRun.sl.H15_93 arg3 arg4 arg9 f3 f4 f9 = canK arg3 arg4 arg9 f3 f4 f9 93 := by
  unfold bodyRun.sl.H15_93 bodyRun.sl.r_272
  rw [H15_92_eq, r_384_eq]
  rfl
theorem H15_94_eq : bodyRun.sl.H15_94 arg3 arg4 arg9 f3 f4 f9 = canK arg3 arg4 arg9 f3 f4 f9 94 := by
  unfold bodyRun.sl.H15_94 bodyRun.sl.r_272 bodyRun.sl.r_395
  rw [H15_93_eq, r_389_eq]
  rfl
theorem H15_95_eq : bodyRun.sl.H15_95 arg3 arg4 arg9 f3 f4 f9 = canK arg3 arg4 arg9 f3 f4 f9 95 := by
  unfold bodyRun.sl.H15_95 bodyRun.sl.r_400 bodyRun.sl.r_272
  rw [H15_94_eq, r_393_eq]
  rfl
theorem H16_1_eq : bodyRun.sl.H16_1 arg8 arg9 f8 f9 = canB arg8 arg9 f8 f9 1 := by
  unfold bodyRun.sl.H16_1 bodyRun.sl.r_5
  rfl
theorem H16_2_eq : bodyRun.sl.H16_2 arg8 arg9 f8 f9 = canB arg8 arg9 f8 f9 2 := by
  unfold bodyRun.sl.H16_2 bodyRun.sl.r_9
  rw [H16_1_eq, r_3_eq]
  rfl
theorem H16_3_eq : bodyRun.sl.H16_3 arg8 arg9 f8 f9 = canB arg8 arg9 f8 f9 3 := by
  unfold bodyRun.sl.H16_3 bodyRun.sl.r_13
  rw [H16_2_eq, r_7_eq]
  rfl
theorem H16_4_eq : bodyRun.sl.H16_4 arg8 arg9 f8 f9 = canB arg8 arg9 f8 f9 4 := by
  unfold bodyRun.sl.H16_4 bodyRun.sl.r_18
  rw [H16_3_eq, r_11_eq]
  rfl
theorem H16_5_eq : bodyRun.sl.H16_5 arg8 arg9 f8 f9 = canB arg8 arg9 f8 f9 5 := by
  unfold bodyRun.sl.H16_5 bodyRun.sl.r_23 bodyRun.sl.r_22
  rw [H16_4_eq, r_16_eq]
  rfl
theorem H16_6_eq : bodyRun.sl.H16_6 arg8 arg9 f8 f9 = canB arg8 arg9 f8 f9 6 := by
  unfold bodyRun.sl.H16_6 bodyRun.sl.r_26
  rw [H16_5_eq, r_20_eq]
  rfl
theorem H16_7_eq : bodyRun.sl.H16_7 arg8 arg9 f8 f9 = canB arg8 arg9 f8 f9 7 := by
  unfold bodyRun.sl.H16_7 bodyRun.sl.r_30
  rw [H16_6_eq, r_24_eq]
  rfl
theorem H16_8_eq : bodyRun.sl.H16_8 arg8 arg9 f8 f9 = canB arg8 arg9 f8 f9 8 := by
  unfold bodyRun.sl.H16_8 bodyRun.sl.r_34
  rw [H16_7_eq, r_28_eq]
  rfl
theorem H16_9_eq : bodyRun.sl.H16_9 arg8 arg9 f8 f9 = canB arg8 arg9 f8 f9 9 := by
  unfold bodyRun.sl.H16_9 bodyRun.sl.r_40
  rw [H16_8_eq, r_32_eq]
  rfl
theorem H16_10_eq : bodyRun.sl.H16_10 arg8 arg9 f8 f9 = canB arg8 arg9 f8 f9 10 := by
  unfold bodyRun.sl.H16_10 bodyRun.sl.r_44 bodyRun.sl.r_43
  rw [H16_9_eq, r_38_eq]
  rfl
theorem H16_11_eq : bodyRun.sl.H16_11 arg8 arg9 f8 f9 = canB arg8 arg9 f8 f9 11 := by
  unfold bodyRun.sl.H16_11 bodyRun.sl.r_47
  rw [H16_10_eq, r_41_eq]
  rfl
theorem H16_12_eq : bodyRun.sl.H16_12 arg8 arg9 f8 f9 = canB arg8 arg9 f8 f9 12 := by
  unfold bodyRun.sl.H16_12 bodyRun.sl.r_52 bodyRun.sl.r_49
  rw [H16_11_eq, r_45_eq]
  rfl
theorem H16_13_eq : bodyRun.sl.H16_13 arg8 arg9 f8 f9 = canB arg8 arg9 f8 f9 13 := by
  unfold bodyRun.sl.H16_13 bodyRun.sl.r_55
  rw [H16_12_eq, r_50_eq]
  rfl
theorem H16_14_eq : bodyRun.sl.H16_14 arg8 arg9 f8 f9 = canB arg8 arg9 f8 f9 14 := by
  unfold bodyRun.sl.H16_14 bodyRun.sl.r_59
  rw [H16_13_eq, r_53_eq]
  rfl
theorem H16_15_eq : bodyRun.sl.H16_15 arg8 arg9 f8 f9 = canB arg8 arg9 f8 f9 15 := by
  unfold bodyRun.sl.H16_15 bodyRun.sl.r_63
  rw [H16_14_eq, r_57_eq]
  rfl
theorem H16_16_eq : bodyRun.sl.H16_16 arg8 arg9 f8 f9 = canB arg8 arg9 f8 f9 16 := by
  unfold bodyRun.sl.H16_16 bodyRun.sl.r_68
  rw [H16_15_eq, r_61_eq]
  rfl
theorem H16_17_eq : bodyRun.sl.H16_17 arg8 arg9 f8 f9 = canB arg8 arg9 f8 f9 17 := by
  unfold bodyRun.sl.H16_17 bodyRun.sl.r_73 bodyRun.sl.r_72
  rw [H16_16_eq, r_66_eq]
  rfl
theorem H16_18_eq : bodyRun.sl.H16_18 arg8 arg9 f8 f9 = canB arg8 arg9 f8 f9 18 := by
  unfold bodyRun.sl.H16_18 bodyRun.sl.r_76
  rw [H16_17_eq, r_70_eq]
  rfl
theorem H16_19_eq : bodyRun.sl.H16_19 arg8 arg9 f8 f9 = canB arg8 arg9 f8 f9 19 := by
  unfold bodyRun.sl.H16_19 bodyRun.sl.r_80
  rw [H16_18_eq, r_74_eq]
  rfl
theorem H16_20_eq : bodyRun.sl.H16_20 arg8 arg9 f8 f9 = canB arg8 arg9 f8 f9 20 := by
  unfold bodyRun.sl.H16_20 bodyRun.sl.r_84
  rw [H16_19_eq, r_78_eq]
  rfl
theorem H16_21_eq : bodyRun.sl.H16_21 arg8 arg9 f8 f9 = canB arg8 arg9 f8 f9 21 := by
  unfold bodyRun.sl.H16_21 bodyRun.sl.r_90
  rw [H16_20_eq, r_82_eq]
  rfl
theorem H16_22_eq : bodyRun.sl.H16_22 arg8 arg9 f8 f9 = canB arg8 arg9 f8 f9 22 := by
  unfold bodyRun.sl.H16_22 bodyRun.sl.r_94 bodyRun.sl.r_93
  rw [H16_21_eq, r_88_eq]
  rfl
theorem H16_23_eq : bodyRun.sl.H16_23 arg8 arg9 f8 f9 = canB arg8 arg9 f8 f9 23 := by
  unfold bodyRun.sl.H16_23 bodyRun.sl.r_97
  rw [H16_22_eq, r_91_eq]
  rfl
theorem H16_24_eq : bodyRun.sl.H16_24 arg8 arg9 f8 f9 = canB arg8 arg9 f8 f9 24 := by
  unfold bodyRun.sl.H16_24 bodyRun.sl.r_102 bodyRun.sl.r_99
  rw [H16_23_eq, r_95_eq]
  rfl
theorem H16_25_eq : bodyRun.sl.H16_25 arg8 arg9 f8 f9 = canB arg8 arg9 f8 f9 25 := by
  unfold bodyRun.sl.H16_25 bodyRun.sl.r_105
  rw [H16_24_eq, r_100_eq]
  rfl
theorem H16_26_eq : bodyRun.sl.H16_26 arg8 arg9 f8 f9 = canB arg8 arg9 f8 f9 26 := by
  unfold bodyRun.sl.H16_26 bodyRun.sl.r_109
  rw [H16_25_eq, r_103_eq]
  rfl
theorem H16_27_eq : bodyRun.sl.H16_27 arg8 arg9 f8 f9 = canB arg8 arg9 f8 f9 27 := by
  unfold bodyRun.sl.H16_27 bodyRun.sl.r_113
  rw [H16_26_eq, r_107_eq]
  rfl
theorem H16_28_eq : bodyRun.sl.H16_28 arg8 arg9 f8 f9 = canB arg8 arg9 f8 f9 28 := by
  unfold bodyRun.sl.H16_28 bodyRun.sl.r_118
  rw [H16_27_eq, r_111_eq]
  rfl
theorem H16_29_eq : bodyRun.sl.H16_29 arg8 arg9 f8 f9 = canB arg8 arg9 f8 f9 29 := by
  unfold bodyRun.sl.H16_29 bodyRun.sl.r_123 bodyRun.sl.r_122
  rw [H16_28_eq, r_116_eq]
  rfl
theorem H16_30_eq : bodyRun.sl.H16_30 arg8 arg9 f8 f9 = canB arg8 arg9 f8 f9 30 := by
  unfold bodyRun.sl.H16_30 bodyRun.sl.r_126
  rw [H16_29_eq, r_120_eq]
  rfl
theorem H16_31_eq : bodyRun.sl.H16_31 arg8 arg9 f8 f9 = canB arg8 arg9 f8 f9 31 := by
  unfold bodyRun.sl.H16_31 bodyRun.sl.r_130
  rw [H16_30_eq, r_124_eq]
  rfl
theorem H16_32_eq : bodyRun.sl.H16_32 arg8 arg9 f8 f9 = canB arg8 arg9 f8 f9 32 := by
  unfold bodyRun.sl.H16_32 bodyRun.sl.r_133
  rw [H16_31_eq, r_128_eq]
  rfl
theorem H16_33_eq : bodyRun.sl.H16_33 arg8 arg9 f8 f9 = canB arg8 arg9 f8 f9 33 := by
  unfold bodyRun.sl.H16_33 bodyRun.sl.r_142
  rw [H16_32_eq]
  rfl
theorem H16_34_eq : bodyRun.sl.H16_34 arg8 arg9 f8 f9 = canB arg8 arg9 f8 f9 34 := by
  unfold bodyRun.sl.H16_34 bodyRun.sl.r_146
  rw [H16_33_eq, r_140_eq]
  rfl
theorem H16_35_eq : bodyRun.sl.H16_35 arg8 arg9 f8 f9 = canB arg8 arg9 f8 f9 35 := by
  unfold bodyRun.sl.H16_35 bodyRun.sl.r_151 bodyRun.sl.r_150
  rw [H16_34_eq, r_144_eq]
  rfl
theorem H16_36_eq : bodyRun.sl.H16_36 arg8 arg9 f8 f9 = canB arg8 arg9 f8 f9 36 := by
  unfold bodyRun.sl.H16_36 bodyRun.sl.r_154
  rw [H16_35_eq, r_148_eq]
  rfl
theorem H16_37_eq : bodyRun.sl.H16_37 arg8 arg9 f8 f9 = canB arg8 arg9 f8 f9 37 := by
  unfold bodyRun.sl.H16_37 bodyRun.sl.r_158
  rw [H16_36_eq, r_152_eq]
  rfl
theorem H16_38_eq : bodyRun.sl.H16_38 arg8 arg9 f8 f9 = canB arg8 arg9 f8 f9 38 := by
  unfold bodyRun.sl.H16_38 bodyRun.sl.r_162
  rw [H16_37_eq, r_156_eq]
  rfl
theorem H16_39_eq : bodyRun.sl.H16_39 arg8 arg9 f8 f9 = canB arg8 arg9 f8 f9 39 := by
  unfold bodyRun.sl.H16_39 bodyRun.sl.r_168
  rw [H16_38_eq, r_160_eq]
  rfl
theorem H16_40_eq : bodyRun.sl.H16_40 arg8 arg9 f8 f9 = canB arg8 arg9 f8 f9 40 := by
  unfold bodyRun.sl.H16_40 bodyRun.sl.r_173 bodyRun.sl.r_171
  rw [H16_39_eq, r_166_eq]
  rfl
theorem H16_41_eq : bodyRun.sl.H16_41 arg8 arg9 f8 f9 = canB arg8 arg9 f8 f9 41 := by
  unfold bodyRun.sl.H16_41 bodyRun.sl.r_176
  rw [H16_40_eq, r_169_eq]
  rfl
theorem H16_42_eq : bodyRun.sl.H16_42 arg8 arg9 f8 f9 = canB arg8 arg9 f8 f9 42 := by
  unfold bodyRun.sl.H16_42 bodyRun.sl.r_180
  rw [H16_41_eq, r_178_eq]
  rfl
theorem H16_43_eq : bodyRun.sl.H16_43 arg8 arg9 f8 f9 = canB arg8 arg9 f8 f9 43 := by
  unfold bodyRun.sl.H16_43 bodyRun.sl.r_183
  rw [H16_42_eq, r_178_eq]
  rfl
theorem H16_44_eq : bodyRun.sl.H16_44 arg8 arg9 f8 f9 = canB arg8 arg9 f8 f9 44 := by
  unfold bodyRun.sl.H16_44 bodyRun.sl.r_187
  rw [H16_43_eq, r_181_eq]
  rfl
theorem H16_45_eq : bodyRun.sl.H16_45 arg8 arg9 f8 f9 = canB arg8 arg9 f8 f9 45 := by
  unfold bodyRun.sl.H16_45 bodyRun.sl.r_191
  rw [H16_44_eq, r_185_eq]
  rfl
theorem H16_46_eq : bodyRun.sl.H16_46 arg8 arg9 f8 f9 = canB arg8 arg9 f8 f9 46 := by
  unfold bodyRun.sl.H16_46 bodyRun.sl.r_195
  rw [H16_45_eq, r_189_eq]
  rfl
theorem H16_47_eq : bodyRun.sl.H16_47 arg8 arg9 f8 f9 = canB arg8 arg9 f8 f9 47 := by
  unfold bodyRun.sl.H16_47 bodyRun.sl.r_200 bodyRun.sl.r_199
  rw [H16_46_eq, r_193_eq]
  rfl
theorem H16_48_eq : bodyRun.sl.H16_48 arg8 arg9 f8 f9 = canB arg8 arg9 f8 f9 48 := by
  unfold bodyRun.sl.H16_48 bodyRun.sl.r_203
  rw [H16_47_eq, r_197_eq]
  rfl
theorem H16_49_eq : bodyRun.sl.H16_49 arg8 arg9 f8 f9 = canB arg8 arg9 f8 f9 49 := by
  unfold bodyRun.sl.H16_49 bodyRun.sl.r_207
  rw [H16_48_eq, r_201_eq]
  rfl
theorem H16_50_eq : bodyRun.sl.H16_50 arg8 arg9 f8 f9 = canB arg8 arg9 f8 f9 50 := by
  unfold bodyRun.sl.H16_50 bodyRun.sl.r_211
  rw [H16_49_eq, r_205_eq]
  rfl
theorem H16_51_eq : bodyRun.sl.H16_51 arg8 arg9 f8 f9 = canB arg8 arg9 f8 f9 51 := by
  unfold bodyRun.sl.H16_51 bodyRun.sl.r_217
  rw [H16_50_eq, r_209_eq]
  rfl
theorem H16_52_eq : bodyRun.sl.H16_52 arg8 arg9 f8 f9 = canB arg8 arg9 f8 f9 52 := by
  unfold bodyRun.sl.H16_52 bodyRun.sl.r_222 bodyRun.sl.r_220
  rw [H16_51_eq, r_215_eq]
  rfl
theorem H16_53_eq : bodyRun.sl.H16_53 arg8 arg9 f8 f9 = canB arg8 arg9 f8 f9 53 := by
  unfold bodyRun.sl.H16_53 bodyRun.sl.r_225
  rw [H16_52_eq, r_218_eq]
  rfl
theorem H16_54_eq : bodyRun.sl.H16_54 arg8 arg9 f8 f9 = canB arg8 arg9 f8 f9 54 := by
  unfold bodyRun.sl.H16_54 bodyRun.sl.r_229
  rw [H16_53_eq, r_227_eq]
  rfl
theorem H16_55_eq : bodyRun.sl.H16_55 arg8 arg9 f8 f9 = canB arg8 arg9 f8 f9 55 := by
  unfold bodyRun.sl.H16_55 bodyRun.sl.r_232
  rw [H16_54_eq, r_227_eq]
  rfl
theorem H16_56_eq : bodyRun.sl.H16_56 arg8 arg9 f8 f9 = canB arg8 arg9 f8 f9 56 := by
  unfold bodyRun.sl.H16_56 bodyRun.sl.r_236
  rw [H16_55_eq, r_230_eq]
  rfl
theorem H16_57_eq : bodyRun.sl.H16_57 arg8 arg9 f8 f9 = canB arg8 arg9 f8 f9 57 := by
  unfold bodyRun.sl.H16_57 bodyRun.sl.r_240
  rw [H16_56_eq, r_234_eq]
  rfl
theorem H16_58_eq : bodyRun.sl.H16_58 arg8 arg9 f8 f9 = canB arg8 arg9 f8 f9 58 := by
  unfold bodyRun.sl.H16_58 bodyRun.sl.r_244
  rw [H16_57_eq, r_238_eq]
  rfl
theorem H16_59_eq : bodyRun.sl.H16_59 arg8 arg9 f8 f9 = canB arg8 arg9 f8 f9 59 := by
  unfold bodyRun.sl.H16_59 bodyRun.sl.r_249 bodyRun.sl.r_248
  rw [H16_58_eq, r_242_eq]
  rfl
theorem H16_60_eq : bodyRun.sl.H16_60 arg8 arg9 f8 f9 = canB arg8 arg9 f8 f9 60 := by
  unfold bodyRun.sl.H16_60 bodyRun.sl.r_252
  rw [H16_59_eq, r_246_eq]
  rfl
theorem H16_61_eq : bodyRun.sl.H16_61 arg8 arg9 f8 f9 = canB arg8 arg9 f8 f9 61 := by
  unfold bodyRun.sl.H16_61 bodyRun.sl.r_256
  rw [H16_60_eq, r_250_eq]
  rfl
theorem H16_62_eq : bodyRun.sl.H16_62 arg8 arg9 f8 f9 = canB arg8 arg9 f8 f9 62 := by
  unfold bodyRun.sl.H16_62 bodyRun.sl.r_260
  rw [H16_61_eq, r_254_eq]
  rfl
theorem H16_63_eq : bodyRun.sl.H16_63 arg8 arg9 f8 f9 = canB arg8 arg9 f8 f9 63 := by
  unfold bodyRun.sl.H16_63 bodyRun.sl.r_266
  rw [H16_62_eq, r_258_eq]
  rfl
theorem H16_64_eq : bodyRun.sl.H16_64 arg8 arg9 f8 f9 = canB arg8 arg9 f8 f9 64 := by
  unfold bodyRun.sl.H16_64 bodyRun.sl.r_270 bodyRun.sl.r_268
  rw [H16_63_eq, r_264_eq]
  rfl
theorem H16_65_eq : bodyRun.sl.H16_65 arg8 arg9 f8 f9 = canB arg8 arg9 f8 f9 65 := by
  unfold bodyRun.sl.H16_65 bodyRun.sl.r_277 bodyRun.sl.r_276
  rw [H16_64_eq]
  rfl
theorem H16_66_eq : bodyRun.sl.H16_66 arg8 arg9 f8 f9 = canB arg8 arg9 f8 f9 66 := by
  unfold bodyRun.sl.H16_66 bodyRun.sl.r_280
  rw [H16_65_eq, r_274_eq]
  rfl
theorem H16_67_eq : bodyRun.sl.H16_67 arg8 arg9 f8 f9 = canB arg8 arg9 f8 f9 67 := by
  unfold bodyRun.sl.H16_67 bodyRun.sl.r_285
  rw [H16_66_eq, r_278_eq]
  rfl
theorem H16_68_eq : bodyRun.sl.H16_68 arg8 arg9 f8 f9 = canB arg8 arg9 f8 f9 68 := by
  unfold bodyRun.sl.H16_68 bodyRun.sl.r_288
  rw [H16_67_eq, r_283_eq]
  rfl
theorem H16_69_eq : bodyRun.sl.H16_69 arg8 arg9 f8 f9 = canB arg8 arg9 f8 f9 69 := by
  unfold bodyRun.sl.H16_69 bodyRun.sl.r_293
  rw [H16_68_eq, r_286_eq]
  rfl
theorem H16_70_eq : bodyRun.sl.H16_70 arg8 arg9 f8 f9 = canB arg8 arg9 f8 f9 70 := by
  unfold bodyRun.sl.H16_70 bodyRun.sl.r_297
  rw [H16_69_eq, r_291_eq]
  rfl
theorem H16_71_eq : bodyRun.sl.H16_71 arg8 arg9 f8 f9 = canB arg8 arg9 f8 f9 71 := by
  unfold bodyRun.sl.H16_71 bodyRun.sl.r_301
  rw [H16_70_eq, r_295_eq]
  rfl
theorem H16_72_eq : bodyRun.sl.H16_72 arg8 arg9 f8 f9 = canB arg8 arg9 f8 f9 72 := by
  unfold bodyRun.sl.H16_72 bodyRun.sl.r_305 bodyRun.sl.r_306
  rw [H16_71_eq, r_303_eq]
  rfl
theorem H16_73_eq : bodyRun.sl.H16_73 arg8 arg9 f8 f9 = canB arg8 arg9 f8 f9 73 := by
  unfold bodyRun.sl.H16_73 bodyRun.sl.r_309
  rw [H16_72_eq, r_303_eq]
  rfl
theorem H16_74_eq : bodyRun.sl.H16_74 arg8 arg9 f8 f9 = canB arg8 arg9 f8 f9 74 := by
  unfold bodyRun.sl.H16_74 bodyRun.sl.r_313
  rw [H16_73_eq, r_307_eq]
  rfl
theorem H16_75_eq : bodyRun.sl.H16_75 arg8 arg9 f8 f9 = canB arg8 arg9 f8 f9 75 := by
  unfold bodyRun.sl.H16_75 bodyRun.sl.r_317
  rw [H16_74_eq, r_311_eq]
  rfl
theorem H16_76_eq : bodyRun.sl.H16_76 arg8 arg9 f8 f9 = canB arg8 arg9 f8 f9 76 := by
  unfold bodyRun.sl.H16_76 bodyRun.sl.r_322
  rw [H16_75_eq, r_315_eq]
  rfl
theorem H16_77_eq : bodyRun.sl.H16_77 arg8 arg9 f8 f9 = canB arg8 arg9 f8 f9 77 := by
  unfold bodyRun.sl.H16_77 bodyRun.sl.r_326 bodyRun.sl.r_325
  rw [H16_76_eq, r_320_eq]
  rfl
theorem H16_78_eq : bodyRun.sl.H16_78 arg8 arg9 f8 f9 = canB arg8 arg9 f8 f9 78 := by
  unfold bodyRun.sl.H16_78 bodyRun.sl.r_329
  rw [H16_77_eq, r_323_eq]
  rfl
theorem H16_79_eq : bodyRun.sl.H16_79 arg8 arg9 f8 f9 = canB arg8 arg9 f8 f9 79 := by
  unfold bodyRun.sl.H16_79 bodyRun.sl.r_334
  rw [H16_78_eq, r_327_eq]
  rfl
theorem H16_80_eq : bodyRun.sl.H16_80 arg8 arg9 f8 f9 = canB arg8 arg9 f8 f9 80 := by
  unfold bodyRun.sl.H16_80 bodyRun.sl.r_337
  rw [H16_79_eq, r_332_eq]
  rfl
theorem H16_81_eq : bodyRun.sl.H16_81 arg8 arg9 f8 f9 = canB arg8 arg9 f8 f9 81 := by
  unfold bodyRun.sl.H16_81 bodyRun.sl.r_342
  rw [H16_80_eq, r_335_eq]
  rfl
theorem H16_82_eq : bodyRun.sl.H16_82 arg8 arg9 f8 f9 = canB arg8 arg9 f8 f9 82 := by
  unfold bodyRun.sl.H16_82 bodyRun.sl.r_346
  rw [H16_81_eq, r_340_eq]
  rfl
theorem H16_83_eq : bodyRun.sl.H16_83 arg8 arg9 f8 f9 = canB arg8 arg9 f8 f9 83 := by
  unfold bodyRun.sl.H16_83 bodyRun.sl.r_350
  rw [H16_82_eq, r_344_eq]
  rfl
theorem H16_84_eq : bodyRun.sl.H16_84 arg8 arg9 f8 f9 = canB arg8 arg9 f8 f9 84 := by
  unfold bodyRun.sl.H16_84 bodyRun.sl.r_354 bodyRun.sl.r_355
  rw [H16_83_eq, r_352_eq]
  rfl
theorem H16_85_eq : bodyRun.sl.H16_85 arg8 arg9 f8 f9 = canB arg8 arg9 f8 f9 85 := by
  unfold bodyRun.sl.H16_85 bodyRun.sl.r_358
  rw [H16_84_eq, r_352_eq]
  rfl
theorem H16_86_eq : bodyRun.sl.H16_86 arg8 arg9 f8 f9 = canB arg8 arg9 f8 f9 86 := by
  unfold bodyRun.sl.H16_86 bodyRun.sl.r_362
  rw [H16_85_eq, r_356_eq]
  rfl
theorem H16_87_eq : bodyRun.sl.H16_87 arg8 arg9 f8 f9 = canB arg8 arg9 f8 f9 87 := by
  unfold bodyRun.sl.H16_87 bodyRun.sl.r_366
  rw [H16_86_eq, r_360_eq]
  rfl
theorem H16_88_eq : bodyRun.sl.H16_88 arg8 arg9 f8 f9 = canB arg8 arg9 f8 f9 88 := by
  unfold bodyRun.sl.H16_88 bodyRun.sl.r_371
  rw [H16_87_eq, r_364_eq]
  rfl
theorem H16_89_eq : bodyRun.sl.H16_89 arg8 arg9 f8 f9 = canB arg8 arg9 f8 f9 89 := by
  unfold bodyRun.sl.H16_89 bodyRun.sl.r_375 bodyRun.sl.r_374
  rw [H16_88_eq, r_369_eq]
  rfl
theorem H16_90_eq : bodyRun.sl.H16_90 arg8 arg9 f8 f9 = canB arg8 arg9 f8 f9 90 := by
  unfold bodyRun.sl.H16_90 bodyRun.sl.r_378
  rw [H16_89_eq, r_372_eq]
  rfl
theorem H16_91_eq : bodyRun.sl.H16_91 arg8 arg9 f8 f9 = canB arg8 arg9 f8 f9 91 := by
  unfold bodyRun.sl.H16_91 bodyRun.sl.r_383
  rw [H16_90_eq, r_376_eq]
  rfl
theorem H16_92_eq : bodyRun.sl.H16_92 arg8 arg9 f8 f9 = canB arg8 arg9 f8 f9 92 := by
  unfold bodyRun.sl.H16_92 bodyRun.sl.r_386
  rw [H16_91_eq, r_381_eq]
  rfl
theorem H16_93_eq : bodyRun.sl.H16_93 arg8 arg9 f8 f9 = canB arg8 arg9 f8 f9 93 := by
  unfold bodyRun.sl.H16_93 bodyRun.sl.r_391
  rw [H16_92_eq, r_384_eq]
  rfl
theorem H16_94_eq : bodyRun.sl.H16_94 arg8 arg9 f8 f9 = canB arg8 arg9 f8 f9 94 := by
  unfold bodyRun.sl.H16_94 bodyRun.sl.r_395
  rw [H16_93_eq, r_389_eq]
  rfl
theorem H16_95_eq : bodyRun.sl.H16_95 arg8 arg9 f8 f9 = canB arg8 arg9 f8 f9 95 := by
  unfold bodyRun.sl.H16_95 bodyRun.sl.r_399
  rw [H16_94_eq, r_393_eq]
  rfl
theorem H17_1_eq : bodyRun.sl.H17_1 arg5 arg6 f5 f6 = canV arg5 arg6 f5 f6 1 := by
  unfold bodyRun.sl.H17_1 bodyRun.sl.r_6 bodyRun.sl.r_2
  rfl
theorem H17_2_eq : bodyRun.sl.H17_2 arg5 arg6 f5 f6 = canV arg5 arg6 f5 f6 2 := by
  unfold bodyRun.sl.H17_2 bodyRun.sl.r_2
  rw [H17_1_eq]
  rfl
theorem H17_3_eq : bodyRun.sl.H17_3 arg5 arg6 f5 f6 = canV arg5 arg6 f5 f6 3 := by
  unfold bodyRun.sl.H17_3 bodyRun.sl.r_2
  rw [H17_2_eq]
  rfl
theorem H17_4_eq : bodyRun.sl.H17_4 arg5 arg6 f5 f6 = canV arg5 arg6 f5 f6 4 := by
  unfold bodyRun.sl.H17_4 bodyRun.sl.r_2
  rw [H17_3_eq]
  rfl
theorem H17_5_eq : bodyRun.sl.H17_5 arg5 arg6 f5 f6 = canV arg5 arg6 f5 f6 5 := by
  unfold bodyRun.sl.H17_5 bodyRun.sl.r_2
  rw [H17_4_eq]
  rfl
theorem H17_6_eq : bodyRun.sl.H17_6 arg5 arg6 f5 f6 = canV arg5 arg6 f5 f6 6 := by
  unfold bodyRun.sl.H17_6 bodyRun.sl.r_2
  rw [H17_5_eq]
  rfl
theorem H17_7_eq : bodyRun.sl.H17_7 arg5 arg6 f5 f6 = canV arg5 arg6 f5 f6 7 := by
  unfold bodyRun.sl.H17_7 bodyRun.sl.r_2
  rw [H17_6_eq]
  rfl
theorem H17_8_eq : bodyRun.sl.H17_8 arg5 arg6 f5 f6 = canV arg5 arg6 f5 f6 8 := by
  unfold bodyRun.sl.H17_8 bodyRun.sl.r_36 bodyRun.sl.r_37 bodyRun.sl.r_2
  rw [H17_7_eq]
  rfl
theorem H17_9_eq : bodyRun.sl.H17_9 arg5 arg6 f5 f6 = canV arg5 arg6 f5 f6 9 := by
  unfold bodyRun.sl.H17_9 bodyRun.sl.r_2
  rw [H17_8_eq]
  rfl
theorem H17_10_eq : bodyRun.sl.H17_10 arg5 arg6 f5 f6 = canV arg5 arg6 f5 f6 10 := by
  unfold bodyRun.sl.H17_10 bodyRun.sl.r_2
  rw [H17_9_eq]
  rfl
theorem H17_11_eq : bodyRun.sl.H17_11 arg5 arg6 f5 f6 = canV arg5 arg6 f5 f6 11 := by
  unfold bodyRun.sl.H17_11 bodyRun.sl.r_2
  rw [H17_10_eq]
  rfl
theorem H17_12_eq : bodyRun.sl.H17_12 arg5 arg6 f5 f6 = canV arg5 arg6 f5 f6 12 := by
  unfold bodyRun.sl.H17_12 bodyRun.sl.r_2
  rw [H17_11_eq]
  rfl
theorem H17_13_eq : bodyRun.sl.H17_13 arg5 arg6 f5 f6 = canV arg5 arg6 f5 f6 13 := by
  unfold bodyRun.sl.H17_13 bodyRun.sl.r_56 bodyRun.sl.r_2
  rw [H17_12_eq]
  rfl
theorem H17_14_eq : bodyRun.sl.H17_14 arg5 arg6 f5 f6 = canV arg5 arg6 f5 f6 14 := by
  unfold bodyRun.sl.H17_14 bodyRun.sl.r_2
  rw [H17_13_eq]
  rfl
theorem H17_15_eq : bodyRun.sl.H17_15 arg5 arg6 f5 f6 = canV arg5 arg6 f5 f6 15 := by
  unfold bodyRun.sl.H17_15 bodyRun.sl.r_2
  rw [H17_14_eq]
  rfl
theorem H17_16_eq : bodyRun.sl.H17_16 arg5 arg6 f5 f6 = canV arg5 arg6 f5 f6 16 := by
  unfold bodyRun.sl.H17_16 bodyRun.sl.r_2
  rw [H17_15_eq]
  rfl
theorem H17_17_eq : bodyRun.sl.H17_17 arg5 arg6 f5 f6 = canV arg5 arg6 f5 f6 17 := by
  unfold bodyRun.sl.H17_17 bodyRun.sl.r_2
  rw [H17_16_eq]
  rfl
theorem H17_18_eq : bodyRun.sl.H17_18 arg5 arg6 f5 f6 = canV arg5 arg6 f5 f6 18 := by
  unfold bodyRun.sl.H17_18 bodyRun.sl.r_2
  rw [H17_17_eq]
  rfl
theorem H17_19_eq : bodyRun.sl.H17_19 arg5 arg6 f5 f6 = canV arg5 arg6 f5 f6 19 := by
  unfold bodyRun.sl.H17_19 bodyRun.sl.r_2
  rw [H17_18_eq]
  rfl
theorem H17_20_eq : bodyRun.sl.H17_20 arg5 arg6 f5 f6 = canV arg5 arg6 f5 f6 20 := by
  unfold bodyRun.sl.H17_20 bodyRun.sl.r_86 bodyRun.sl.r_87 bodyRun.sl.r_2
  rw [H17_19_eq]
  rfl
theorem H17_21_eq : bodyRun.sl.H17_21 arg5 arg6 f5 f6 = canV arg5 arg6 f5 f6 21 := by
  unfold bodyRun.sl.H17_21 bodyRun.sl.r_2
  rw [H17_20_eq]
  rfl
theorem H17_22_eq : bodyRun.sl.H17_22 arg5 arg6 f5 f6 = canV arg5 arg6 f5 f6 22 := by
  unfold bodyRun.sl.H17_22 bodyRun.sl.r_2
  rw [H17_21_eq]
  rfl
theorem H17_23_eq : bodyRun.sl.H17_23 arg5 arg6 f5 f6 = canV arg5 arg6 f5 f6 23 := by
  unfold bodyRun.sl.H17_23 bodyRun.sl.r_2
  rw [H17_22_eq]
  rfl
theorem H17_24_eq : bodyRun.sl.H17_24 arg5 arg6 f5 f6 = canV arg5 arg6 f5 f6 24 := by
  unfold bodyRun.sl.H17_24 bodyRun.sl.r_2
  rw [H17_23_eq]
  rfl
theorem H17_25_eq : bodyRun.sl.H17_25 arg5 arg6 f5 f6 = canV arg5 arg6 f5 f6 25 := by
  unfold bodyRun.sl.H17_25 bodyRun.sl.r_106 bodyRun.sl.r_2
  rw [H17_24_eq]
  rfl
theorem H17_26_eq : bodyRun.sl.H17_26 arg5 arg6 f5 f6 = canV arg5 arg6 f5 f6 26 := by
  unfold bodyRun.sl.H17_26 bodyRun.sl.r_2
  rw [H17_25_eq]
  rfl
theorem H17_27_eq : bodyRun.sl.H17_27 arg5 arg6 f5 f6 = canV arg5 arg6 f5 f6 27 := by
  unfold bodyRun.sl.H17_27 bodyRun.sl.r_2
  rw [H17_26_eq]
  rfl
theorem H17_28_eq : bodyRun.sl.H17_28 arg5 arg6 f5 f6 = canV arg5 arg6 f5 f6 28 := by
  unfold bodyRun.sl.H17_28 bodyRun.sl.r_2
  rw [H17_27_eq]
  rfl
theorem H17_29_eq : bodyRun.sl.H17_29 arg5 arg6 f5 f6 = canV arg5 arg6 f5 f6 29 := by
  unfold bodyRun.sl.H17_29 bodyRun.sl.r_2
  rw [H17_28_eq]
  rfl
theorem H17_30_eq : bodyRun.sl.H17_30 arg5 arg6 f5 f6 = canV arg5 arg6 f5 f6 30 := by
  unfold bodyRun.sl.H17_30 bodyRun.sl.r_2
  rw [H17_29_eq]
  rfl
theorem H17_31_eq : bodyRun.sl.H17_31 arg5 arg6 f5 f6 = canV arg5 arg6 f5 f6 31 := by
  unfold bodyRun.sl.H17_31 bodyRun.sl.r_2
  rw [H17_30_eq]
  rfl
theorem H17_32_eq : bodyRun.sl.H17_32 arg5 arg6 f5 f6 = canV arg5 arg6 f5 f6 32 := by
  unfold bodyRun.sl.H17_32 bodyRun.sl.r_135 bodyRun.sl.r_136 bodyRun.sl.r_2
  rw [H17_31_eq]
  rfl
theorem H17_33_eq : bodyRun.sl.H17_33 arg5 arg6 f5 f6 = canV arg5 arg6 f5 f6 33 := by
  unfold bodyRun.sl.H17_33 bodyRun.sl.r_139
  rw [H17_32_eq]
  rfl
theorem H17_34_eq : bodyRun.sl.H17_34 arg5 arg6 f5 f6 = canV arg5 arg6 f5 f6 34 := by
  unfold bodyRun.sl.H17_34 bodyRun.sl.r_139
  rw [H17_33_eq]
  rfl
theorem H17_35_eq : bodyRun.sl.H17_35 arg5 arg6 f5 f6 = canV arg5 arg6 f5 f6 35 := by
  unfold bodyRun.sl.H17_35 bodyRun.sl.r_139
  rw [H17_34_eq]
  rfl
theorem H17_36_eq : bodyRun.sl.H17_36 arg5 arg6 f5 f6 = canV arg5 arg6 f5 f6 36 := by
  unfold bodyRun.sl.H17_36 bodyRun.sl.r_139
  rw [H17_35_eq]
  rfl
theorem H17_37_eq : bodyRun.sl.H17_37 arg5 arg6 f5 f6 = canV arg5 arg6 f5 f6 37 := by
  unfold bodyRun.sl.H17_37 bodyRun.sl.r_139
  rw [H17_36_eq]
  rfl
theorem H17_38_eq : bodyRun.sl.H17_38 arg5 arg6 f5 f6 = canV arg5 arg6 f5 f6 38 := by
  unfold bodyRun.sl.H17_38 bodyRun.sl.r_164 bodyRun.sl.r_165 bodyRun.sl.r_139
  rw [H17_37_eq]
  rfl
theorem H17_39_eq : bodyRun.sl.H17_39 arg5 arg6 f5 f6 = canV arg5 arg6 f5 f6 39 := by
  unfold bodyRun.sl.H17_39 bodyRun.sl.r_139
  rw [H17_38_eq]
  rfl
theorem H17_40_eq : bodyRun.sl.H17_40 arg5 arg6 f5 f6 = canV arg5 arg6 f5 f6 40 := by
  unfold bodyRun.sl.H17_40 bodyRun.sl.r_139
  rw [H17_39_eq]
  rfl
theorem H17_41_eq : bodyRun.sl.H17_41 arg5 arg6 f5 f6 = canV arg5 arg6 f5 f6 41 := by
  unfold bodyRun.sl.H17_41 bodyRun.sl.r_139
  rw [H17_40_eq]
  rfl
theorem H17_42_eq : bodyRun.sl.H17_42 arg5 arg6 f5 f6 = canV arg5 arg6 f5 f6 42 := by
  unfold bodyRun.sl.H17_42 bodyRun.sl.r_139
  rw [H17_41_eq]
  rfl
theorem H17_43_eq : bodyRun.sl.H17_43 arg5 arg6 f5 f6 = canV arg5 arg6 f5 f6 43 := by
  unfold bodyRun.sl.H17_43 bodyRun.sl.r_184 bodyRun.sl.r_139
  rw [H17_42_eq]
  rfl
theorem H17_44_eq : bodyRun.sl.H17_44 arg5 arg6 f5 f6 = canV arg5 arg6 f5 f6 44 := by
  unfold bodyRun.sl.H17_44 bodyRun.sl.r_139
  rw [H17_43_eq]
  rfl
theorem H17_45_eq : bodyRun.sl.H17_45 arg5 arg6 f5 f6 = canV arg5 arg6 f5 f6 45 := by
  unfold bodyRun.sl.H17_45 bodyRun.sl.r_139
  rw [H17_44_eq]
  rfl
theorem H17_46_eq : bodyRun.sl.H17_46 arg5 arg6 f5 f6 = canV arg5 arg6 f5 f6 46 := by
  unfold bodyRun.sl.H17_46 bodyRun.sl.r_139
  rw [H17_45_eq]
  rfl
theorem H17_47_eq : bodyRun.sl.H17_47 arg5 arg6 f5 f6 = canV arg5 arg6 f5 f6 47 := by
  unfold bodyRun.sl.H17_47 bodyRun.sl.r_139
  rw [H17_46_eq]
  rfl
theorem H17_48_eq : bodyRun.sl.H17_48 arg5 arg6 f5 f6 = canV arg5 arg6 f5 f6 48 := by
  unfold bodyRun.sl.H17_48 bodyRun.sl.r_139
  rw [H17_47_eq]
  rfl
theorem H17_49_eq : bodyRun.sl.H17_49 arg5 arg6 f5 f6 = canV arg5 arg6 f5 f6 49 := by
  unfold bodyRun.sl.H17_49 bodyRun.sl.r_139
  rw [H17_48_eq]
  rfl
theorem H17_50_eq : bodyRun.sl.H17_50 arg5 arg6 f5 f6 = canV arg5 arg6 f5 f6 50 := by
  unfold bodyRun.sl.H17_50 bodyRun.sl.r_213 bodyRun.sl.r_214 bodyRun.sl.r_139
  rw [H17_49_eq]
  rfl
theorem H17_51_eq : bodyRun.sl.H17_51 arg5 arg6 f5 f6 = canV arg5 arg6 f5 f6 51 := by
  unfold bodyRun.sl.H17_51 bodyRun.sl.r_139
  rw [H17_50_eq]
  rfl
theorem H17_52_eq : bodyRun.sl.H17_52 arg5 arg6 f5 f6 = canV arg5 arg6 f5 f6 52 := by
  unfold bodyRun.sl.H17_52 bodyRun.sl.r_139
  rw [H17_51_eq]
  rfl
theorem H17_53_eq : bodyRun.sl.H17_53 arg5 arg6 f5 f6 = canV arg5 arg6 f5 f6 53 := by
  unfold bodyRun.sl.H17_53 bodyRun.sl.r_139
  rw [H17_52_eq]
  rfl
theorem H17_54_eq : bodyRun.sl.H17_54 arg5 arg6 f5 f6 = canV arg5 arg6 f5 f6 54 := by
  unfold bodyRun.sl.H17_54 bodyRun.sl.r_139
  rw [H17_53_eq]
  rfl
theorem H17_55_eq : bodyRun.sl.H17_55 arg5 arg6 f5 f6 = canV arg5 arg6 f5 f6 55 := by
  unfold bodyRun.sl.H17_55 bodyRun.sl.r_233 bodyRun.sl.r_139
  rw [H17_54_eq]
  rfl
theorem H17_56_eq : bodyRun.sl.H17_56 arg5 arg6 f5 f6 = canV arg5 arg6 f5 f6 56 := by
  unfold bodyRun.sl.H17_56 bodyRun.sl.r_139
  rw [H17_55_eq]
  rfl
theorem H17_57_eq : bodyRun.sl.H17_57 arg5 arg6 f5 f6 = canV arg5 arg6 f5 f6 57 := by
  unfold bodyRun.sl.H17_57 bodyRun.sl.r_139
  rw [H17_56_eq]
  rfl
theorem H17_58_eq : bodyRun.sl.H17_58 arg5 arg6 f5 f6 = canV arg5 arg6 f5 f6 58 := by
  unfold bodyRun.sl.H17_58 bodyRun.sl.r_139
  rw [H17_57_eq]
  rfl
theorem H17_59_eq : bodyRun.sl.H17_59 arg5 arg6 f5 f6 = canV arg5 arg6 f5 f6 59 := by
  unfold bodyRun.sl.H17_59 bodyRun.sl.r_139
  rw [H17_58_eq]
  rfl
theorem H17_60_eq : bodyRun.sl.H17_60 arg5 arg6 f5 f6 = canV arg5 arg6 f5 f6 60 := by
  unfold bodyRun.sl.H17_60 bodyRun.sl.r_139
  rw [H17_59_eq]
  rfl
theorem H17_61_eq : bodyRun.sl.H17_61 arg5 arg6 f5 f6 = canV arg5 arg6 f5 f6 61 := by
  unfold bodyRun.sl.H17_61 bodyRun.sl.r_139
  rw [H17_60_eq]
  rfl
theorem H17_62_eq : bodyRun.sl.H17_62 arg5 arg6 f5 f6 = canV arg5 arg6 f5 f6 62 := by
  unfold bodyRun.sl.H17_62 bodyRun.sl.r_262 bodyRun.sl.r_263 bodyRun.sl.r_139
  rw [H17_61_eq]
  rfl
theorem H17_63_eq : bodyRun.sl.H17_63 arg5 arg6 f5 f6 = canV arg5 arg6 f5 f6 63 := by
  unfold bodyRun.sl.H17_63 bodyRun.sl.r_139
  rw [H17_62_eq]
  rfl
theorem H17_64_eq : bodyRun.sl.H17_64 arg5 arg6 f5 f6 = canV arg5 arg6 f5 f6 64 := by
  unfold bodyRun.sl.H17_64 bodyRun.sl.r_139
  rw [H17_63_eq]
  rfl
theorem H17_65_eq : bodyRun.sl.H17_65 arg5 arg6 f5 f6 = canV arg5 arg6 f5 f6 65 := by
  unfold bodyRun.sl.H17_65 bodyRun.sl.r_273
  rw [H17_64_eq]
  rfl
theorem H17_66_eq : bodyRun.sl.H17_66 arg5 arg6 f5 f6 = canV arg5 arg6 f5 f6 66 := by
  unfold bodyRun.sl.H17_66 bodyRun.sl.r_273
  rw [H17_65_eq]
  rfl
theorem H17_67_eq : bodyRun.sl.H17_67 arg5 arg6 f5 f6 = canV arg5 arg6 f5 f6 67 := by
  unfold bodyRun.sl.H17_67 bodyRun.sl.r_273
  rw [H17_66_eq]
  rfl
theorem H17_68_eq : bodyRun.sl.H17_68 arg5 arg6 f5 f6 = canV arg5 arg6 f5 f6 68 := by
  unfold bodyRun.sl.H17_68 bodyRun.sl.r_290 bodyRun.sl.r_273
  rw [H17_67_eq]
  rfl
theorem H17_69_eq : bodyRun.sl.H17_69 arg5 arg6 f5 f6 = canV arg5 arg6 f5 f6 69 := by
  unfold bodyRun.sl.H17_69 bodyRun.sl.r_273
  rw [H17_68_eq]
  rfl
theorem H17_70_eq : bodyRun.sl.H17_70 arg5 arg6 f5 f6 = canV arg5 arg6 f5 f6 70 := by
  unfold bodyRun.sl.H17_70 bodyRun.sl.r_273
  rw [H17_69_eq]
  rfl
theorem H17_71_eq : bodyRun.sl.H17_71 arg5 arg6 f5 f6 = canV arg5 arg6 f5 f6 71 := by
  unfold bodyRun.sl.H17_71 bodyRun.sl.r_273
  rw [H17_70_eq]
  rfl
theorem H17_72_eq : bodyRun.sl.H17_72 arg5 arg6 f5 f6 = canV arg5 arg6 f5 f6 72 := by
  unfold bodyRun.sl.H17_72 bodyRun.sl.r_273
  rw [H17_71_eq]
  rfl
theorem H17_73_eq : bodyRun.sl.H17_73 arg5 arg6 f5 f6 = canV arg5 arg6 f5 f6 73 := by
  unfold bodyRun.sl.H17_73 bodyRun.sl.r_310 bodyRun.sl.r_273
  rw [H17_72_eq]
  rfl
theorem H17_74_eq : bodyRun.sl.H17_74 arg5 arg6 f5 f6 = canV arg5 arg6 f5 f6 74 := by
  unfold bodyRun.sl.H17_74 bodyRun.sl.r_273
  rw [H17_73_eq]
  rfl
theorem H17_75_eq : bodyRun.sl.H17_75 arg5 arg6 f5 f6 = canV arg5 arg6 f5 f6 75 := by
  unfold bodyRun.sl.H17_75 bodyRun.sl.r_273 bodyRun.sl.r_319
  rw [H17_74_eq]
  rfl
theorem H17_76_eq : bodyRun.sl.H17_76 arg5 arg6 f5 f6 = canV arg5 arg6 f5 f6 76 := by
  unfold bodyRun.sl.H17_76 bodyRun.sl.r_273
  rw [H17_75_eq]
  rfl
theorem H17_77_eq : bodyRun.sl.H17_77 arg5 arg6 f5 f6 = canV arg5 arg6 f5 f6 77 := by
  unfold bodyRun.sl.H17_77 bodyRun.sl.r_273
  rw [H17_76_eq]
  rfl
theorem H17_78_eq : bodyRun.sl.H17_78 arg5 arg6 f5 f6 = canV arg5 arg6 f5 f6 78 := by
  unfold bodyRun.sl.H17_78 bodyRun.sl.r_273
  rw [H17_77_eq]
  rfl
theorem H17_79_eq : bodyRun.sl.H17_79 arg5 arg6 f5 f6 = canV arg5 arg6 f5 f6 79 := by
  unfold bodyRun.sl.H17_79 bodyRun.sl.r_273
  rw [H17_78_eq]
  rfl
theorem H17_80_eq : bodyRun.sl.H17_80 arg5 arg6 f5 f6 = canV arg5 arg6 f5 f6 80 := by
  unfold bodyRun.sl.H17_80 bodyRun.sl.r_339 bodyRun.sl.r_273
  rw [H17_79_eq]
  rfl
theorem H17_81_eq : bodyRun.sl.H17_81 arg5 arg6 f5 f6 = canV arg5 arg6 f5 f6 81 := by
  unfold bodyRun.sl.H17_81 bodyRun.sl.r_273
  rw [H17_80_eq]
  rfl
theorem H17_82_eq : bodyRun.sl.H17_82 arg5 arg6 f5 f6 = canV arg5 arg6 f5 f6 82 := by
  unfold bodyRun.sl.H17_82 bodyRun.sl.r_273
  rw [H17_81_eq]
  rfl
theorem H17_83_eq : bodyRun.sl.H17_83 arg5 arg6 f5 f6 = canV arg5 arg6 f5 f6 83 := by
  unfold bodyRun.sl.H17_83 bodyRun.sl.r_273
  rw [H17_82_eq]
  rfl
theorem H17_84_eq : bodyRun.sl.H17_84 arg5 arg6 f5 f6 = canV arg5 arg6 f5 f6 84 := by
  unfold bodyRun.sl.H17_84 bodyRun.sl.r_273
  rw [H17_83_eq]
  rfl
theorem H17_85_eq : bodyRun.sl.H17_85 arg5 arg6 f5 f6 = canV arg5 arg6 f5 f6 85 := by
  unfold bodyRun.sl.H17_85 bodyRun.sl.r_359 bodyRun.sl.r_273
  rw [H17_84_eq]
  rfl
theorem H17_86_eq : bodyRun.sl.H17_86 arg5 arg6 f5 f6 = canV arg5 arg6 f5 f6 86 := by
  unfold bodyRun.sl.H17_86 bodyRun.sl.r_273
  rw [H17_85_eq]
  rfl
theorem H17_87_eq : bodyRun.sl.H17_87 arg5 arg6 f5 f6 = canV arg5 arg6 f5 f6 87 := by
  unfold bodyRun.sl.H17_87 bodyRun.sl.r_273 bodyRun.sl.r_368
  rw [H17_86_eq]
  rfl
theorem H17_88_eq : bodyRun.sl.H17_88 arg5 arg6 f5 f6 = canV arg5 arg6 f5 f6 88 := by
  unfold bodyRun.sl.H17_88 bodyRun.sl.r_273
  rw [H17_87_eq]
  rfl
theorem H17_89_eq : bodyRun.sl.H17_89 arg5 arg6 f5 f6 = canV arg5 arg6 f5 f6 89 := by
  unfold bodyRun.sl.H17_89 bodyRun.sl.r_273
  rw [H17_88_eq]
  rfl
theorem H17_90_eq : bodyRun.sl.H17_90 arg5 arg6 f5 f6 = canV arg5 arg6 f5 f6 90 := by
  unfold bodyRun.sl.H17_90 bodyRun.sl.r_273
  rw [H17_89_eq]
  rfl
theorem H17_91_eq : bodyRun.sl.H17_91 arg5 arg6 f5 f6 = canV arg5 arg6 f5 f6 91 := by
  unfold bodyRun.sl.H17_91 bodyRun.sl.r_273
  rw [H17_90_eq]
  rfl
theorem H17_92_eq : bodyRun.sl.H17_92 arg5 arg6 f5 f6 = canV arg5 arg6 f5 f6 92 := by
  unfold bodyRun.sl.H17_92 bodyRun.sl.r_388 bodyRun.sl.r_273
  rw [H17_91_eq]
  rfl
theorem H17_93_eq : bodyRun.sl.H17_93 arg5 arg6 f5 f6 = canV arg5 arg6 f5 f6 93 := by
  unfold bodyRun.sl.H17_93 bodyRun.sl.r_273
  rw [H17_92_eq]
  rfl
theorem H17_94_eq : bodyRun.sl.H17_94 arg5 arg6 f5 f6 = canV arg5 arg6 f5 f6 94 := by
  unfold bodyRun.sl.H17_94 bodyRun.sl.r_273
  rw [H17_93_eq]
  rfl
theorem H17_95_eq : bodyRun.sl.H17_95 arg5 arg6 f5 f6 = canV arg5 arg6 f5 f6 95 := by
  unfold bodyRun.sl.H17_95 bodyRun.sl.r_273
  rw [H17_94_eq]
  rfl
theorem H18_1_eq : bodyRun.sl.H18_1 arg9 f9 = canD arg9 f9 1 := by
  unfold bodyRun.sl.H18_1 bodyRun.sl.r_132
  rw [r_128_eq]
  rfl
theorem H18_2_eq : bodyRun.sl.H18_2 arg9 f9 = canD arg9 f9 2 := by
  unfold bodyRun.sl.H18_2 bodyRun.sl.r_267
  rw [H18_1_eq, r_264_eq]
  rfl

end Cert.KernelIdeal.Hand

end
-- ==== Proof.Stage.lean ====
/-
  The staged rows over real numbers: when a chunk's blocks hold real numbers, the scratch buffers end at the scaled rows
  the chunk's closed form is written in.
-/
module

public import proofs.«01_k».proof.Proof.Canon
public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A token's rows, read at an entry. -/
theorem tok96_apply {e : EltTy} (arg : Memref sig .tc .vmem S3x32x40x96 e) (f : BufTy.Contents (Elt Ideal) arg.view.ty) (p : Fin 3) (j : Fin 32)
    (h : Fin 40) (x : Fin 96) : tok96 (F := Ideal) arg f p.val j.val (ix4 0 0 h x) = arg.view.read (Elt Ideal) f (ix4 p j h x) := by
  unfold tok96
  rw [View.readAt_apply]
  refine congrArg _ (funext fun a => Fin.ext ?_)
  fin_cases a
  · show p.val % 3 + 1 * 0 = p.val; omega
  · show j.val % 32 + 1 * 0 = j.val; omega
  · show 0 + 1 * h.val = h.val; omega
  · show 0 + 1 * x.val = x.val; omega

/-- A token's rows, read at an entry. -/
theorem tok64_apply {e : EltTy} (arg : Memref sig .tc .vmem S3x32x40x64 e) (f : BufTy.Contents (Elt Ideal) arg.view.ty) (p : Fin 3) (j : Fin 32)
    (h : Fin 40) (x : Fin 64) : tok64 (F := Ideal) arg f p.val j.val (ix4 0 0 h x) = arg.view.read (Elt Ideal) f (ix4 p j h x) := by
  unfold tok64
  rw [View.readAt_apply]
  refine congrArg _ (funext fun a => Fin.ext ?_)
  fin_cases a
  · show p.val % 3 + 1 * 0 = p.val; omega
  · show j.val % 32 + 1 * 0 = j.val; omega
  · show 0 + 1 * h.val = h.val; omega
  · show 0 + 1 * x.val = x.val; omega

/-- A token's scale, read at a head. -/
theorem sclVec_apply (X : FVec Ideal S1x32x40 .f32) (t : ℕ) (ht : t < 32) (h : Fin 40) :
    extractStridedSlice S40x1 ![0, t % 32] (transpose S40x32 [1, 0] (shapeCast S32x40 X shapeCasts_S1x32x40_S32x40) transposes_S32x40_p1_0_S40x32) (slicesCol t) (ix2 h 0)
      = X (ix3 0 ⟨t, ht⟩ h) := by
  have e : t % 32 = t := Nat.mod_eq_of_lt ht
  pointwise
  refine congrArg X ?_
  refine funext fun a => Fin.ext ?_
  fin_cases a <;> simp [e]

theorem scl_apply (arg : Memref sig .tc .vmem S3x32x40 .f32) (f : BufTy.Contents (Elt Ideal) arg.view.ty) (p : Fin 3) (j : Fin 32)
    (h : Fin 40) : scl (F := Ideal) arg f p.val j.val (ix2 h 0) = arg.view.read (Elt Ideal) f (ix3 p j h) := by
  unfold scl
  rw [sclVec_apply _ j.val j.isLt, View.readAt_apply]
  refine congrArg _ (funext fun a => Fin.ext ?_)
  fin_cases a
  · show p.val % 3 + 1 * 0 = p.val; omega
  · show 0 + 1 * j.val = j.val; omega
  · show 0 + 1 * h.val = h.val; omega

/-- The row arithmetic at an entry. -/
theorem scaled_apply (X : FVec Ideal S1x1x40x96 .fp8e4m3) (c : FVec Ideal S40x1 .f32) (E : FVec Ideal S40x96 .f32) (h : Fin 40) (x : Fin 96) :
    shapeCast S1x40x96 (mulf (mulf (extf .f32 (shapeCast S40x96 X shapeCasts_S1x1x40x96_S40x96) bitsLt_fp8e4m3_f32) (broadcastTo S40x96 c broadcasts_S40x1_S40x96)) E) shapeCasts_S40x96_S1x40x96 (ix3 0 h x)
      = X (ix4 0 0 h x) * c (ix2 h 0) * E (ix2 h x) := by
  pointwise
theorem plain_apply (X : FVec Ideal S1x1x40x96 .bf16) (E : FVec Ideal S40x96 .f32) (h : Fin 40) (x : Fin 96) :
    shapeCast S1x40x96 (mulf (extf .f32 (shapeCast S40x96 X shapeCasts_S1x1x40x96_S40x96) bitsLt_bf16_f32) E) shapeCasts_S40x96_S1x40x96 (ix3 0 h x)
      = X (ix4 0 0 h x) * E (ix2 h x) := by
  pointwise
theorem scaledV_apply (X : FVec Ideal S1x1x40x64 .fp8e4m3) (c : FVec Ideal S40x1 .f32) (h : Fin 40) (x : Fin 64) :
    shapeCast S1x40x64 (mulf (extf .f32 (shapeCast S40x64 X shapeCasts_S1x1x40x64_S40x64) bitsLt_fp8e4m3_f32) (broadcastTo S40x64 c broadcasts_S40x1_S40x64)) shapeCasts_S40x64_S1x40x64 (ix3 0 h x)
      = X (ix4 0 0 h x) * c (ix2 h 0) := by
  pointwise
theorem addRow_apply (G : FVec Ideal S40x96 .f32) (X : FVec Ideal S1x1x40x96 .f32) (h : Fin 40) (x : Fin 96) :
    addf G (shapeCast S40x96 X shapeCasts_S1x1x40x96_S40x96) (ix2 h x) = G (ix2 h x) + X (ix4 0 0 h x) := by
  pointwise
theorem dec_apply (G : FVec Ideal S40x96 .f32) (h : Fin 40) (x : Fin 96) :
    shapeCast S1x40x96 (exp G) shapeCasts_S40x96_S1x40x96 (ix3 0 h x) = Ideal.exp (G (ix2 h x)) := by
  pointwise
theorem expG_apply (G : FVec Ideal S40x96 .f32) (h : Fin 40) (x : Fin 96) : exp G (ix2 h x) = Ideal.exp (G (ix2 h x)) := by
  pointwise
theorem expNeg_apply (G : FVec Ideal S40x96 .f32) (h : Fin 40) (x : Fin 96) :
    exp (subf (broadcast S40x96 (Scalar.ofBits .f32 0x00000000#32)) G) (ix2 h x) = Ideal.exp (0 - G (ix2 h x)) := by
  pointwise
theorem ones_apply (h : Fin 40) (x : Fin 96) : k0_pay101 (F := Ideal) (ix2 h x) = 1 := by
  pointwise [k0_pay101]
theorem zeros_apply (h : Fin 40) (x : Fin 96) : broadcast S40x96 (Scalar.ofBits (F := Ideal) .f32 0x00000000#32) (ix2 h x) = 0 := by
  pointwise

/-- The first `n` stores of a row family: rows stored so far read back. -/
theorem read_can96 (arg : Memref sig .tc .vmem S3x1320x128 .f32) (f : BufTy.Contents (Elt Ideal) arg.view.ty)
    (row : ℕ → ℕ → FVec Ideal S1x40x96 .f32) (L : ℕ → List (View.Piece (Elt Ideal) S3x1320x128 .f32))
    (hL : ∀ n, L (n + 1) = ⟨Rect.unit (s := S3x1320x128) ![(n / 32) % 3, 41 * (n % 32 % 32), 0] S1x40x96.size (inbRow96 (n / 32) (n % 32)), row (n / 32) (n % 32)⟩ :: L n)
    (p : Fin 3) (j : Fin 32) (h : Fin 40) (x : Fin 96) : ∀ n ≤ 96, 32 * p.val + j.val < n →
      arg.view.read (Elt Ideal) (arg.view.writes (Elt Ideal) f (L n)) (ix3 p ⟨41 * j.val + h.val, by omega⟩ ⟨x.val, by omega⟩)
        = row p.val j.val (ix3 0 h x) := by
  intro n
  induction n with
  | zero => intro _ hn; omega
  | succ n ih =>
    intro hn hlt
    rw [hL]
    by_cases e : n = 32 * p.val + j.val
    · have e1 : n / 32 = p.val := by omega
      have e2 : n % 32 = j.val := by omega
      rw [View.read_writes_cons_unit_of_mem arg.view f (inbRow96 (n / 32) (n % 32)) (row (n / 32) (n % 32)) (L n)
        (ix3 p ⟨41 * j.val + h.val, by omega⟩ ⟨x.val, by omega⟩) (ix3 0 h x) rfl (by
          intro a; fin_cases a
          · show p.val = (n / 32) % 3 + 0; omega
          · show 41 * j.val + h.val = 41 * (n % 32 % 32) + h.val; omega
          · show x.val = 0 + x.val; omega), e1, e2]
    · by_cases ep : n / 32 = p.val
      · rw [View.read_writes_cons_unit_of_not_mem arg.view f (inbRow96 (n / 32) (n % 32)) (row (n / 32) (n % 32)) (L n)
          (ix3 p ⟨41 * j.val + h.val, by omega⟩ ⟨x.val, by omega⟩) rfl 1 (by
            show 41 * j.val + h.val < 41 * (n % 32 % 32) ∨ 41 * (n % 32 % 32) + 40 ≤ 41 * j.val + h.val; omega)]
        exact ih (by omega) (by omega)
      · rw [View.read_writes_cons_unit_of_not_mem arg.view f (inbRow96 (n / 32) (n % 32)) (row (n / 32) (n % 32)) (L n)
          (ix3 p ⟨41 * j.val + h.val, by omega⟩ ⟨x.val, by omega⟩) rfl 0 (by
            show p.val < (n / 32) % 3 ∨ (n / 32) % 3 + 1 ≤ p.val; omega)]
        exact ih (by omega) (by omega)

/-- The first `n` stores of a row family: rows stored so far read back. -/
theorem read_can64 (arg : Memref sig .tc .vmem S3x1320x128 .f32) (f : BufTy.Contents (Elt Ideal) arg.view.ty)
    (row : ℕ → ℕ → FVec Ideal S1x40x64 .f32) (L : ℕ → List (View.Piece (Elt Ideal) S3x1320x128 .f32))
    (hL : ∀ n, L (n + 1) = ⟨Rect.unit (s := S3x1320x128) ![(n / 32) % 3, 41 * (n % 32 % 32), 0] S1x40x64.size (inbRow64 (n / 32) (n % 32)), row (n / 32) (n % 32)⟩ :: L n)
    (p : Fin 3) (j : Fin 32) (h : Fin 40) (x : Fin 64) : ∀ n ≤ 96, 32 * p.val + j.val < n →
      arg.view.read (Elt Ideal) (arg.view.writes (Elt Ideal) f (L n)) (ix3 p ⟨41 * j.val + h.val, by omega⟩ ⟨x.val, by omega⟩)
        = row p.val j.val (ix3 0 h x) := by
  intro n
  induction n with
  | zero => intro _ hn; omega
  | succ n ih =>
    intro hn hlt
    rw [hL]
    by_cases e : n = 32 * p.val + j.val
    · have e1 : n / 32 = p.val := by omega
      have e2 : n % 32 = j.val := by omega
      rw [View.read_writes_cons_unit_of_mem arg.view f (inbRow64 (n / 32) (n % 32)) (row (n / 32) (n % 32)) (L n)
        (ix3 p ⟨41 * j.val + h.val, by omega⟩ ⟨x.val, by omega⟩) (ix3 0 h x) rfl (by
          intro a; fin_cases a
          · show p.val = (n / 32) % 3 + 0; omega
          · show 41 * j.val + h.val = 41 * (n % 32 % 32) + h.val; omega
          · show x.val = 0 + x.val; omega), e1, e2]
    · by_cases ep : n / 32 = p.val
      · rw [View.read_writes_cons_unit_of_not_mem arg.view f (inbRow64 (n / 32) (n % 32)) (row (n / 32) (n % 32)) (L n)
          (ix3 p ⟨41 * j.val + h.val, by omega⟩ ⟨x.val, by omega⟩) rfl 1 (by
            show 41 * j.val + h.val < 41 * (n % 32 % 32) ∨ 41 * (n % 32 % 32) + 40 ≤ 41 * j.val + h.val; omega)]
        exact ih (by omega) (by omega)
      · rw [View.read_writes_cons_unit_of_not_mem arg.view f (inbRow64 (n / 32) (n % 32)) (row (n / 32) (n % 32)) (L n)
          (ix3 p ⟨41 * j.val + h.val, by omega⟩ ⟨x.val, by omega⟩) rfl 0 (by
            show p.val < (n / 32) % 3 ∨ (n / 32) % 3 + 1 ≤ p.val; omega)]
        exact ih (by omega) (by omega)

variable (arg1 : Memref sig .tc .vmem S3x32x40x96 .fp8e4m3) (arg2 : Memref sig .tc .vmem S3x32x40 .f32) (arg3 : Memref sig .tc .vmem S3x32x40x96 .fp8e4m3) (arg4 : Memref sig .tc .vmem S3x32x40 .f32) (arg5 : Memref sig .tc .vmem S3x32x40x64 .fp8e4m3) (arg6 : Memref sig .tc .vmem S3x32x40 .f32) (arg7 : Memref sig .tc .vmem S3x32x40x96 .bf16) (arg8 : Memref sig .tc .vmem S3x32x40x96 .bf16) (arg9 : Memref sig .tc .vmem S3x32x40x96 .f32)
  (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty)

/-- The blocks of a chunk hold the real numbers `D`: the scaled rows of `r`, `k`, `v`, and the rows of `a`, `b`, `w`. -/
structure Inputs (D : Data) : Prop where
  hr : ∀ (p : Fin 3) (h : Fin 40) (j : Fin 32) (x : Fin 96), (arg1.view.read (Elt Ideal) f1 (ix4 p j h x) * arg2.view.read (Elt Ideal) f2 (ix3 p j h) : EReal) = (D.r p h j x : EReal)
  hk : ∀ (p : Fin 3) (h : Fin 40) (j : Fin 32) (x : Fin 96), (arg3.view.read (Elt Ideal) f3 (ix4 p j h x) * arg4.view.read (Elt Ideal) f4 (ix3 p j h) : EReal) = (D.k p h j x : EReal)
  hv : ∀ (p : Fin 3) (h : Fin 40) (j : Fin 32) (x : Fin 64), (arg5.view.read (Elt Ideal) f5 (ix4 p j h x) * arg6.view.read (Elt Ideal) f6 (ix3 p j h) : EReal) = (D.v p h j x : EReal)
  ha : ∀ (p : Fin 3) (h : Fin 40) (j : Fin 32) (x : Fin 96), arg7.view.read (Elt Ideal) f7 (ix4 p j h x) = (D.a p h j x : EReal)
  hb : ∀ (p : Fin 3) (h : Fin 40) (j : Fin 32) (x : Fin 96), arg8.view.read (Elt Ideal) f8 (ix4 p j h x) = (D.b p h j x : EReal)
  hw : ∀ (p : Fin 3) (h : Fin 40) (j : Fin 32) (x : Fin 96), arg9.view.read (Elt Ideal) f9 (ix4 p j h x) = (D.w p h j x : EReal)

variable {arg1 arg2 arg3 arg4 arg5 arg6 arg7 arg8 arg9 f1 f2 f3 f4 f5 f6 f7 f8 f9} {D : Data}

/-- The running log-decay is the real sum. -/
theorem Gv_real (H : Inputs arg1 arg2 arg3 arg4 arg5 arg6 arg7 arg8 arg9 f1 f2 f3 f4 f5 f6 f7 f8 f9 D) (p : Fin 3) (h : Fin 40) (x : Fin 96) :
    ∀ n ≤ 32, Gv (F := Ideal) arg9 f9 p.val n (ix2 h x) = (Chunk.Gs (D.w p h) n x : EReal)
  | 0, _ => by
    show broadcast S40x96 (Scalar.ofBits (F := Ideal) .f32 0x00000000#32) (ix2 h x) = _
    rw [zeros_apply]; simp [Chunk.Gs]
  | n + 1, hn => by
    rw [Gv_succ, addRow_apply, Gv_real H p h x n (by omega), Chunk.Gs_succ, EReal.coe_add]
    have := tok96_apply arg9 f9 p ⟨n, by omega⟩ h x
    rw [show tok96 arg9 f9 p.val n = tok96 arg9 f9 p.val (⟨n, by omega⟩ : Fin 32).val from rfl, this, H.hw]

theorem ePrev_real (H : Inputs arg1 arg2 arg3 arg4 arg5 arg6 arg7 arg8 arg9 f1 f2 f3 f4 f5 f6 f7 f8 f9 D) (p : Fin 3) (h : Fin 40) (x : Fin 96) :
    ∀ n < 32, ePrev (F := Ideal) arg9 f9 p.val n (ix2 h x) = (Real.exp (Chunk.Gs (D.w p h) n x) : EReal)
  | 0, _ => by
    show k0_pay101 (F := Ideal) (ix2 h x) = _
    rw [ones_apply]; simp [Chunk.Gs]
  | n + 1, hn => by
    show exp (Gv (F := Ideal) arg9 f9 p.val (n + 1)) (ix2 h x) = _
    rw [expG_apply, Gv_real H p h x (n + 1) (by omega), Ideal.exp_coe]

theorem eNeg_real (H : Inputs arg1 arg2 arg3 arg4 arg5 arg6 arg7 arg8 arg9 f1 f2 f3 f4 f5 f6 f7 f8 f9 D) (p : Fin 3) (h : Fin 40) (x : Fin 96)
    (n : ℕ) (hn : n < 32) : eNeg (F := Ideal) arg9 f9 p.val n (ix2 h x) = (Real.exp (-Chunk.Gs (D.w p h) (n + 1) x) : EReal) := by
  unfold eNeg
  rw [expNeg_apply, Gv_real H p h x (n + 1) (by omega), zero_sub, ← EReal.coe_neg, Ideal.exp_coe]

/-- After all the stores of the staging part, the scratch buffers hold the scaled rows and the decays. -/
theorem staged_real (H : Inputs arg1 arg2 arg3 arg4 arg5 arg6 arg7 arg8 arg9 f1 f2 f3 f4 f5 f6 f7 f8 f9 D)
    (arg13 : Memref sig .tc .vmem S3x1320x128 .f32) (arg14 : Memref sig .tc .vmem S3x1320x128 .f32) (arg15 : Memref sig .tc .vmem S3x1320x128 .f32) (arg16 : Memref sig .tc .vmem S3x1320x128 .f32) (arg17 : Memref sig .tc .vmem S3x1320x128 .f32) (arg18 : Memref sig .tc .vmem S3x40x128 .f32)
    (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) :
    Staged arg13 arg14 arg15 arg16 arg17 arg18
      (arg13.view.writes (Elt Ideal) f13 (canR arg1 arg2 arg9 f1 f2 f9 96)) (arg14.view.writes (Elt Ideal) f14 (canA arg7 arg9 f7 f9 96))
      (arg15.view.writes (Elt Ideal) f15 (canK arg3 arg4 arg9 f3 f4 f9 96)) (arg16.view.writes (Elt Ideal) f16 (canB arg8 arg9 f8 f9 96))
      (arg17.view.writes (Elt Ideal) f17 (canV arg5 arg6 f5 f6 96)) (arg18.view.writes (Elt Ideal) f18 (canD arg9 f9 3)) D where
  hR p h j x := by
    rw [read_can96 arg13 f13 (rowR arg1 arg2 arg9 f1 f2 f9) _ (fun _ => rfl) p j h x 96 le_rfl (by omega)]
    unfold rowR
    rw [scaled_apply, tok96_apply, scl_apply, H.hr, expG_apply, Gv_real H p h x _ (by omega), Ideal.exp_coe, ← EReal.coe_mul]; rfl
  hA p h j x := by
    rw [read_can96 arg14 f14 (rowA arg7 arg9 f7 f9) _ (fun _ => rfl) p j h x 96 le_rfl (by omega)]
    unfold rowA
    rw [plain_apply, tok96_apply, H.ha, ePrev_real H p h x _ (by omega), ← EReal.coe_mul]; rfl
  hK p h j x := by
    rw [read_can96 arg15 f15 (rowK arg3 arg4 arg9 f3 f4 f9) _ (fun _ => rfl) p j h x 96 le_rfl (by omega)]
    unfold rowK
    rw [scaled_apply, tok96_apply, scl_apply, H.hk, eNeg_real H p h x _ (by omega), ← EReal.coe_mul]; rfl
  hB p h j x := by
    rw [read_can96 arg16 f16 (rowB arg8 arg9 f8 f9) _ (fun _ => rfl) p j h x 96 le_rfl (by omega)]
    unfold rowB
    rw [plain_apply, tok96_apply, H.hb, eNeg_real H p h x _ (by omega), ← EReal.coe_mul]; rfl
  hV p h j x := by
    rw [read_can64 arg17 f17 (rowV arg5 arg6 f5 f6) _ (fun _ => rfl) p j h x 96 le_rfl (by omega)]
    unfold rowV
    rw [scaledV_apply, tok64_apply, scl_apply, H.hv]
  hD p h x := by
    have key : ∀ n ≤ 3, p.val < n → arg18.view.read (Elt Ideal) (arg18.view.writes (Elt Ideal) f18 (canD arg9 f9 n)) (ix3 p h ⟨x.val, by omega⟩)
        = (Real.exp (Chunk.Gs (D.w p h) 32 x) : EReal) := by
      intro n
      induction n with
      | zero => intro _ hn; omega
      | succ n ih =>
        intro hn hlt
        show arg18.view.read (Elt Ideal) (arg18.view.writes (Elt Ideal) f18 (⟨Rect.unit (s := S3x40x128) ![n % 3, 0, 0] S1x40x96.size (inbDec n), shapeCast S1x40x96 (exp (Gv arg9 f9 n 32)) shapeCasts_S40x96_S1x40x96⟩ :: canD arg9 f9 n)) (ix3 p h ⟨x.val, by omega⟩) = _
        by_cases e : n = p.val
        · rw [View.read_writes_cons_unit_of_mem arg18.view f18 (inbDec n) (shapeCast S1x40x96 (exp (Gv arg9 f9 n 32)) shapeCasts_S40x96_S1x40x96) (canD arg9 f9 n)
            (ix3 p h ⟨x.val, by omega⟩) (ix3 0 h x) rfl (by
              intro a; fin_cases a
              · show p.val = n % 3 + 0; omega
              · show h.val = 0 + h.val; omega
              · show x.val = 0 + x.val; omega), e, dec_apply, Gv_real H p h x _ le_rfl, Ideal.exp_coe]
        · rw [View.read_writes_cons_unit_of_not_mem arg18.view f18 (inbDec n) (shapeCast S1x40x96 (exp (Gv arg9 f9 n 32)) shapeCasts_S40x96_S1x40x96) (canD arg9 f9 n)
            (ix3 p h ⟨x.val, by omega⟩) rfl 0 (by show p.val < n % 3 ∨ n % 3 + 1 ≤ p.val; omega)]
          exact ih (by omega) (by omega)
    exact key 3 le_rfl p.isLt

end Cert.KernelIdeal.Hand

end
-- ==== Proof.LoopVal.lean ====
/-
  The three head loops over real numbers: after each, its batch's state and output are the recurrence's, and nothing else
  has changed.
-/
module

public import proofs.«01_k».proof.Proof.Trip

@[expose] public section

set_option maxRecDepth 16384

noncomputable section

namespace Cert.KernelIdeal.Hand

open Cert.KernelIdeal Cert.KernelIdeal.Gen
open Idealize.ShloMosaic

/-- One more trip extends the range of heads that hold their final state. -/
theorem ext_st (T f g f' : S3x40x64x96.Idx → EReal) (p : Fin 3) (n : ℕ)
    (ih : ∀ (q : Fin 3) (h : Fin 40) (i : Fin 64) (x : Fin 96), g (ix4 q h i x) = if q = p ∧ h.val < 2 * n then T (ix4 q h i x) else f (ix4 q h i x))
    (st : ∀ (q : Fin 3) (h : Fin 40) (i : Fin 64) (x : Fin 96), f' (ix4 q h i x) = if q = p ∧ (h.val = 2 * n ∨ h.val = 2 * n + 1) then T (ix4 q h i x) else g (ix4 q h i x))
    (q : Fin 3) (h : Fin 40) (i : Fin 64) (x : Fin 96) :
    f' (ix4 q h i x) = if q = p ∧ h.val < 2 * (n + 1) then T (ix4 q h i x) else f (ix4 q h i x) := by
  rw [st, ih]
  by_cases hq : q = p
  · by_cases h1 : h.val = 2 * n ∨ h.val = 2 * n + 1
    · rw [if_pos ⟨hq, h1⟩, if_pos ⟨hq, by omega⟩]
    · rw [if_neg (fun e => h1 e.2)]
      by_cases h2 : h.val < 2 * n
      · rw [if_pos ⟨hq, h2⟩, if_pos ⟨hq, by omega⟩]
      · rw [if_neg (fun e => h2 e.2), if_neg (fun e => by omega)]
  · rw [if_neg (fun e => hq e.1), if_neg (fun e => hq e.1), if_neg (fun e => hq e.1)]

/-- One more trip extends the range of output columns that hold their final value. -/
theorem ext_out (T f g f' : S3x32x2560.Idx → EReal) (p : Fin 3) (n : ℕ)
    (ih : ∀ (q : Fin 3) (j : Fin 32) (x : Fin 2560), g (ix3 q j x) = if q = p ∧ x.val < 128 * n then T (ix3 q j x) else f (ix3 q j x))
    (st : ∀ (q : Fin 3) (j : Fin 32) (x : Fin 2560), f' (ix3 q j x) = if q = p ∧ (128 * n ≤ x.val ∧ x.val < 128 * n + 128) then T (ix3 q j x) else g (ix3 q j x))
    (q : Fin 3) (j : Fin 32) (x : Fin 2560) :
    f' (ix3 q j x) = if q = p ∧ x.val < 128 * (n + 1) then T (ix3 q j x) else f (ix3 q j x) := by
  rw [st, ih]
  by_cases hq : q = p
  · by_cases h1 : 128 * n ≤ x.val ∧ x.val < 128 * n + 128
    · rw [if_pos ⟨hq, h1⟩, if_pos ⟨hq, by omega⟩]
    · rw [if_neg (fun e => h1 e.2)]
      by_cases h2 : x.val < 128 * n
      · rw [if_pos ⟨hq, h2⟩, if_pos ⟨hq, by omega⟩]
      · rw [if_neg (fun e => h2 e.2), if_neg (fun e => by omega)]
  · rw [if_neg (fun e => hq e.1), if_neg (fun e => hq e.1), if_neg (fun e => hq e.1)]

/-- The output columns of heads `2 n` and `2 n + 1`. -/
theorem pay3_outT (D : Data) (p : Fin 3) (n : ℕ) (hn : n < 20) (o0 o1 : FVec Ideal S32x64 .f32)
    (h0 : ∀ (j : Fin 32) (i : Fin 64), o0 (ix2 j i) = (D.outN p j ⟨2 * n, by omega⟩ i : EReal))
    (h1 : ∀ (j : Fin 32) (i : Fin 64), o1 (ix2 j i) = (D.outN p j ⟨2 * n + 1, by omega⟩ i : EReal))
    (j : Fin 32) (c : Fin 128) : k0_pay3 (F := Ideal) o0 o1 (ix3 0 j c) = D.outT (ix3 p j ⟨128 * n + c.val, by omega⟩) := by
  rw [pay3_apply]
  unfold Data.outT
  by_cases hc : c.val < 64
  · rw [dif_pos hc, h0]
    have e1 : colH ⟨128 * n + c.val, by omega⟩ = ⟨2 * n, by omega⟩ := Fin.ext (by show (128 * n + c.val) / 64 = 2 * n; omega)
    have e2 : colI ⟨128 * n + c.val, by omega⟩ = ⟨c.val, hc⟩ := Fin.ext (by show (128 * n + c.val) % 64 = c.val; omega)
    simp only [ix3_0, ix3_1, ix3_2, e1, e2]
  · rw [dif_neg hc, h1]
    have e1 : colH ⟨128 * n + c.val, by omega⟩ = ⟨2 * n + 1, by omega⟩ := Fin.ext (by show (128 * n + c.val) / 64 = 2 * n + 1; omega)
    have e2 : colI ⟨128 * n + c.val, by omega⟩ = ⟨c.val - 64, by omega⟩ := Fin.ext (by show (128 * n + c.val) % 64 = c.val - 64; omega)
    simp only [ix3_0, ix3_1, ix3_2, e1, e2]

/-- Loop 1, after `n` trips. -/
theorem loop1_val (𝒱 : Variants) (c : Dev nD) (bd : Option 𝒱.V) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (G11 : BufTy.Contents (Elt Ideal) arg11.view.ty) (G12 : BufTy.Contents (Elt Ideal) arg12.view.ty)
    (D : Data) (H : Staged arg13 arg14 arg15 arg16 arg17 arg18 X13 X14 X15 X16 X17 X18 D)
    (hG : ∀ (h : Fin 40) (z : Fin 64) (x : Fin 96), arg12.view.read (Elt Ideal) G12 (ix4 0 h z x) = (D.s 0 h z x : EReal)) :
    ∀ n ≤ 20,
      (∀ (q : Fin 3) (h : Fin 40) (z : Fin 64) (x : Fin 96),
        arg12.view.read (Elt Ideal) (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 n).2) (ix4 q h z x)
          = if q = 0 ∧ h.val < 2 * n then D.stT (ix4 q h z x) else arg12.view.read (Elt Ideal) G12 (ix4 q h z x)) ∧
      (∀ (q : Fin 3) (j : Fin 32) (x : Fin 2560),
        arg11.view.read (Elt Ideal) (arg11.view.writes (Elt Ideal) G11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 n).1) (ix3 q j x)
          = if q = 0 ∧ x.val < 128 * n then D.outT (ix3 q j x) else arg11.view.read (Elt Ideal) G11 (ix3 q j x)) := by
  intro n
  induction n with
  | zero =>
    intro _
    refine ⟨fun q h z x => ?_, fun q j x => ?_⟩
    · rw [if_neg (by omega)]; rfl
    · rw [if_neg (by omega)]; rfl
  | succ n ih =>
    intro hn
    have ih' := ih (by omega)
    have htr : k0_t1_loop.trips = 20 := by decide +kernel
    have hk : n < k0_t1_loop.trips := by omega
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 ⟨n, hk⟩
    simp only [tripL_k0_t1, trip1_out, trip1_st] at hs
    generalize hg : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 n) = prev at hs ih'
    have hst : ∀ (h : Fin 40) (_ : 2 * n ≤ h.val) (z : Fin 64) (x : Fin 96),
        arg12.view.read (Elt Ideal) (arg12.view.writes (Elt Ideal) G12 prev.2) (ix4 0 h z x) = (D.s 0 h z x : EReal) := by
      intro h hh z x
      rw [ih'.1, if_neg (by omega), hG]
    have l0 := H.loaded 0 ⟨2 * n, by omega⟩ arg12 (arg12.view.writes (Elt Ideal) G12 prev.2) (hst _ (by show 2 * n ≤ 2 * n; omega))
      (k0_off1 ⟨n, hk⟩) (k0_off1_inb ⟨n, hk⟩) (off1_eq ⟨n, hk⟩) (k0_off2 ⟨n, hk⟩) (k0_off2_inb ⟨n, hk⟩) (off2_eq ⟨n, hk⟩)
    have l1 := H.loaded 0 ⟨2 * n + 1, by omega⟩ arg12 (arg12.view.writes (Elt Ideal) G12 prev.2) (hst _ (by show 2 * n ≤ 2 * n + 1; omega))
      (k0_off4 ⟨n, hk⟩) (k0_off4_inb ⟨n, hk⟩) (off4_eq ⟨n, hk⟩) (k0_off5 ⟨n, hk⟩) (k0_off5_inb ⟨n, hk⟩) (off5_eq ⟨n, hk⟩)
    have d0 : ∀ x : Fin 96, dcAt (F := Ideal) arg18 X18 (k0_off3 ⟨n, hk⟩) (k0_off3_inb ⟨n, hk⟩) (ix3 0 0 x) = (Real.exp (Chunk.Gs (D.w 0 ⟨2 * n, by omega⟩) 32 x) : EReal) := fun x => by
      rw [dcAt_apply _ _ _ _ 0 ⟨2 * n, by omega⟩ (off3_eq ⟨n, hk⟩)]; exact H.hD _ _ x
    have d1 : ∀ x : Fin 96, dcAt (F := Ideal) arg18 X18 (k0_off6 ⟨n, hk⟩) (k0_off6_inb ⟨n, hk⟩) (ix3 0 0 x) = (Real.exp (Chunk.Gs (D.w 0 ⟨2 * n + 1, by omega⟩) 32 x) : EReal) := fun x => by
      rw [dcAt_apply _ _ _ _ 0 ⟨2 * n + 1, by omega⟩ (off6_eq ⟨n, hk⟩)]; exact H.hD _ _ x
    have s0 := fun i x => headS_real l0 _ d0 i x
    have s1 := fun i x => headS_real l1 _ d1 i x
    have o0 := fun j i => headO_real l0 j i
    have o1 := fun j i => headO_real l1 j i
    have e : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 (n + 1)) = _ := hs
    rw [e]
    refine ⟨?_, ?_⟩
    · refine ext_st D.stT _ _ _ 0 n ih'.1 (fun q h z x => ?_)
      rw [View.writes_append]
      exact read_two arg12 _ D.stT 0 n (by omega) _ _ _ _ (off5_eq ⟨n, hk⟩) (off2_eq ⟨n, hk⟩) _ _ s1 s0 q h z x
    · refine ext_out D.outT _ _ _ 0 n ih'.2 (fun q j x => ?_)
      rw [View.writes_append]
      exact read_cols arg11 _ D.outT 0 n (by omega) _ _ (off7_eq ⟨n, hk⟩) _ (pay3_outT D 0 n (by omega) _ _ o0 o1) q j x

/-- Loop 2, after `n` trips. -/
theorem loop2_val (𝒱 : Variants) (c : Dev nD) (bd : Option 𝒱.V) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (G11 : BufTy.Contents (Elt Ideal) arg11.view.ty) (G12 : BufTy.Contents (Elt Ideal) arg12.view.ty)
    (D : Data) (H : Staged arg13 arg14 arg15 arg16 arg17 arg18 X13 X14 X15 X16 X17 X18 D)
    (hG : ∀ (h : Fin 40) (z : Fin 64) (x : Fin 96), arg12.view.read (Elt Ideal) G12 (ix4 1 h z x) = (D.s 1 h z x : EReal)) :
    ∀ n ≤ 20,
      (∀ (q : Fin 3) (h : Fin 40) (z : Fin 64) (x : Fin 96),
        arg12.view.read (Elt Ideal) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 n).2) (ix4 q h z x)
          = if q = 1 ∧ h.val < 2 * n then D.stT (ix4 q h z x) else arg12.view.read (Elt Ideal) G12 (ix4 q h z x)) ∧
      (∀ (q : Fin 3) (j : Fin 32) (x : Fin 2560),
        arg11.view.read (Elt Ideal) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 n).1) (ix3 q j x)
          = if q = 1 ∧ x.val < 128 * n then D.outT (ix3 q j x) else arg11.view.read (Elt Ideal) G11 (ix3 q j x)) := by
  intro n
  induction n with
  | zero =>
    intro _
    refine ⟨fun q h z x => ?_, fun q j x => ?_⟩
    · rw [if_neg (by omega)]; rfl
    · rw [if_neg (by omega)]; rfl
  | succ n ih =>
    intro hn
    have ih' := ih (by omega)
    have htr : k0_t2_loop.trips = 20 := by decide +kernel
    have hk : n < k0_t2_loop.trips := by omega
    have hs := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 ⟨n, hk⟩
    simp only [tripL_k0_t2, trip2_out, trip2_st] at hs
    generalize hg : (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 n) = prev at hs ih'
    have hst : ∀ (h : Fin 40) (_ : 2 * n ≤ h.val) (z : Fin 64) (x : Fin 96),
        arg12.view.read (Elt Ideal) (arg12.view.writes (Elt Ideal) G12 prev.2) (ix4 1 h z x) = (D.s 1 h z x : EReal) := by
      intro h hh z x
      rw [ih'.1, if_neg (by omega), hG]
    have l0 := H.loaded 1 ⟨2 * n, by omega⟩ arg12 (arg12.view.writes (Elt Ideal) G12 prev.2) (hst _ (by show 2 * n ≤ 2 * n; omega))
      (k0_off8 ⟨n, hk⟩) (k0_off8_inb ⟨n, hk⟩) (off8_eq ⟨n, hk⟩) (k0_off9 ⟨n, hk⟩) (k0_off9_inb ⟨n, hk⟩) (off9_eq ⟨n, hk⟩)
    have l1 := H.loaded 1 ⟨2 * n + 1, by omega⟩ arg12 (arg12.view.writes (Elt Ideal) G12 prev.2) (hst _ (by show 2 * n ≤ 2 * n + 1; omega))
      (k0_off11 ⟨n, hk⟩) (k0_off11_inb ⟨n, hk⟩) (off11_eq ⟨n, hk⟩) (k0_off12 ⟨n, hk⟩) (k0_off12_inb ⟨n, hk⟩) (off12_eq ⟨n, hk⟩)
    have d0 : ∀ x : Fin 96, dcAt (F := Ideal) arg18 X18 (k0_off10 ⟨n, hk⟩) (k0_off10_inb ⟨n, hk⟩) (ix3 0 0 x) = (Real.exp (Chunk.Gs (D.w 1 ⟨2 * n, by omega⟩) 32 x) : EReal) := fun x => by
      rw [dcAt_apply _ _ _ _ 1 ⟨2 * n, by omega⟩ (off10_eq ⟨n, hk⟩)]; exact H.hD _ _ x
    have d1 : ∀ x : Fin 96, dcAt (F := Ideal) arg18 X18 (k0_off13 ⟨n, hk⟩) (k0_off13_inb ⟨n, hk⟩) (ix3 0 0 x) = (Real.exp (Chunk.Gs (D.w 1 ⟨2 * n + 1, by omega⟩) 32 x) : EReal) := fun x => by
      rw [dcAt_apply _ _ _ _ 1 ⟨2 * n + 1, by omega⟩ (off13_eq ⟨n, hk⟩)]; exact H.hD _ _ x
    have s0 := fun i x => headS_real l0 _ d0 i x
    have s1 := fun i x => headS_real l1 _ d1 i x
    have o0 := fun j i => headO_real l0 j i
    have o1 := fun j i => headO_real l1 j i
    have e : (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 (n + 1)) = _ := hs
    rw [e]
    refine ⟨?_, ?_⟩
    · refine ext_st D.stT _ _ _ 1 n ih'.1 (fun q h z x => ?_)
      rw [View.writes_append]
      exact read_two arg12 _ D.stT 1 n (by omega) _ _ _ _ (off12_eq ⟨n, hk⟩) (off9_eq ⟨n, hk⟩) _ _ s1 s0 q h z x
    · refine ext_out D.outT _ _ _ 1 n ih'.2 (fun q j x => ?_)
      rw [View.writes_append]
      exact read_cols arg11 _ D.outT 1 n (by omega) _ _ (off14_eq ⟨n, hk⟩) _ (pay3_outT D 1 n (by omega) _ _ o0 o1) q j x

/-- Loop 3, after `n` trips. -/
theorem loop3_val (𝒱 : Variants) (c : Dev nD) (bd : Option 𝒱.V) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (G11 : BufTy.Contents (Elt Ideal) arg11.view.ty) (G12 : BufTy.Contents (Elt Ideal) arg12.view.ty)
    (D : Data) (H : Staged arg13 arg14 arg15 arg16 arg17 arg18 X13 X14 X15 X16 X17 X18 D)
    (hG : ∀ (h : Fin 40) (z : Fin 64) (x : Fin 96), arg12.view.read (Elt Ideal) G12 (ix4 2 h z x) = (D.s 2 h z x : EReal)) :
    ∀ n ≤ 20,
      (∀ (q : Fin 3) (h : Fin 40) (z : Fin 64) (x : Fin 96),
        arg12.view.read (Elt Ideal) (arg12.view.writes (Elt Ideal) G12 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 n).2) (ix4 q h z x)
          = if q = 2 ∧ h.val < 2 * n then D.stT (ix4 q h z x) else arg12.view.read (Elt Ideal) G12 (ix4 q h z x)) ∧
      (∀ (q : Fin 3) (j : Fin 32) (x : Fin 2560),
        arg11.view.read (Elt Ideal) (arg11.view.writes (Elt Ideal) G11 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 n).1) (ix3 q j x)
          = if q = 2 ∧ x.val < 128 * n then D.outT (ix3 q j x) else arg11.view.read (Elt Ideal) G11 (ix3 q j x)) := by
  intro n
  induction n with
  | zero =>
    intro _
    refine ⟨fun q h z x => ?_, fun q j x => ?_⟩
    · rw [if_neg (by omega)]; rfl
    · rw [if_neg (by omega)]; rfl
  | succ n ih =>
    intro hn
    have ih' := ih (by omega)
    have htr : k0_t3_loop.trips = 20 := by decide +kernel
    have hk : n < k0_t3_loop.trips := by omega
    have hs := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 ⟨n, hk⟩
    simp only [tripL_k0_t3, trip3_out, trip3_st] at hs
    generalize hg : (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 n) = prev at hs ih'
    have hst : ∀ (h : Fin 40) (_ : 2 * n ≤ h.val) (z : Fin 64) (x : Fin 96),
        arg12.view.read (Elt Ideal) (arg12.view.writes (Elt Ideal) G12 prev.2) (ix4 2 h z x) = (D.s 2 h z x : EReal) := by
      intro h hh z x
      rw [ih'.1, if_neg (by omega), hG]
    have l0 := H.loaded 2 ⟨2 * n, by omega⟩ arg12 (arg12.view.writes (Elt Ideal) G12 prev.2) (hst _ (by show 2 * n ≤ 2 * n; omega))
      (k0_off15 ⟨n, hk⟩) (k0_off15_inb ⟨n, hk⟩) (off15_eq ⟨n, hk⟩) (k0_off16 ⟨n, hk⟩) (k0_off16_inb ⟨n, hk⟩) (off16_eq ⟨n, hk⟩)
    have l1 := H.loaded 2 ⟨2 * n + 1, by omega⟩ arg12 (arg12.view.writes (Elt Ideal) G12 prev.2) (hst _ (by show 2 * n ≤ 2 * n + 1; omega))
      (k0_off18 ⟨n, hk⟩) (k0_off18_inb ⟨n, hk⟩) (off18_eq ⟨n, hk⟩) (k0_off19 ⟨n, hk⟩) (k0_off19_inb ⟨n, hk⟩) (off19_eq ⟨n, hk⟩)
    have d0 : ∀ x : Fin 96, dcAt (F := Ideal) arg18 X18 (k0_off17 ⟨n, hk⟩) (k0_off17_inb ⟨n, hk⟩) (ix3 0 0 x) = (Real.exp (Chunk.Gs (D.w 2 ⟨2 * n, by omega⟩) 32 x) : EReal) := fun x => by
      rw [dcAt_apply _ _ _ _ 2 ⟨2 * n, by omega⟩ (off17_eq ⟨n, hk⟩)]; exact H.hD _ _ x
    have d1 : ∀ x : Fin 96, dcAt (F := Ideal) arg18 X18 (k0_off20 ⟨n, hk⟩) (k0_off20_inb ⟨n, hk⟩) (ix3 0 0 x) = (Real.exp (Chunk.Gs (D.w 2 ⟨2 * n + 1, by omega⟩) 32 x) : EReal) := fun x => by
      rw [dcAt_apply _ _ _ _ 2 ⟨2 * n + 1, by omega⟩ (off20_eq ⟨n, hk⟩)]; exact H.hD _ _ x
    have s0 := fun i x => headS_real l0 _ d0 i x
    have s1 := fun i x => headS_real l1 _ d1 i x
    have o0 := fun j i => headO_real l0 j i
    have o1 := fun j i => headO_real l1 j i
    have e : (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 G11 G12 (n + 1)) = _ := hs
    rw [e]
    refine ⟨?_, ?_⟩
    · refine ext_st D.stT _ _ _ 2 n ih'.1 (fun q h z x => ?_)
      rw [View.writes_append]
      exact read_two arg12 _ D.stT 2 n (by omega) _ _ _ _ (off19_eq ⟨n, hk⟩) (off16_eq ⟨n, hk⟩) _ _ s1 s0 q h z x
    · refine ext_out D.outT _ _ _ 2 n ih'.2 (fun q j x => ?_)
      rw [View.writes_append]
      exact read_cols arg11 _ D.outT 2 n (by omega) _ _ (off21_eq ⟨n, hk⟩) _ (pay3_outT D 2 n (by omega) _ _ o0 o1) q j x

end Cert.KernelIdeal.Hand
-- ==== Proof.BodyForm.lean ====
/-
  What the body leaves in the two results' buffers, over real numbers: the chunk's outputs and the state after it.
-/
module

public import proofs.«01_k».proof.Proof.Stage
public import proofs.«01_k».proof.Proof.LoopVal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section Form

variable {F : FTy → Type} [FloatOps F]

variable (c : Dev nD) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole)
   (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty)

/-- Buffer 13 after all its stores. -/
theorem X13_eq : (arg13.view.writes (Elt F) f13 (⟨Rect.unit (s := S3x1320x128) ![2, 1271, 0] S1x40x96.size inb_S3x1320x128_S1x40x96_2_1271_0, k0_pay971 (bodyRun.sl.r_271 arg2 f2) (bodyRun.sl.r_402 arg9 f9) (View.readAt (Elt F) arg1.view (Rect.unit (s := S3x32x40x96) ![2, 31, 0, 0] S1x1x40x96.size inb_S3x32x40x96_S1x1x40x96_2_31_0_0).toLoadRect f1)⟩ :: bodyRun.sl.H13_95 arg1 arg2 arg9 f1 f2 f9))
    = arg13.view.writes (Elt F) f13 (canR arg1 arg2 arg9 f1 f2 f9 96) := by
  unfold bodyRun.sl.r_271 bodyRun.sl.r_402
  rw [H13_95_eq, r_397_eq]
  rfl

/-- Buffer 14 after all its stores. -/
theorem X14_eq : (arg14.view.writes (Elt F) f14 (⟨Rect.unit (s := S3x1320x128) ![2, 1271, 0] S1x40x96.size inb_S3x1320x128_S1x40x96_2_1271_0, k0_pay973 (bodyRun.sl.r_398 arg9 f9) (View.readAt (Elt F) arg7.view (Rect.unit (s := S3x32x40x96) ![2, 31, 0, 0] S1x1x40x96.size inb_S3x32x40x96_S1x1x40x96_2_31_0_0).toLoadRect f7)⟩ :: bodyRun.sl.H14_95 arg7 arg9 f7 f9))
    = arg14.view.writes (Elt F) f14 (canA arg7 arg9 f7 f9 96) := by
  unfold bodyRun.sl.r_398
  rw [H14_95_eq, r_393_eq]
  rfl

/-- Buffer 15 after all its stores. -/
theorem X15_eq : (arg15.view.writes (Elt F) f15 (⟨Rect.unit (s := S3x1320x128) ![2, 1271, 0] S1x40x96.size inb_S3x1320x128_S1x40x96_2_1271_0, k0_pay972 (bodyRun.sl.r_272 arg4 f4) (bodyRun.sl.r_401 arg9 f9) (View.readAt (Elt F) arg3.view (Rect.unit (s := S3x32x40x96) ![2, 31, 0, 0] S1x1x40x96.size inb_S3x32x40x96_S1x1x40x96_2_31_0_0).toLoadRect f3)⟩ :: bodyRun.sl.H15_95 arg3 arg4 arg9 f3 f4 f9))
    = arg15.view.writes (Elt F) f15 (canK arg3 arg4 arg9 f3 f4 f9 96) := by
  unfold bodyRun.sl.r_272
  rw [H15_95_eq, r_401_eq]
  rfl

/-- Buffer 16 after all its stores. -/
theorem X16_eq : (arg16.view.writes (Elt F) f16 (⟨Rect.unit (s := S3x1320x128) ![2, 1271, 0] S1x40x96.size inb_S3x1320x128_S1x40x96_2_1271_0, k0_pay974 (bodyRun.sl.r_403 arg9 f9) (bodyRun.sl.r_404 arg8 f8)⟩ :: bodyRun.sl.H16_95 arg8 arg9 f8 f9))
    = arg16.view.writes (Elt F) f16 (canB arg8 arg9 f8 f9 96) := by
  unfold bodyRun.sl.r_403 bodyRun.sl.r_404
  rw [H16_95_eq, r_401_eq]
  rfl

/-- Buffer 17 after all its stores. -/
theorem X17_eq : (arg17.view.writes (Elt F) f17 (⟨Rect.unit (s := S3x1320x128) ![2, 1271, 0] S1x40x64.size inb_S3x1320x128_S1x40x64_2_1271_0, k0_pay975 (bodyRun.sl.r_273 arg6 f6) (View.readAt (Elt F) arg5.view (Rect.unit (s := S3x32x40x64) ![2, 31, 0, 0] S1x1x40x64.size inb_S3x32x40x64_S1x1x40x64_2_31_0_0).toLoadRect f5)⟩ :: bodyRun.sl.H17_95 arg5 arg6 f5 f6))
    = arg17.view.writes (Elt F) f17 (canV arg5 arg6 f5 f6 96) := by
  unfold bodyRun.sl.r_273
  rw [H17_95_eq]
  rfl

/-- Buffer 18 after all its stores. -/
theorem X18_eq : (arg18.view.writes (Elt F) f18 (⟨Rect.unit (s := S3x40x128) ![2, 0, 0] S1x40x96.size inb_S3x40x128_S1x40x96_2_0_0, k0_pay1 (bodyRun.sl.r_402 arg9 f9)⟩ :: bodyRun.sl.H18_2 arg9 f9))
    = arg18.view.writes (Elt F) f18 (canD arg9 f9 3) := by
  unfold bodyRun.sl.r_402
  rw [H18_2_eq, r_397_eq]
  rfl

/-- The body's run in three steps: the staged buffers, then one head loop after the other. -/
theorem body_form :
    ∃ (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (A0 : BufTy.Contents (Elt F) arg11.view.ty) (B0 : BufTy.Contents (Elt F) arg12.view.ty) (A1 : BufTy.Contents (Elt F) arg11.view.ty) (B1 : BufTy.Contents (Elt F) arg12.view.ty) (A2 : BufTy.Contents (Elt F) arg11.view.ty) (B2 : BufTy.Contents (Elt F) arg12.view.ty) (A3 : BufTy.Contents (Elt F) arg11.view.ty) (B3 : BufTy.Contents (Elt F) arg12.view.ty),
      X13 = arg13.view.writes (Elt F) f13 (canR arg1 arg2 arg9 f1 f2 f9 96) ∧
      X14 = arg14.view.writes (Elt F) f14 (canA arg7 arg9 f7 f9 96) ∧
      X15 = arg15.view.writes (Elt F) f15 (canK arg3 arg4 arg9 f3 f4 f9 96) ∧
      X16 = arg16.view.writes (Elt F) f16 (canB arg8 arg9 f8 f9 96) ∧
      X17 = arg17.view.writes (Elt F) f17 (canV arg5 arg6 f5 f6 96) ∧
      X18 = arg18.view.writes (Elt F) f18 (canD arg9 f9 3) ∧
      A0 = f11 ∧
      B0 = (if hc : bodyRun.sl.v2 i = 1#1 then arg12.view.writes (Elt F) f12 [⟨Rect.unit (s := S3x40x64x96) ![0, 0, 0, 0] S3x40x64x96.size inb_S3x40x64x96_S3x40x64x96_0_0_0_0, View.readAt (Elt F) arg10.view (Rect.unit (s := S3x40x64x96) ![0, 0, 0, 0] S3x40x64x96.size inb_S3x40x64x96_S3x40x64x96_0_0_0_0).toLoadRect f10⟩] else f12) ∧
      A1 = arg11.view.writes (Elt F) A0 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 A0 B0 (Scf.trips k0_t1_loop.lb k0_t1_loop.ub k0_t1_loop.st)).1 ∧
      B1 = arg12.view.writes (Elt F) B0 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 A0 B0 (Scf.trips k0_t1_loop.lb k0_t1_loop.ub k0_t1_loop.st)).2 ∧
      A2 = arg11.view.writes (Elt F) A1 (pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 A1 B1 (Scf.trips k0_t2_loop.lb k0_t2_loop.ub k0_t2_loop.st)).1 ∧
      B2 = arg12.view.writes (Elt F) B1 (pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 A1 B1 (Scf.trips k0_t2_loop.lb k0_t2_loop.ub k0_t2_loop.st)).2 ∧
      A3 = arg11.view.writes (Elt F) A2 (pb_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 A2 B2 (Scf.trips k0_t3_loop.lb k0_t3_loop.ub k0_t3_loop.st)).1 ∧
      B3 = arg12.view.writes (Elt F) B2 (pb_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vi vj X13 X14 X15 X16 X17 X18 A2 B2 (Scf.trips k0_t3_loop.lb k0_t3_loop.ub k0_t3_loop.st)).2 ∧
      (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).1 = A3 ∧
      (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).2.1 = B3 := by
  refine ⟨(arg13.view.writes (Elt F) f13 (⟨Rect.unit (s := S3x1320x128) ![2, 1271, 0] S1x40x96.size inb_S3x1320x128_S1x40x96_2_1271_0, k0_pay971 (bodyRun.sl.r_271 arg2 f2) (bodyRun.sl.r_402 arg9 f9) (View.readAt (Elt F) arg1.view (Rect.unit (s := S3x32x40x96) ![2, 31, 0, 0] S1x1x40x96.size inb_S3x32x40x96_S1x1x40x96_2_31_0_0).toLoadRect f1)⟩ :: bodyRun.sl.H13_95 arg1 arg2 arg9 f1 f2 f9)), (arg14.view.writes (Elt F) f14 (⟨Rect.unit (s := S3x1320x128) ![2, 1271, 0] S1x40x96.size inb_S3x1320x128_S1x40x96_2_1271_0, k0_pay973 (bodyRun.sl.r_398 arg9 f9) (View.readAt (Elt F) arg7.view (Rect.unit (s := S3x32x40x96) ![2, 31, 0, 0] S1x1x40x96.size inb_S3x32x40x96_S1x1x40x96_2_31_0_0).toLoadRect f7)⟩ :: bodyRun.sl.H14_95 arg7 arg9 f7 f9)), (arg15.view.writes (Elt F) f15 (⟨Rect.unit (s := S3x1320x128) ![2, 1271, 0] S1x40x96.size inb_S3x1320x128_S1x40x96_2_1271_0, k0_pay972 (bodyRun.sl.r_272 arg4 f4) (bodyRun.sl.r_401 arg9 f9) (View.readAt (Elt F) arg3.view (Rect.unit (s := S3x32x40x96) ![2, 31, 0, 0] S1x1x40x96.size inb_S3x32x40x96_S1x1x40x96_2_31_0_0).toLoadRect f3)⟩ :: bodyRun.sl.H15_95 arg3 arg4 arg9 f3 f4 f9)), (arg16.view.writes (Elt F) f16 (⟨Rect.unit (s := S3x1320x128) ![2, 1271, 0] S1x40x96.size inb_S3x1320x128_S1x40x96_2_1271_0, k0_pay974 (bodyRun.sl.r_403 arg9 f9) (bodyRun.sl.r_404 arg8 f8)⟩ :: bodyRun.sl.H16_95 arg8 arg9 f8 f9)), (arg17.view.writes (Elt F) f17 (⟨Rect.unit (s := S3x1320x128) ![2, 1271, 0] S1x40x64.size inb_S3x1320x128_S1x40x64_2_1271_0, k0_pay975 (bodyRun.sl.r_273 arg6 f6) (View.readAt (Elt F) arg5.view (Rect.unit (s := S3x32x40x64) ![2, 31, 0, 0] S1x1x40x64.size inb_S3x32x40x64_S1x1x40x64_2_31_0_0).toLoadRect f5)⟩ :: bodyRun.sl.H17_95 arg5 arg6 f5 f6)), (arg18.view.writes (Elt F) f18 (⟨Rect.unit (s := S3x40x128) ![2, 0, 0] S1x40x96.size inb_S3x40x128_S1x40x96_2_0_0, k0_pay1 (bodyRun.sl.r_402 arg9 f9)⟩ :: bodyRun.sl.H18_2 arg9 f9)), f11, (if hc : bodyRun.sl.v2 i = 1#1 then arg12.view.writes (Elt F) f12 [⟨Rect.unit (s := S3x40x64x96) ![0, 0, 0, 0] S3x40x64x96.size inb_S3x40x64x96_S3x40x64x96_0_0_0_0, View.readAt (Elt F) arg10.view (Rect.unit (s := S3x40x64x96) ![0, 0, 0, 0] S3x40x64x96.size inb_S3x40x64x96_S3x40x64x96_0_0_0_0).toLoadRect f10⟩] else f12), _, _, _, _, _, _, ?_, ?_, ?_, ?_, ?_, ?_, rfl, rfl, rfl, rfl, rfl, rfl, rfl, rfl, ?_, ?_⟩
  · exact X13_eq (F := F) ..
  · exact X14_eq (F := F) ..
  · exact X15_eq (F := F) ..
  · exact X16_eq (F := F) ..
  · exact X17_eq (F := F) ..
  · exact X18_eq (F := F) ..
  · simp only [← View.writes_append]
    rfl
  · simp only [← View.writes_append]
    rfl

end Form

end Cert.KernelIdeal.Hand

end
-- ==== Proof.BodyVal.lean ====
/-
  What the body leaves in the two results' buffers, over real numbers: the chunk's outputs and the state after it.
-/
module

public import proofs.«01_k».proof.Proof.BodyForm

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

set_option maxHeartbeats 2000000 in
/-- The body writes the whole of both results' buffers: when its blocks and the entry state hold the real numbers `D`, the
    output block ends at the chunk's outputs and the state block at the state after the chunk. -/
theorem body_value (c : Dev nD) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole)
   (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (D : Data) (H : Inputs arg1 arg2 arg3 arg4 arg5 arg6 arg7 arg8 arg9 f1 f2 f3 f4 f5 f6 f7 f8 f9 D)
    (hs : ∀ (p : Fin 3) (h : Fin 40) (z : Fin 64) (x : Fin 96),
      (if bodyRun.sl.v2 i = 1#1 then arg10.view.read (Elt Ideal) f10 (ix4 p h z x) else arg12.view.read (Elt Ideal) f12 (ix4 p h z x)) = (D.s p h z x : EReal)) :
    (∀ (q : Fin 3) (j : Fin 32) (x : Fin 2560), arg11.view.read (Elt Ideal) (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).1 (ix3 q j x) = D.outT (ix3 q j x)) ∧
    (∀ (q : Fin 3) (h : Fin 40) (z : Fin 64) (x : Fin 96), arg12.view.read (Elt Ideal) (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).2.1 (ix4 q h z x) = D.stT (ix4 q h z x)) := by
  obtain ⟨X13, X14, X15, X16, X17, X18, A0, B0, A1, B1, A2, B2, A3, B3, h13, h14, h15, h16, h17, h18, hA0, hB0, hA1, hB1, hA2, hB2, hA3, hB3, hO, hS⟩ :=
    body_form (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18
  have S : Staged arg13 arg14 arg15 arg16 arg17 arg18 X13 X14 X15 X16 X17 X18 D := by
    subst h13 h14 h15 h16 h17 h18
    exact staged_real H arg13 arg14 arg15 arg16 arg17 arg18 f13 f14 f15 f16 f17 f18
  have t1 : Scf.trips k0_t1_loop.lb k0_t1_loop.ub k0_t1_loop.st = 20 := by decide +kernel
  have t2 : Scf.trips k0_t2_loop.lb k0_t2_loop.ub k0_t2_loop.st = 20 := by decide +kernel
  have t3 : Scf.trips k0_t3_loop.lb k0_t3_loop.ub k0_t3_loop.st = 20 := by decide +kernel
  rw [t1] at hA1 hB1
  rw [t2] at hA2 hB2
  rw [t3] at hA3 hB3
  have b0 : ∀ (p : Fin 3) (h : Fin 40) (z : Fin 64) (x : Fin 96), arg12.view.read (Elt Ideal) B0 (ix4 p h z x) = (D.s p h z x : EReal) := by
    intro p h z x
    rw [← hs p h z x, hB0]
    by_cases hc : bodyRun.sl.v2 i = 1#1
    · rw [dif_pos hc, if_pos hc,
        View.read_writes_cons_unit_of_mem arg12.view f12 inb_S3x40x64x96_S3x40x64x96_0_0_0_0 _ [] (ix4 p h z x) (ix4 p h z x) rfl (by
          intro a; fin_cases a <;> exact (Nat.zero_add _).symm), View.readAt_apply]
      refine congrArg _ (funext fun a => Fin.ext ?_)
      show (![0, 0, 0, 0] : Fin 4 → ℕ) a + 1 * ((ix4 p h z x : S3x40x64x96.Idx) a).val = _
      fin_cases a <;> simp
    · rw [dif_neg hc, if_neg hc]
  obtain ⟨s1, o1⟩ := loop1_val Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X13 X14 X15 X16 X17 X18 A0 B0 D S (fun h z x => b0 0 h z x) 20 le_rfl
  rw [← hB1] at s1; rw [← hA1] at o1
  obtain ⟨s2, o2⟩ := loop2_val Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X13 X14 X15 X16 X17 X18 A1 B1 D S (fun h z x => by rw [s1, if_neg (by simp), b0]) 20 le_rfl
  rw [← hB2] at s2; rw [← hA2] at o2
  obtain ⟨s3, o3⟩ := loop3_val Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X13 X14 X15 X16 X17 X18 A2 B2 D S (fun h z x => by rw [s2, if_neg (by simp), s1, if_neg (by simp), b0]) 20 le_rfl
  rw [← hB3] at s3; rw [← hA3] at o3
  refine ⟨fun q j x => ?_, fun q h z x => ?_⟩
  · refine (congrArg (fun f => arg11.view.read (Elt Ideal) f (ix3 q j x)) hO).trans ?_
    show arg11.view.read (Elt Ideal) A3 (ix3 q j x) = _
    rw [o3, o2, o1]
    have hx : x.val < 128 * 20 := x.isLt
    have := q.isLt
    by_cases e2 : q = 2
    · rw [if_pos ⟨e2, hx⟩]
    · by_cases e1 : q = 1
      · rw [if_neg (fun e => e2 e.1), if_pos ⟨e1, hx⟩]
      · rw [if_neg (fun e => e2 e.1), if_neg (fun e => e1 e.1), if_pos ⟨by omega, hx⟩]
  · refine (congrArg (fun f => arg12.view.read (Elt Ideal) f (ix4 q h z x)) hS).trans ?_
    show arg12.view.read (Elt Ideal) B3 (ix4 q h z x) = _
    rw [s3, s2, s1]
    have hx : h.val < 2 * 20 := h.isLt
    have := q.isLt
    by_cases e2 : q = 2
    · rw [if_pos ⟨e2, hx⟩]
    · by_cases e1 : q = 1
      · rw [if_neg (fun e => e2 e.1), if_pos ⟨e1, hx⟩]
      · rw [if_neg (fun e => e2 e.1), if_neg (fun e => e1 e.1), if_pos ⟨by omega, hx⟩]

end Cert.KernelIdeal.Hand

end
-- ==== Proof.BodyTriple.lean ====
/-
  The body's triple with its values: handed blocks that hold a chunk's real numbers, it leaves the chunk's outputs and
  the state after it.
-/
module

public import proofs.«01_k».proof.Proof.BodyVal
public import proofs.«01_k».proof.Proof.IdealFrame

@[expose] public section

set_option maxRecDepth 16384

noncomputable section

namespace Cert.KernelIdeal.Value

open Cert.KernelIdeal Cert.KernelIdeal.Gen
open Cert.KernelIdeal.Hand (Data Inputs bodyRun bodyRun.sl.v2 body_value colH colI)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The blocks `x1 … x9` hold the real numbers `D`: code times scale for `r`, `k`, `v`; the entries themselves for `a`, `b` and
    the log decay. -/
structure Blocks (x1 : Vec Ideal S3x32x40x96 .fp8e4m3) (x2 : Vec Ideal S3x32x40 .f32) (x3 : Vec Ideal S3x32x40x96 .fp8e4m3) (x4 : Vec Ideal S3x32x40 .f32) (x5 : Vec Ideal S3x32x40x64 .fp8e4m3) (x6 : Vec Ideal S3x32x40 .f32) (x7 : Vec Ideal S3x32x40x96 .bf16) (x8 : Vec Ideal S3x32x40x96 .bf16) (x9 : Vec Ideal S3x32x40x96 .f32) (D : Data) : Prop where
  hr : ∀ (p : Fin 3) (h : Fin 40) (j : Fin 32) (x : Fin 96), (x1 (ix4 p j h x) * x2 (ix3 p j h) : EReal) = (D.r p h j x : EReal)
  hk : ∀ (p : Fin 3) (h : Fin 40) (j : Fin 32) (x : Fin 96), (x3 (ix4 p j h x) * x4 (ix3 p j h) : EReal) = (D.k p h j x : EReal)
  hv : ∀ (p : Fin 3) (h : Fin 40) (j : Fin 32) (x : Fin 64), (x5 (ix4 p j h x) * x6 (ix3 p j h) : EReal) = (D.v p h j x : EReal)
  ha : ∀ (p : Fin 3) (h : Fin 40) (j : Fin 32) (x : Fin 96), (x7 (ix4 p j h x) : EReal) = (D.a p h j x : EReal)
  hb : ∀ (p : Fin 3) (h : Fin 40) (j : Fin 32) (x : Fin 96), (x8 (ix4 p j h x) : EReal) = (D.b p h j x : EReal)
  hw : ∀ (p : Fin 3) (h : Fin 40) (j : Fin 32) (x : Fin 96), (x9 (ix4 p j h x) : EReal) = (D.w p h j x : EReal)

set_option maxHeartbeats 2000000 in
/-- The body ends with the inputs as they were, the output block at the chunk's outputs and the state block at the state
    after the chunk. -/
theorem body_ends_val (c : Dev nD) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole)
    (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (D : Data) (H : Inputs arg1 arg2 arg3 arg4 arg5 arg6 arg7 arg8 arg9 f1 f2 f3 f4 f5 f6 f7 f8 f9 D)
    (hs : ∀ (p : Fin 3) (h : Fin 40) (z : Fin 64) (x : Fin 96),
      (if bodyRun.sl.v2 i = 1#1 then arg10.view.read (Elt Ideal) f10 (ix4 p h z x) else arg12.view.read (Elt Ideal) f12 (ix4 p h z x)) = (D.s p h z x : EReal)) :
    ∃ (C11 : BufTy.Contents (Elt Ideal) arg11.view.ty) (C12 : BufTy.Contents (Elt Ideal) arg12.view.ty), (arg11.view.read (Elt Ideal) C11 = D.outT ∧ arg12.view.read (Elt Ideal) C12 = D.stT) ∧
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
          ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} C11) ∗ (arg12.view.loc (c : Thread nD τ) ↦[arg12.view.set]{fullShare} C12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
        ⊢ wp frame (wpE (defs₀ (F := Ideal)) Variants.none c none) E (cc0_rwkv7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K :=
  ⟨(bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).1, (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).2.1,
   ⟨funext fun y => by
      have h := (body_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18 D H hs).1 (y 0) (y 1) (y 2)
      have e : (ix3 (y 0) (y 1) (y 2) : S3x32x2560.Idx) = y := by funext a; fin_cases a <;> rfl
      rw [e] at h; exact h,
    funext fun y => by
      have h := (body_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18 D H hs).2 (y 0) (y 1) (y 2) (y 3)
      have e : (ix4 (y 0) (y 1) (y 2) (y 3) : S3x40x64x96.Idx) = y := by funext a; fin_cases a <;> rfl
      rw [e] at h; exact h⟩,
   (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18).2.2⟩

set_option maxHeartbeats 2000000 in
/-- The body between the contents the pipeline hands it and those it takes back, at any buffers. The entry state is read
    from the initial-state block at the first chunk and from the state block at the others. -/
theorem body_triple_val (c : Dev nD) (i : grid0.Coords) (arg1 : Memref sig .tc .vmem S3x32x40x96 .fp8e4m3) (harg1 : arg1.IsWhole) (arg2 : Memref sig .tc .vmem S3x32x40 .f32) (harg2 : arg2.IsWhole) (arg3 : Memref sig .tc .vmem S3x32x40x96 .fp8e4m3) (harg3 : arg3.IsWhole) (arg4 : Memref sig .tc .vmem S3x32x40 .f32) (harg4 : arg4.IsWhole) (arg5 : Memref sig .tc .vmem S3x32x40x64 .fp8e4m3) (harg5 : arg5.IsWhole) (arg6 : Memref sig .tc .vmem S3x32x40 .f32) (harg6 : arg6.IsWhole) (arg7 : Memref sig .tc .vmem S3x32x40x96 .bf16) (harg7 : arg7.IsWhole) (arg8 : Memref sig .tc .vmem S3x32x40x96 .bf16) (harg8 : arg8.IsWhole) (arg9 : Memref sig .tc .vmem S3x32x40x96 .f32) (harg9 : arg9.IsWhole) (arg10 : Memref sig .tc .vmem S3x40x64x96 .f32) (harg10 : arg10.IsWhole) (arg11 : Memref sig .tc .vmem S3x32x2560 .bf16) (harg11 : arg11.IsWhole) (arg12 : Memref sig .tc .vmem S3x40x64x96 .f32) (harg12 : arg12.IsWhole) (arg13 : Memref sig .tc .vmem S3x1320x128 .f32) (harg13 : arg13.IsWhole) (arg14 : Memref sig .tc .vmem S3x1320x128 .f32) (harg14 : arg14.IsWhole) (arg15 : Memref sig .tc .vmem S3x1320x128 .f32) (harg15 : arg15.IsWhole) (arg16 : Memref sig .tc .vmem S3x1320x128 .f32) (harg16 : arg16.IsWhole) (arg17 : Memref sig .tc .vmem S3x1320x128 .f32) (harg17 : arg17.IsWhole) (arg18 : Memref sig .tc .vmem S3x40x128 .f32) (harg18 : arg18.IsWhole)
    (x1 : Vec Ideal S3x32x40x96 .fp8e4m3) (x2 : Vec Ideal S3x32x40 .f32) (x3 : Vec Ideal S3x32x40x96 .fp8e4m3) (x4 : Vec Ideal S3x32x40 .f32) (x5 : Vec Ideal S3x32x40x64 .fp8e4m3) (x6 : Vec Ideal S3x32x40 .f32) (x7 : Vec Ideal S3x32x40x96 .bf16) (x8 : Vec Ideal S3x32x40x96 .bf16) (x9 : Vec Ideal S3x32x40x96 .f32) (x10 : Vec Ideal S3x40x64x96 .f32) (Rg Ro : sProp 𝕄) {D1 D2 D3 D4 D5 D6 D7 D8 D9 D10 D11 D12 : Type}
    (x11 : D11 → Vec Ideal S3x32x2560 .bf16) (x12 : D12 → Vec Ideal S3x40x64x96 .f32)
    (D : Data) (HX : Blocks x1 x2 x3 x4 x5 x6 x7 x8 x9 D)
    (hs : ∀ (d : D12) (p : Fin 3) (h : Fin 40) (z : Fin 64) (x : Fin 96),
      (if bodyRun.sl.v2 i = 1#1 then x10 (ix4 p h z x) else x12 d (ix4 p h z x)) = (D.s p h z x : EReal)) :
    iprop((((∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) ∗ Rg) ∗ Ro
      ∗ (∃ _ : D1, owns (c : Thread nD τ) arg1 fullShare x1)
      ∗ (∃ _ : D2, owns (c : Thread nD τ) arg2 fullShare x2)
      ∗ (∃ _ : D3, owns (c : Thread nD τ) arg3 fullShare x3)
      ∗ (∃ _ : D4, owns (c : Thread nD τ) arg4 fullShare x4)
      ∗ (∃ _ : D5, owns (c : Thread nD τ) arg5 fullShare x5)
      ∗ (∃ _ : D6, owns (c : Thread nD τ) arg6 fullShare x6)
      ∗ (∃ _ : D7, owns (c : Thread nD τ) arg7 fullShare x7)
      ∗ (∃ _ : D8, owns (c : Thread nD τ) arg8 fullShare x8)
      ∗ (∃ _ : D9, owns (c : Thread nD τ) arg9 fullShare x9)
      ∗ (∃ _ : D10, owns (c : Thread nD τ) arg10 fullShare x10)
      ∗ (∃ d, owns (c : Thread nD τ) arg11 fullShare (x11 d))
      ∗ (∃ d, owns (c : Thread nD τ) arg12 fullShare (x12 d)))
    ⊢ wp frame (wpE (defs₀ (F := Ideal)) Variants.none c none) Set.univ (cc0_rwkv7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ =>
      iprop((((∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) ∗ Rg) ∗ Ro
      ∗ owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare (D.outT : Vec Ideal S3x32x2560 .bf16)
      ∗ owns (c : Thread nD τ) arg12 fullShare (D.stT : Vec Ideal S3x40x64x96 .f32))) := by
  unfold owns
  iintro ⟨⟨⟨⟨%f13, H13⟩, ⟨%f14, H14⟩, ⟨%f15, H15⟩, ⟨%f16, H16⟩, ⟨%f17, H17⟩, ⟨%f18, H18⟩⟩, Hg⟩, Ho, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩⟩
  have HI : Inputs arg1 arg2 arg3 arg4 arg5 arg6 arg7 arg8 arg9 f1 f2 f3 f4 f5 f6 f7 f8 f9 D :=
    ⟨fun p h j x => by rw [hf1, hf2]; exact HX.hr p h j x, fun p h j x => by rw [hf3, hf4]; exact HX.hk p h j x,
     fun p h j x => by rw [hf5, hf6]; exact HX.hv p h j x, fun p h j x => by rw [hf7]; exact HX.ha p h j x,
     fun p h j x => by rw [hf8]; exact HX.hb p h j x, fun p h j x => by rw [hf9]; exact HX.hw p h j x⟩
  obtain ⟨C11, C12, ⟨e11, e12⟩, hrun⟩ := body_ends_val c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f4 f5 f6 f7 f8 f9 f10 f11 f12 f13 f14 f15 f16 f17 f18 D HI (fun p h z x => by rw [hf10, hf12]; exact hs d12 p h z x)
  iapply (hrun Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H1, H2, H3, H4, H5, H6, H7, H8, H9, H10, H11, H12, H13, H14, H15, H16, H17, H18⟩
  isplitl [H13 H14 H15 H16 H17 H18 Hg]
  · isplitr [Hg]
    ·
      isplitl [H13]; · iexact H13
      isplitl [H14]; · iexact H14
      isplitl [H15]; · iexact H15
      isplitl [H16]; · iexact H16
      isplitl [H17]; · iexact H17
      iexact H18
    · iexact Hg
  isplitl [Ho]; · iexact Ho
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact hf7
  isplitl [H8]; · iexists _; isplitr; swap; (· iexact H8); ipureintro; exact hf8
  isplitl [H9]; · iexists _; isplitr; swap; (· iexact H9); ipureintro; exact hf9
  isplitl [H10]; · iexists _; isplitr; swap; (· iexact H10); ipureintro; exact hf10
  isplitl [H11]; · iexists _; isplitr; swap; (· iexact H11); ipureintro; exact e11
  iexists _; isplitr; swap; (· iexact H12); ipureintro; exact e12

end Cert.KernelIdeal.Value

end
-- ==== Proof.KVal.lean ====
/-
  The kernel's run with its values: both result arrays are the recurrence of the argument arrays, chunk by chunk.
-/
module

public import proofs.«01_k».proof.Proof.BodyTriple
public import Idealize.ShloMosaic.Lib.Pipeline.ValueKit.Geometry
public import Idealize.ShloMosaic.Lib.Claim

@[expose] public section

set_option maxRecDepth 16384

noncomputable section

namespace Cert.KernelIdeal.Value

open Cert.KernelIdeal Cert.KernelIdeal.Gen
open Cert.KernelIdeal.Hand (Data Inputs bodyRun bodyRun.sl.v2 body_value colH colI PhiA_eq defs₀_row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## Chunks of the token axis -/

/-- The `n`-th chunk of 32 tokens: its rows, and the state the tokens before it leave. -/
def chunk (D : Data) (n : ℕ) : Data where
  r p h j := D.r p h (32 * n + j)
  a p h j := D.a p h (32 * n + j)
  k p h j := D.k p h (32 * n + j)
  b p h j := D.b p h (32 * n + j)
  w p h j := D.w p h (32 * n + j)
  v p h j := D.v p h (32 * n + j)
  s p h := D.stN (32 * n) p h

/-- Running on inside the chunk is running on from its first token. -/
theorem chunk_stN (D : Data) (n j : ℕ) (p : Fin 3) (h : Fin 40) : (chunk D n).stN j p h = D.stN (32 * n + j) p h :=
  Chunk.st_shift (D.a p h) (D.k p h) (D.b p h) (D.w p h) (D.v p h) (D.s p h) (32 * n) j

/-- The chunk's outputs are the outputs of its tokens. -/
theorem chunk_outN (D : Data) (n j : ℕ) (p : Fin 3) (h : Fin 40) (z : Fin 64) : (chunk D n).outN p j h z = D.outN p (32 * n + j) h z := by
  have e : ∀ x, (chunk D n).stN (j + 1) p h z x = D.stN (32 * n + (j + 1)) p h z x := fun x => by rw [chunk_stN]
  show ∑ x, (chunk D n).stN (j + 1) p h z x * D.r p h (32 * n + j) x = ∑ x, D.stN (32 * n + (j + 1)) p h z x * D.r p h (32 * n + j) x
  simp only [e]

/-- The state before the first chunk is the initial state, -/
theorem chunk_s_zero (D : Data) : (chunk D 0).s = D.s := rfl

/-- and before every other the one the chunk before it leaves. -/
theorem chunk_s_succ (D : Data) (n : ℕ) : (chunk D (n + 1)).s = fun p h => (chunk D n).stN 32 p h := by
  funext p h
  rw [chunk_stN]
  show D.stN (32 * (n + 1)) p h = _
  rw [show 32 * (n + 1) = 32 * n + 32 from by ring]

/-- The output array of the whole run: token by token, the heads side by side. -/
def OUT (D : Data) : S3x4096x2560.Idx → EReal := fun y => (D.outN (y 0) (y 1).val (colH (y 2)) (colI (y 2)) : ℝ)

/-- The state array after the last token. -/
def ST (D : Data) : S3x40x64x96.Idx → EReal := fun y => (D.stN 4096 (y 0) (y 1) (y 2) (y 3) : ℝ)

/-! ## The run -/

variable (m : (ℓ : Loc nD τ sig) → Buf (Elt Ideal) ℓ) (ρ : Dev nD → PrngReg)

/-- A product of two extended reals. -/
abbrev times (u v : EReal) : EReal := u * v

/-- The arrays the pipelined region finds hold the real numbers `D`. -/
structure Holds (c : Dev nD) (D : Data) : Prop where
  hr : ∀ (p : Fin 3) (h : Fin 40) (t : Fin 4096) (x : Fin 96), times (V m c main_v0 (ix4 p t h x)) (V m c main_arg1 (ix3 p t h)) = (D.r p h t x : EReal)
  hk : ∀ (p : Fin 3) (h : Fin 40) (t : Fin 4096) (x : Fin 96), times (V m c main_v1 (ix4 p t h x)) (V m c main_arg3 (ix3 p t h)) = (D.k p h t x : EReal)
  hv : ∀ (p : Fin 3) (h : Fin 40) (t : Fin 4096) (x : Fin 64), times (V m c main_v2 (ix4 p t h x)) (V m c main_arg5 (ix3 p t h)) = (D.v p h t x : EReal)
  ha : ∀ (p : Fin 3) (h : Fin 40) (t : Fin 4096) (x : Fin 96), (V m c main_arg6 : S3x4096x40x96.Idx → EReal) (ix4 p t h x) = (D.a p h t x : EReal)
  hb : ∀ (p : Fin 3) (h : Fin 40) (t : Fin 4096) (x : Fin 96), (V m c main_arg7 : S3x4096x40x96.Idx → EReal) (ix4 p t h x) = (D.b p h t x : EReal)
  hw : ∀ (p : Fin 3) (h : Fin 40) (t : Fin 4096) (x : Fin 96), (V m c main_arg8 : S3x4096x40x96.Idx → EReal) (ix4 p t h x) = (D.w p h t x : EReal)
  hs : ∀ (p : Fin 3) (h : Fin 40) (z : Fin 64) (x : Fin 96), (V m c main_arg9 : S3x40x64x96.Idx → EReal) (ix4 p h z x) = (D.s p h z x : EReal)

/-- The token at place `j` of chunk `t`. -/
def tokAt (t : Fin cfg0.N) (j : Fin 32) : Fin 4096 := ⟨32 * t.val + j.val, by have := t.isLt; have h : cfg0.N = 128 := N_0; omega⟩

theorem idx0_0 : ∀ t : Fin cfg0.N, win0_0.index t = ![0, t.val, 0, 0] := (by decide +kernel : ∀ t : Fin grid0.N, win0_0.index t = ![0, t.val, 0, 0])
theorem iblk0_0 (c : Dev nD) (t : Fin cfg0.N) (p : Fin 3) (j : Fin 32) (h : Fin 40) (x : Fin 96) :
    (iblk m c 0 t (ix4 p j h x) : EReal) = (V m c main_v0 : S3x4096x40x96.Idx → EReal) (ix4 p (tokAt t j) h x) := by
  show (V m c main_v0 : S3x4096x40x96.Idx → EReal) (((cfg0.win 0).blk t).view.emb (ix4 p j h x)) = _
  refine congrArg _ (funext fun a => Fin.ext ?_)
  fin_cases a
  all_goals (blk_simp [idx0_0, tokAt]; first | rfl | (show t.val * 32 + j.val = 32 * t.val + j.val; omega))

theorem idx0_1 : ∀ t : Fin cfg0.N, win0_1.index t = ![0, t.val, 0] := (by decide +kernel : ∀ t : Fin grid0.N, win0_1.index t = ![0, t.val, 0])
theorem iblk0_1 (c : Dev nD) (t : Fin cfg0.N) (p : Fin 3) (j : Fin 32) (h : Fin 40) :
    (iblk m c 1 t (ix3 p j h) : EReal) = (V m c main_arg1 : S3x4096x40.Idx → EReal) (ix3 p (tokAt t j) h) := by
  show (V m c main_arg1 : S3x4096x40.Idx → EReal) (((cfg0.win 1).blk t).view.emb (ix3 p j h)) = _
  refine congrArg _ (funext fun a => Fin.ext ?_)
  fin_cases a
  all_goals (blk_simp [idx0_1, tokAt]; first | rfl | (show t.val * 32 + j.val = 32 * t.val + j.val; omega))

theorem idx0_2 : ∀ t : Fin cfg0.N, win0_2.index t = ![0, t.val, 0, 0] := (by decide +kernel : ∀ t : Fin grid0.N, win0_2.index t = ![0, t.val, 0, 0])
theorem iblk0_2 (c : Dev nD) (t : Fin cfg0.N) (p : Fin 3) (j : Fin 32) (h : Fin 40) (x : Fin 96) :
    (iblk m c 2 t (ix4 p j h x) : EReal) = (V m c main_v1 : S3x4096x40x96.Idx → EReal) (ix4 p (tokAt t j) h x) := by
  show (V m c main_v1 : S3x4096x40x96.Idx → EReal) (((cfg0.win 2).blk t).view.emb (ix4 p j h x)) = _
  refine congrArg _ (funext fun a => Fin.ext ?_)
  fin_cases a
  all_goals (blk_simp [idx0_2, tokAt]; first | rfl | (show t.val * 32 + j.val = 32 * t.val + j.val; omega))

theorem idx0_3 : ∀ t : Fin cfg0.N, win0_3.index t = ![0, t.val, 0] := (by decide +kernel : ∀ t : Fin grid0.N, win0_3.index t = ![0, t.val, 0])
theorem iblk0_3 (c : Dev nD) (t : Fin cfg0.N) (p : Fin 3) (j : Fin 32) (h : Fin 40) :
    (iblk m c 3 t (ix3 p j h) : EReal) = (V m c main_arg3 : S3x4096x40.Idx → EReal) (ix3 p (tokAt t j) h) := by
  show (V m c main_arg3 : S3x4096x40.Idx → EReal) (((cfg0.win 3).blk t).view.emb (ix3 p j h)) = _
  refine congrArg _ (funext fun a => Fin.ext ?_)
  fin_cases a
  all_goals (blk_simp [idx0_3, tokAt]; first | rfl | (show t.val * 32 + j.val = 32 * t.val + j.val; omega))

theorem idx0_4 : ∀ t : Fin cfg0.N, win0_4.index t = ![0, t.val, 0, 0] := (by decide +kernel : ∀ t : Fin grid0.N, win0_4.index t = ![0, t.val, 0, 0])
theorem iblk0_4 (c : Dev nD) (t : Fin cfg0.N) (p : Fin 3) (j : Fin 32) (h : Fin 40) (x : Fin 64) :
    (iblk m c 4 t (ix4 p j h x) : EReal) = (V m c main_v2 : S3x4096x40x64.Idx → EReal) (ix4 p (tokAt t j) h x) := by
  show (V m c main_v2 : S3x4096x40x64.Idx → EReal) (((cfg0.win 4).blk t).view.emb (ix4 p j h x)) = _
  refine congrArg _ (funext fun a => Fin.ext ?_)
  fin_cases a
  all_goals (blk_simp [idx0_4, tokAt]; first | rfl | (show t.val * 32 + j.val = 32 * t.val + j.val; omega))

theorem idx0_5 : ∀ t : Fin cfg0.N, win0_5.index t = ![0, t.val, 0] := (by decide +kernel : ∀ t : Fin grid0.N, win0_5.index t = ![0, t.val, 0])
theorem iblk0_5 (c : Dev nD) (t : Fin cfg0.N) (p : Fin 3) (j : Fin 32) (h : Fin 40) :
    (iblk m c 5 t (ix3 p j h) : EReal) = (V m c main_arg5 : S3x4096x40.Idx → EReal) (ix3 p (tokAt t j) h) := by
  show (V m c main_arg5 : S3x4096x40.Idx → EReal) (((cfg0.win 5).blk t).view.emb (ix3 p j h)) = _
  refine congrArg _ (funext fun a => Fin.ext ?_)
  fin_cases a
  all_goals (blk_simp [idx0_5, tokAt]; first | rfl | (show t.val * 32 + j.val = 32 * t.val + j.val; omega))

theorem idx0_6 : ∀ t : Fin cfg0.N, win0_6.index t = ![0, t.val, 0, 0] := (by decide +kernel : ∀ t : Fin grid0.N, win0_6.index t = ![0, t.val, 0, 0])
theorem iblk0_6 (c : Dev nD) (t : Fin cfg0.N) (p : Fin 3) (j : Fin 32) (h : Fin 40) (x : Fin 96) :
    (iblk m c 6 t (ix4 p j h x) : EReal) = (V m c main_arg6 : S3x4096x40x96.Idx → EReal) (ix4 p (tokAt t j) h x) := by
  show (V m c main_arg6 : S3x4096x40x96.Idx → EReal) (((cfg0.win 6).blk t).view.emb (ix4 p j h x)) = _
  refine congrArg _ (funext fun a => Fin.ext ?_)
  fin_cases a
  all_goals (blk_simp [idx0_6, tokAt]; first | rfl | (show t.val * 32 + j.val = 32 * t.val + j.val; omega))

theorem idx0_7 : ∀ t : Fin cfg0.N, win0_7.index t = ![0, t.val, 0, 0] := (by decide +kernel : ∀ t : Fin grid0.N, win0_7.index t = ![0, t.val, 0, 0])
theorem iblk0_7 (c : Dev nD) (t : Fin cfg0.N) (p : Fin 3) (j : Fin 32) (h : Fin 40) (x : Fin 96) :
    (iblk m c 7 t (ix4 p j h x) : EReal) = (V m c main_arg7 : S3x4096x40x96.Idx → EReal) (ix4 p (tokAt t j) h x) := by
  show (V m c main_arg7 : S3x4096x40x96.Idx → EReal) (((cfg0.win 7).blk t).view.emb (ix4 p j h x)) = _
  refine congrArg _ (funext fun a => Fin.ext ?_)
  fin_cases a
  all_goals (blk_simp [idx0_7, tokAt]; first | rfl | (show t.val * 32 + j.val = 32 * t.val + j.val; omega))

theorem idx0_8 : ∀ t : Fin cfg0.N, win0_8.index t = ![0, t.val, 0, 0] := (by decide +kernel : ∀ t : Fin grid0.N, win0_8.index t = ![0, t.val, 0, 0])
theorem iblk0_8 (c : Dev nD) (t : Fin cfg0.N) (p : Fin 3) (j : Fin 32) (h : Fin 40) (x : Fin 96) :
    (iblk m c 8 t (ix4 p j h x) : EReal) = (V m c main_arg8 : S3x4096x40x96.Idx → EReal) (ix4 p (tokAt t j) h x) := by
  show (V m c main_arg8 : S3x4096x40x96.Idx → EReal) (((cfg0.win 8).blk t).view.emb (ix4 p j h x)) = _
  refine congrArg _ (funext fun a => Fin.ext ?_)
  fin_cases a
  all_goals (blk_simp [idx0_8, tokAt]; first | rfl | (show t.val * 32 + j.val = 32 * t.val + j.val; omega))

theorem idx0_9 : ∀ t : Fin cfg0.N, win0_9.index t = ![0, 0, 0, 0] := (by decide +kernel : ∀ t : Fin grid0.N, win0_9.index t = ![0, 0, 0, 0])
theorem iblk0_9 (c : Dev nD) (t : Fin cfg0.N) (p : Fin 3) (h : Fin 40) (z : Fin 64) (x : Fin 96) :
    (iblk m c 9 t (ix4 p h z x) : EReal) = (V m c main_arg9 : S3x40x64x96.Idx → EReal) (ix4 p h z x) := by
  show (V m c main_arg9 : S3x40x64x96.Idx → EReal) (((cfg0.win 9).blk t).view.emb (ix4 p h z x)) = _
  refine congrArg _ (funext fun a => Fin.ext ?_)
  fin_cases a
  all_goals (blk_simp [idx0_9]; try rfl)

/-- The blocks of chunk `t` hold the chunk's rows. -/
theorem blocks (c : Dev nD) (D : Data) (H : Holds m c D) (t : Fin cfg0.N) :
    Blocks (iblk m c 0 t) (iblk m c 1 t) (iblk m c 2 t) (iblk m c 3 t) (iblk m c 4 t) (iblk m c 5 t) (iblk m c 6 t) (iblk m c 7 t) (iblk m c 8 t) (chunk D t.val) where
  hr p h j x := (congrArg₂ times (iblk0_0 m c t p j h x) (iblk0_1 m c t p j h)).trans (H.hr p h (tokAt t j) x)
  hk p h j x := (congrArg₂ times (iblk0_2 m c t p j h x) (iblk0_3 m c t p j h)).trans (H.hk p h (tokAt t j) x)
  hv p h j x := (congrArg₂ times (iblk0_4 m c t p j h x) (iblk0_5 m c t p j h)).trans (H.hv p h (tokAt t j) x)
  ha p h j x := (iblk0_6 m c t p j h x).trans (H.ha p h (tokAt t j) x)
  hb p h j x := (iblk0_7 m c t p j h x).trans (H.hb p h (tokAt t j) x)
  hw p h j x := (iblk0_8 m c t p j h x).trans (H.hw p h (tokAt t j) x)

variable (G : Dev nD → Data)

/-- The proof data: every input block left in place, the results' blocks at the chunk's outputs and state. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => ((chunk (G c) t.val).outT : Vec Ideal S3x32x2560 .bf16)
    | ⟨11, _⟩ => ((chunk (G c) t.val).stT : Vec Ideal S3x40x64x96 .f32)
  Φ _ := Pipeline.ΦA spec0 c
  q _ := fullShare
  owed _ := 0

theorem A_eq (c : Dev nD) (w : Fin cfg0.W) : (dats m G 0 c).A w = V m c (Pipeline.arrRef spec0 w) := by
  dsimp only [dats]

theorem after0_0 (c : Dev nD) (t : Fin cfg0.N) : (dats m G 0 c).after 0 t = iblk m c 0 t := by dsimp only [dats]
theorem after0_1 (c : Dev nD) (t : Fin cfg0.N) : (dats m G 0 c).after 1 t = iblk m c 1 t := by dsimp only [dats]
theorem after0_2 (c : Dev nD) (t : Fin cfg0.N) : (dats m G 0 c).after 2 t = iblk m c 2 t := by dsimp only [dats]
theorem after0_3 (c : Dev nD) (t : Fin cfg0.N) : (dats m G 0 c).after 3 t = iblk m c 3 t := by dsimp only [dats]
theorem after0_4 (c : Dev nD) (t : Fin cfg0.N) : (dats m G 0 c).after 4 t = iblk m c 4 t := by dsimp only [dats]
theorem after0_5 (c : Dev nD) (t : Fin cfg0.N) : (dats m G 0 c).after 5 t = iblk m c 5 t := by dsimp only [dats]
theorem after0_6 (c : Dev nD) (t : Fin cfg0.N) : (dats m G 0 c).after 6 t = iblk m c 6 t := by dsimp only [dats]
theorem after0_7 (c : Dev nD) (t : Fin cfg0.N) : (dats m G 0 c).after 7 t = iblk m c 7 t := by dsimp only [dats]
theorem after0_8 (c : Dev nD) (t : Fin cfg0.N) : (dats m G 0 c).after 8 t = iblk m c 8 t := by dsimp only [dats]
theorem after0_9 (c : Dev nD) (t : Fin cfg0.N) : (dats m G 0 c).after 9 t = iblk m c 9 t := by dsimp only [dats]
theorem after0_10 (c : Dev nD) (t : Fin cfg0.N) : (dats m G 0 c).after 10 t = ((chunk (G c) t.val).outT : Vec Ideal S3x32x2560 .bf16) := by dsimp only [dats]
theorem after0_11 (c : Dev nD) (t : Fin cfg0.N) : (dats m G 0 c).after 11 t = ((chunk (G c) t.val).stT : Vec Ideal S3x40x64x96 .f32) := by dsimp only [dats]
theorem before0_0 (c : Dev nD) (t : Fin cfg0.N) (d) : (dats m G 0 c).before 0 t d = iblk m c 0 t :=
  before0_0_of m (dats m G 0 c) (A_eq m G c 0) (after0_0 m G c) t d
theorem before0_1 (c : Dev nD) (t : Fin cfg0.N) (d) : (dats m G 0 c).before 1 t d = iblk m c 1 t :=
  before0_1_of m (dats m G 0 c) (A_eq m G c 1) (after0_1 m G c) t d
theorem before0_2 (c : Dev nD) (t : Fin cfg0.N) (d) : (dats m G 0 c).before 2 t d = iblk m c 2 t :=
  before0_2_of m (dats m G 0 c) (A_eq m G c 2) (after0_2 m G c) t d
theorem before0_3 (c : Dev nD) (t : Fin cfg0.N) (d) : (dats m G 0 c).before 3 t d = iblk m c 3 t :=
  before0_3_of m (dats m G 0 c) (A_eq m G c 3) (after0_3 m G c) t d
theorem before0_4 (c : Dev nD) (t : Fin cfg0.N) (d) : (dats m G 0 c).before 4 t d = iblk m c 4 t :=
  before0_4_of m (dats m G 0 c) (A_eq m G c 4) (after0_4 m G c) t d
theorem before0_5 (c : Dev nD) (t : Fin cfg0.N) (d) : (dats m G 0 c).before 5 t d = iblk m c 5 t :=
  before0_5_of m (dats m G 0 c) (A_eq m G c 5) (after0_5 m G c) t d
theorem before0_6 (c : Dev nD) (t : Fin cfg0.N) (d) : (dats m G 0 c).before 6 t d = iblk m c 6 t :=
  before0_6_of m (dats m G 0 c) (A_eq m G c 6) (after0_6 m G c) t d
theorem before0_7 (c : Dev nD) (t : Fin cfg0.N) (d) : (dats m G 0 c).before 7 t d = iblk m c 7 t :=
  before0_7_of m (dats m G 0 c) (A_eq m G c 7) (after0_7 m G c) t d
theorem before0_8 (c : Dev nD) (t : Fin cfg0.N) (d) : (dats m G 0 c).before 8 t d = iblk m c 8 t :=
  before0_8_of m (dats m G 0 c) (A_eq m G c 8) (after0_8 m G c) t d
theorem before0_9 (c : Dev nD) (t : Fin cfg0.N) (d) : (dats m G 0 c).before 9 t d = iblk m c 9 t :=
  before0_9_of m (dats m G 0 c) (A_eq m G c 9) (after0_9 m G c) t d

/-- The body reads the initial-state block at the first chunk only. -/
theorem first_iff : ∀ t : Fin cfg0.N, bodyRun.sl.v2 (grid0.coords t) = 1#1 ↔ t.val = 0 :=
  (by decide +kernel : ∀ t : Fin grid0.N, bodyRun.sl.v2 (grid0.coords t) = 1#1 ↔ t.val = 0)

/-- Past the first chunk the state block holds the state after the chunk before. -/
theorem before0_11 (c : Dev nD) (t : Fin cfg0.N) (ht : t.val ≠ 0) (d) :
    (dats m G 0 c).before 11 t d = ((chunk (G c) (t.val - 1)).stT : Vec Ideal S3x40x64x96 .f32) := by
  rw [(dats m G 0 c).before_out_kept 11 rfl t ht ?_ (fun _ => rfl) (fun _ _ => rfl) d, after0_11]
  cases hb : (cfg0.win 11).flush ⟨t.val - 1, Nat.lt_of_le_of_lt (Nat.sub_le _ _) t.isLt⟩ with
  | false => rfl
  | true =>
    exfalso
    have h := (flush0_11 _).mp hb
    have := t.isLt; have hN : cfg0.N = 128 := N_0
    dsimp only at h; omega

/-- The entry state of every chunk is where the body reads it. -/
theorem entry (c : Dev nD) (H : Holds m c (G c)) (t : Fin cfg0.N) (d) (p : Fin 3) (h : Fin 40) (z : Fin 64) (x : Fin 96) :
    (if bodyRun.sl.v2 (grid0.coords t) = 1#1 then (iblk m c 9 t (ix4 p h z x) : EReal) else (dats m G 0 c).before 11 t d (ix4 p h z x))
      = ((chunk (G c) t.val).s p h z x : EReal) := by
  by_cases ht : t.val = 0
  · rw [if_pos ((first_iff t).mpr ht), iblk0_9, H.hs, ht]; rfl
  · rw [if_neg (fun e => ht ((first_iff t).mp e)), before0_11 m G c t ht d]
    obtain ⟨n, hn⟩ := Nat.exists_eq_succ_of_ne_zero ht
    rw [hn, chunk_s_succ]; rfl

/-- What the body is called with at point `t`, -/
def bodyPre (c : Dev nD) (t : Fin cfg0.N) : sProp 𝕄 :=
  iprop((dats m G 0 c).Φ t.castSucc ∗ (dats m G 0 c).owesAt () t.castSucc
    ∗ (∃ d, owns (c : Thread nD τ) (win0_0.stage (cfg0.slots t 0)) fullShare ((dats m G 0 c).before 0 t d))
    ∗ (∃ d, owns (c : Thread nD τ) (win0_1.stage (cfg0.slots t 1)) fullShare ((dats m G 0 c).before 1 t d))
    ∗ (∃ d, owns (c : Thread nD τ) (win0_2.stage (cfg0.slots t 2)) fullShare ((dats m G 0 c).before 2 t d))
    ∗ (∃ d, owns (c : Thread nD τ) (win0_3.stage (cfg0.slots t 3)) fullShare ((dats m G 0 c).before 3 t d))
    ∗ (∃ d, owns (c : Thread nD τ) (win0_4.stage (cfg0.slots t 4)) fullShare ((dats m G 0 c).before 4 t d))
    ∗ (∃ d, owns (c : Thread nD τ) (win0_5.stage (cfg0.slots t 5)) fullShare ((dats m G 0 c).before 5 t d))
    ∗ (∃ d, owns (c : Thread nD τ) (win0_6.stage (cfg0.slots t 6)) fullShare ((dats m G 0 c).before 6 t d))
    ∗ (∃ d, owns (c : Thread nD τ) (win0_7.stage (cfg0.slots t 7)) fullShare ((dats m G 0 c).before 7 t d))
    ∗ (∃ d, owns (c : Thread nD τ) (win0_8.stage (cfg0.slots t 8)) fullShare ((dats m G 0 c).before 8 t d))
    ∗ (∃ d, owns (c : Thread nD τ) (win0_9.stage (cfg0.slots t 9)) fullShare ((dats m G 0 c).before 9 t d))
    ∗ (∃ d, owns (c : Thread nD τ) (win0_10.stage (cfg0.slots t 10)) fullShare ((dats m G 0 c).before 10 t d))
    ∗ (∃ d, owns (c : Thread nD τ) (win0_11.stage (cfg0.slots t 11)) fullShare ((dats m G 0 c).before 11 t d)))

/-- and what it returns. -/
def bodyPost (c : Dev nD) (t : Fin cfg0.N) : sProp 𝕄 :=
  iprop((dats m G 0 c).Φ t.succ ∗ (dats m G 0 c).owesAt () t.succ
    ∗ owns (c : Thread nD τ) (win0_0.stage (cfg0.slots t 0)) fullShare ((dats m G 0 c).after 0 t)
    ∗ owns (c : Thread nD τ) (win0_1.stage (cfg0.slots t 1)) fullShare ((dats m G 0 c).after 1 t)
    ∗ owns (c : Thread nD τ) (win0_2.stage (cfg0.slots t 2)) fullShare ((dats m G 0 c).after 2 t)
    ∗ owns (c : Thread nD τ) (win0_3.stage (cfg0.slots t 3)) fullShare ((dats m G 0 c).after 3 t)
    ∗ owns (c : Thread nD τ) (win0_4.stage (cfg0.slots t 4)) fullShare ((dats m G 0 c).after 4 t)
    ∗ owns (c : Thread nD τ) (win0_5.stage (cfg0.slots t 5)) fullShare ((dats m G 0 c).after 5 t)
    ∗ owns (c : Thread nD τ) (win0_6.stage (cfg0.slots t 6)) fullShare ((dats m G 0 c).after 6 t)
    ∗ owns (c : Thread nD τ) (win0_7.stage (cfg0.slots t 7)) fullShare ((dats m G 0 c).after 7 t)
    ∗ owns (c : Thread nD τ) (win0_8.stage (cfg0.slots t 8)) fullShare ((dats m G 0 c).after 8 t)
    ∗ owns (c : Thread nD τ) (win0_9.stage (cfg0.slots t 9)) fullShare ((dats m G 0 c).after 9 t)
    ∗ owns (c : Thread nD τ) (win0_10.stage (cfg0.slots t 10)) fullShare ((dats m G 0 c).after 10 t)
    ∗ owns (c : Thread nD τ) (win0_11.stage (cfg0.slots t 11)) fullShare ((dats m G 0 c).after 11 t))

set_option maxHeartbeats 2000000 in
/-- The body at any point, between the two. -/
theorem sound_body (c : Dev nD) (H : Holds m c (G c)) (t : Fin cfg0.N) :
    bodyPre m G c t ⊢ wp frame (wpE (defs₀ (F := Ideal)) Variants.none c none) Set.univ (bodyAt0 t) (fun _ => bodyPost m G c t) := by
  unfold bodyPre bodyPost bodyAt0
  simp only [before0_0, before0_1, before0_2, before0_3, before0_4, before0_5, before0_6, before0_7, before0_8, before0_9]
  rw [show (dats m G 0 c).Φ t.succ = Pipeline.ΦA spec0 c from rfl, show (dats m G 0 c).Φ t.castSucc = Pipeline.ΦA spec0 c from rfl,
    show (dats m G 0 c).owesAt () t.succ = (dats m G 0 c).owesAt () t.castSucc from rfl,
    after0_0, after0_1, after0_2, after0_3, after0_4, after0_5, after0_6, after0_7, after0_8, after0_9, after0_10, after0_11]
  rw [PhiA_eq, scopedRest0_eq]
  have h := body_triple_val c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) iprop(∃ r, prngReg c r) ((dats m G 0 c).owesAt () t.castSucc) (D1 := ((cfg0.win 0).block.Idx → Elt Ideal (cfg0.win 0).elt)) (D2 := ((cfg0.win 1).block.Idx → Elt Ideal (cfg0.win 1).elt)) (D3 := ((cfg0.win 2).block.Idx → Elt Ideal (cfg0.win 2).elt)) (D4 := ((cfg0.win 3).block.Idx → Elt Ideal (cfg0.win 3).elt)) (D5 := ((cfg0.win 4).block.Idx → Elt Ideal (cfg0.win 4).elt)) (D6 := ((cfg0.win 5).block.Idx → Elt Ideal (cfg0.win 5).elt)) (D7 := ((cfg0.win 6).block.Idx → Elt Ideal (cfg0.win 6).elt)) (D8 := ((cfg0.win 7).block.Idx → Elt Ideal (cfg0.win 7).elt)) (D9 := ((cfg0.win 8).block.Idx → Elt Ideal (cfg0.win 8).elt)) (D10 := ((cfg0.win 9).block.Idx → Elt Ideal (cfg0.win 9).elt)) (D11 := ((cfg0.win 10).block.Idx → Elt Ideal (cfg0.win 10).elt)) (D12 := ((cfg0.win 11).block.Idx → Elt Ideal (cfg0.win 11).elt))
    (fun d => (dats m G 0 c).before 10 t d) (fun d => (dats m G 0 c).before 11 t d) (chunk (G c) t.val) (blocks m c (G c) H t) (entry m G c H t)
  simp only [Memref.view_whole, View.set_whole] at h
  exact triple_restated h rfl .rfl fun _ => .rfl

theorem body_obligation (H : ∀ c, Holds m c (G c)) (c : Dev nD) : BodyObligation (dats m G 0 c) (defs₀ (F := Ideal)) Variants.none () Set.univ := fun t => by
  rw [bigSep_W0, bigSep_W0, defs₀_row]
  exact triple_restated (sound_body m G c (H c) t) rfl .rfl fun _ => .rfl

set_option backward.isDefEq.respectTransparency.types false in
set_option maxHeartbeats 800000 in
/-- Every execution ends with the window's arrays at what the proof data say. -/
theorem run_main (H : ∀ c, Holds m c (G c)) : θ_run defs (onTc (τ := τ) (main (F := Ideal))) (s₀ m ρ) (Pipeline.FramePost cfgs (dats m G) 0 (V m)) :=
  Pipeline.θ_run_frame cfgs (dats m G) (0 : Fin 1) launch0 defs₀ Variants.none m ρ main
    (hbody := fun c => (body_obligation m G H c).loose) (hshare := fun c => (dats m G 0 c).share_full fun _ => rfl)
    (howed := fun _ _ => rfl) (V := V m)
    (hmain := hmain m Variants.none) (hA := A_eq m G) (hΦ := fun _ _ => rfl) (Q' := _)

theorem idx0_10 : ∀ t : Fin cfg0.N, win0_10.index t = ![0, t.val, 0] := (by decide +kernel : ∀ t : Fin grid0.N, win0_10.index t = ![0, t.val, 0])
theorem idx0_11 : ∀ t : Fin cfg0.N, win0_11.index t = ![0, 0, 0, 0] := (by decide +kernel : ∀ t : Fin grid0.N, win0_11.index t = ![0, 0, 0, 0])

/-- A chunk's output block is that part of the output array. -/
theorem out_at (D : Data) (n : ℕ) (y : S3x32x2560.Idx) (i : S3x4096x2560.Idx) (h0 : (i 0).val = (y 0).val) (h1 : (i 1).val = 32 * n + (y 1).val)
    (h2 : (i 2).val = (y 2).val) : (chunk D n).outT y = OUT D i := by
  have key : ∀ (p p' : Fin 3) (k k' : ℕ) (c c' : Fin 2560), p' = p → k' = k → c' = c →
      D.outN p k (colH c) (colI c) = D.outN p' k' (colH c') (colI c') := by rintro _ _ _ _ _ _ rfl rfl rfl; rfl
  exact congrArg (fun r : ℝ => (r : EReal)) ((chunk_outN D n (y 1).val (y 0) (colH (y 2)) (colI (y 2))).trans
    (key _ _ _ _ _ _ (Fin.ext h0) h1 (Fin.ext h2)))

/-- The last chunk's state is the state array. -/
theorem st_at (D : Data) (y i : S3x40x64x96.Idx) (h : ∀ a, (i a).val = (y a).val) : (chunk D 127).stT y = ST D i := by
  obtain rfl : i = y := funext fun a => Fin.ext (h a)
  exact congrArg (fun r : ℝ => (r : EReal)) (congrFun (congrFun (chunk_stN D 127 32 (i 0) (i 1)) (i 2)) (i 3))

/-- The first result ends holding every token's output. -/
theorem final_out (c : Dev nD) : (dats m G 0 c).arrAt 10 cfg0.N = (OUT (G c) : Vec Ideal S3x4096x2560 .bf16) := by
  refine (dats m G 0 c).arrAt_eq_of_covers 10 _ (by decide +kernel) fun t hf y => ?_
  blk_simp
  rw [after0_10]
  refine out_at (G c) t.val y _ ?_ ?_ ?_
  all_goals (blk_simp [idx0_10]; try omega)

/-- The second result ends holding the state after the last token. -/
theorem final_st (c : Dev nD) : (dats m G 0 c).arrAt 11 cfg0.N = (ST (G c) : Vec Ideal S3x40x64x96 .f32) := by
  refine (dats m G 0 c).arrAt_eq_of_covers 11 _ (by decide +kernel) fun t hf y => ?_
  have ht : t.val = 127 := by
    have := (flush0_11 t).mp hf; have := t.isLt; have hN : cfg0.N = 128 := N_0; omega
  blk_simp
  rw [after0_11, ht]
  refine st_at (G c) y _ fun a => ?_
  fin_cases a
  all_goals (blk_simp [idx0_11]; try omega)

/-- THE KERNEL'S RUN: on arrays that hold real numbers every execution ends with the first result at the recurrence's
    outputs, the second at its last state, and the arguments unchanged. -/
theorem run (H : ∀ c, Holds m c (G c)) : θ_run defs (onTc (τ := τ) (main (F := Ideal))) ⟨m, fun _ => 0, ρ⟩ (fun r => ∀ c : Dev nD,
      r.2.mem ((c.tc : Thread nD τ).loc main_v3_0) = (OUT (G c) : Vec Ideal S3x4096x2560 .bf16)
      ∧ r.2.mem ((c.tc : Thread nD τ).loc main_v3_1) = (ST (G c) : Vec Ideal S3x40x64x96 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.1 c).1 10).trans (final_out m G c), ((h.1 c).1 11).trans (final_st m G c), h.2 c⟩)
    (Idealize.ShloMosaic.θ_run_and (run_main m ρ G H) (frame_of m ρ (dats m G) (A_eq m G) (run_main m ρ G H)))

end Cert.KernelIdeal.Value

end
-- ==== Proof.RefStep.lean ====
/-
  One token of the reference, read index by index: the new state and the output row.
-/
module

public import proofs.«01_k».proof.Proof.Gen.ReferenceIdeal.Frame
public import proofs.«01_k».proof.Proof.Trip
public import Idealize.ShloMosaic.Lib.Pointwise
public import Idealize.ShloMosaic.Lib.WritesUnit

@[expose] public section

set_option maxRecDepth 16384

noncomputable section

namespace Cert.ReferenceIdeal.Value

open Cert.ReferenceIdeal Cert.ReferenceIdeal.Gen
open Cert.KernelIdeal.Hand (Data colH colI coe_sum sum_mul_coe)
open Idealize.ShloMosaic Idealize.ShloMosaic.TcCoe Idealize.ShloMosaic.Tactic

/-- A scaled row. -/
theorem pay3_apply (X : Vec Ideal S3x1x40x96 .fp8e4m3) (s : Vec Ideal S3x1x40 .f32) (p : Fin 3) (h : Fin 40) (x : Fin 96) :
    k0_pay3 (F := Ideal) X s (ix3 p h x) = (X (ix4 p 0 h x) : EReal) * (s (ix3 p 0 h) : EReal) := by
  pointwise [k0_pay3]
theorem pay4_apply (X : Vec Ideal S3x1x40x96 .fp8e4m3) (s : Vec Ideal S3x1x40 .f32) (p : Fin 3) (h : Fin 40) (x : Fin 96) :
    k0_pay4 (F := Ideal) X s (ix3 p h x) = (X (ix4 p 0 h x) : EReal) * (s (ix3 p 0 h) : EReal) := by
  pointwise [k0_pay4]
theorem pay5_apply (X : Vec Ideal S3x1x40x64 .fp8e4m3) (s : Vec Ideal S3x1x40 .f32) (p : Fin 3) (h : Fin 40) (x : Fin 64) :
    k0_pay5 (F := Ideal) X s (ix3 p h x) = (X (ix4 p 0 h x) : EReal) * (s (ix3 p 0 h) : EReal) := by
  pointwise [k0_pay5]
/-- A row taken as it is. -/
theorem pay6_apply (X : Vec Ideal S3x1x40x96 .bf16) (p : Fin 3) (h : Fin 40) (x : Fin 96) :
    k0_pay6 (F := Ideal) X (ix3 p h x) = (X (ix4 p 0 h x) : EReal) := by
  pointwise [k0_pay6]
theorem pay7_apply (X : Vec Ideal S3x1x40x96 .bf16) (p : Fin 3) (h : Fin 40) (x : Fin 96) :
    k0_pay7 (F := Ideal) X (ix3 p h x) = (X (ix4 p 0 h x) : EReal) := by
  pointwise [k0_pay7]

/-- The state after a token. -/
theorem pay1_apply (S : FVec Ideal S3x40x64x96 .f32) (k : FVec Ideal S3x40x96 .f32) (v : FVec Ideal S3x40x64 .f32)
    (a b : FVec Ideal S3x40x96 .f32) (w : FVec Ideal S3x1x40x96 .f32) (p : Fin 3) (h : Fin 40) (z : Fin 64) (x : Fin 96) :
    k0_pay1 (F := Ideal) S k v a b w (ix4 p h z x)
      = (S (ix4 p h z x) * FloatOps.exp (w (ix4 p 0 h x)) + (∑ y : Fin 96, S (ix4 p h z y) * a (ix3 p h y)) * b (ix3 p h x)
          + v (ix3 p h z) * k (ix3 p h x) : EReal) := by
  pointwise [k0_pay1]

/-- The output row of a token. -/
theorem pay2_apply (S : FVec Ideal S3x40x64x96 .f32) (r k : FVec Ideal S3x40x96 .f32) (v : FVec Ideal S3x40x64 .f32)
    (a b : FVec Ideal S3x40x96 .f32) (w : FVec Ideal S3x1x40x96 .f32) (p : Fin 3) (c : Fin 2560) :
    k0_pay2 (F := Ideal) S r k v a b w (ix3 p 0 c)
      = (∑ y : Fin 96, (k0_pay1 (F := Ideal) S k v a b w (ix4 p (colH c) (colI c) y) : EReal) * (r (ix3 p (colH c) y) : EReal)) := by
  unfold k0_pay2
  generalize k0_pay1 (F := Ideal) S k v a b w = T
  pointwise
  rfl

/-- What a token's loads hold: the token's vectors as real numbers. -/
structure Token (D : Data) (n : ℕ) (r k : FVec Ideal S3x40x96 .f32) (v : FVec Ideal S3x40x64 .f32)
    (a b : FVec Ideal S3x40x96 .f32) (w : FVec Ideal S3x1x40x96 .f32) : Prop where
  hr : ∀ (p : Fin 3) (h : Fin 40) (x : Fin 96), r (ix3 p h x) = (D.r p h n x : EReal)
  hk : ∀ (p : Fin 3) (h : Fin 40) (x : Fin 96), k (ix3 p h x) = (D.k p h n x : EReal)
  hv : ∀ (p : Fin 3) (h : Fin 40) (x : Fin 64), v (ix3 p h x) = (D.v p h n x : EReal)
  ha : ∀ (p : Fin 3) (h : Fin 40) (x : Fin 96), a (ix3 p h x) = (D.a p h n x : EReal)
  hb : ∀ (p : Fin 3) (h : Fin 40) (x : Fin 96), b (ix3 p h x) = (D.b p h n x : EReal)
  hw : ∀ (p : Fin 3) (h : Fin 40) (x : Fin 96), w (ix4 p 0 h x) = (D.w p h n x : EReal)

/-- The carried state is the recurrence's state after `n` tokens. -/
def IsState (D : Data) (n : ℕ) (S : FVec Ideal S3x40x64x96 .f32) : Prop :=
  ∀ (p : Fin 3) (h : Fin 40) (z : Fin 64) (x : Fin 96), S (ix4 p h z x) = (D.stN n p h z x : EReal)

/-- A token takes the state after `n` tokens to the state after `n + 1`. -/
theorem Token.state {D : Data} {n : ℕ} {r k : FVec Ideal S3x40x96 .f32} {v : FVec Ideal S3x40x64 .f32}
    {a b : FVec Ideal S3x40x96 .f32} {w : FVec Ideal S3x1x40x96 .f32} (H : Token D n r k v a b w)
    {S : FVec Ideal S3x40x64x96 .f32} (hS : IsState D n S) : IsState D (n + 1) (k0_pay1 (F := Ideal) S k v a b w) := by
  intro p h z x
  rw [pay1_apply, hS, H.hw, H.hb, H.hv, H.hk, sum_mul_coe _ _ _ _ (fun y => hS p h z y) (fun y => H.ha p h y)]
  refine (congrArg (fun e : EReal => (D.stN n p h z x : EReal) * e + _ + _) (Ideal.exp_coe _)).trans ?_
  rw [← EReal.coe_mul, ← EReal.coe_mul, ← EReal.coe_mul, ← EReal.coe_add, ← EReal.coe_add]
  rfl

/-- The output row of a token is the recurrence's output at it. -/
theorem Token.out {D : Data} {n : ℕ} {r k : FVec Ideal S3x40x96 .f32} {v : FVec Ideal S3x40x64 .f32}
    {a b : FVec Ideal S3x40x96 .f32} {w : FVec Ideal S3x1x40x96 .f32} (H : Token D n r k v a b w)
    {S : FVec Ideal S3x40x64x96 .f32} (hS : IsState D n S) (p : Fin 3) (c : Fin 2560) :
    k0_pay2 (F := Ideal) S r k v a b w (ix3 p 0 c) = (D.outN p n (colH c) (colI c) : EReal) := by
  rw [pay2_apply, sum_mul_coe _ _ _ _ (fun y => H.state hS p (colH c) (colI c) y) (fun y => H.hr p (colH c) y)]
  rfl

/-! ## A trip of the token loop -/

variable (𝒱 : Variants) (c : Dev nD) (bd : Option 𝒱.V) (arg0 : Memref sig .tc .vmem S3x4096x40x96 .fp8e4m3) (harg0 : arg0.IsWhole) (arg1 : Memref sig .tc .vmem S3x4096x40 .f32) (harg1 : arg1.IsWhole) (arg2 : Memref sig .tc .vmem S3x4096x40x96 .fp8e4m3) (harg2 : arg2.IsWhole) (arg3 : Memref sig .tc .vmem S3x4096x40 .f32) (harg3 : arg3.IsWhole) (arg4 : Memref sig .tc .vmem S3x4096x40x64 .fp8e4m3) (harg4 : arg4.IsWhole) (arg5 : Memref sig .tc .vmem S3x4096x40 .f32) (harg5 : arg5.IsWhole) (arg6 : Memref sig .tc .vmem S3x4096x40x96 .bf16) (harg6 : arg6.IsWhole) (arg7 : Memref sig .tc .vmem S3x4096x40x96 .bf16) (harg7 : arg7.IsWhole) (arg8 : Memref sig .tc .vmem S3x4096x40x96 .f32) (harg8 : arg8.IsWhole) (arg9 : Memref sig .tc .vmem S3x40x64x96 .f32) (harg9 : arg9.IsWhole) (arg10 : Memref sig .tc .vmem S3x4096x2560 .f32) (harg10 : arg10.IsWhole) (arg11 : Memref sig .tc .vmem S3x40x64x96 .f32) (harg11 : arg11.IsWhole)
  (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)

/-- A token's rows of 96. -/
def row96 {e : EltTy} (arg : Memref sig .tc .vmem S3x4096x40x96 e) (X : BufTy.Contents (Elt Ideal) arg.view.ty) (t : Fin k0_t1_loop.trips) : Vec Ideal S3x1x40x96 e :=
  arg.view.readAt (Elt Ideal) (Rect.unit (s := S3x4096x40x96) (k0_off1 t) S3x1x40x96.size (k0_off1_inb t)).toLoadRect X
/-- A token's scales. -/
def row1 (arg : Memref sig .tc .vmem S3x4096x40 .f32) (X : BufTy.Contents (Elt Ideal) arg.view.ty) (t : Fin k0_t1_loop.trips) : Vec Ideal S3x1x40 .f32 :=
  arg.view.readAt (Elt Ideal) (Rect.unit (s := S3x4096x40) (k0_off2 t) S3x1x40.size (k0_off2_inb t)).toLoadRect X
/-- A token's rows of 64. -/
def row64 {e : EltTy} (arg : Memref sig .tc .vmem S3x4096x40x64 e) (X : BufTy.Contents (Elt Ideal) arg.view.ty) (t : Fin k0_t1_loop.trips) : Vec Ideal S3x1x40x64 e :=
  arg.view.readAt (Elt Ideal) (Rect.unit (s := S3x4096x40x64) (k0_off3 t) S3x1x40x64.size (k0_off3_inb t)).toLoadRect X

theorem row96_apply {e : EltTy} (arg : Memref sig .tc .vmem S3x4096x40x96 e) (X : BufTy.Contents (Elt Ideal) arg.view.ty) (t : Fin k0_t1_loop.trips)
    (p : Fin 3) (n : Fin 4096) (hn : n.val = t.val) (h : Fin 40) (x : Fin 96) : row96 arg X t (ix4 p 0 h x) = arg.view.read (Elt Ideal) X (ix4 p n h x) := by
  unfold row96
  rw [View.readAt_apply]
  have e := k0_off1_eq t
  refine congrArg _ (funext fun a => Fin.ext ?_)
  fin_cases a
  · show k0_off1 t 0 + 1 * p.val = p.val; rw [e]; show 0 + 1 * p.val = p.val; omega
  · show k0_off1 t 1 + 1 * 0 = n.val; rw [e]; show t.val + 1 * 0 = n.val; omega
  · show k0_off1 t 2 + 1 * h.val = h.val; rw [e]; show 0 + 1 * h.val = h.val; omega
  · show k0_off1 t 3 + 1 * x.val = x.val; rw [e]; show 0 + 1 * x.val = x.val; omega
theorem row64_apply {e : EltTy} (arg : Memref sig .tc .vmem S3x4096x40x64 e) (X : BufTy.Contents (Elt Ideal) arg.view.ty) (t : Fin k0_t1_loop.trips)
    (p : Fin 3) (n : Fin 4096) (hn : n.val = t.val) (h : Fin 40) (x : Fin 64) : row64 arg X t (ix4 p 0 h x) = arg.view.read (Elt Ideal) X (ix4 p n h x) := by
  unfold row64
  rw [View.readAt_apply]
  have e := k0_off3_eq t
  refine congrArg _ (funext fun a => Fin.ext ?_)
  fin_cases a
  · show k0_off3 t 0 + 1 * p.val = p.val; rw [e]; show 0 + 1 * p.val = p.val; omega
  · show k0_off3 t 1 + 1 * 0 = n.val; rw [e]; show t.val + 1 * 0 = n.val; omega
  · show k0_off3 t 2 + 1 * h.val = h.val; rw [e]; show 0 + 1 * h.val = h.val; omega
  · show k0_off3 t 3 + 1 * x.val = x.val; rw [e]; show 0 + 1 * x.val = x.val; omega
theorem row1_apply (arg : Memref sig .tc .vmem S3x4096x40 .f32) (X : BufTy.Contents (Elt Ideal) arg.view.ty) (t : Fin k0_t1_loop.trips)
    (p : Fin 3) (n : Fin 4096) (hn : n.val = t.val) (h : Fin 40) : row1 arg X t (ix3 p 0 h) = arg.view.read (Elt Ideal) X (ix3 p n h) := by
  unfold row1
  rw [View.readAt_apply]
  have e := k0_off2_eq t
  refine congrArg _ (funext fun a => Fin.ext ?_)
  fin_cases a
  · show k0_off2 t 0 + 1 * p.val = p.val; rw [e]; show 0 + 1 * p.val = p.val; omega
  · show k0_off2 t 1 + 1 * 0 = n.val; rw [e]; show t.val + 1 * 0 = n.val; omega
  · show k0_off2 t 2 + 1 * h.val = h.val; rw [e]; show 0 + 1 * h.val = h.val; omega

/-- What a trip yields. -/
theorem trip_state (t : Fin k0_t1_loop.trips) (S : Vec Ideal S3x40x64x96 .f32) :
    tripR_k0_t1 (F := Ideal) 𝒱 c bd arg0 harg0 arg1 harg1 arg2 harg2 arg3 harg3 arg4 harg4 arg5 harg5 arg6 harg6 arg7 harg7 arg8 harg8 arg9 harg9 arg10 harg10 arg11 harg11 X0 X1 X2 X3 X4 X5 X6 X7 X8 t S
      = k0_pay1 (F := Ideal) S (k0_pay4 (row96 arg2 X2 t) (row1 arg3 X3 t)) (k0_pay5 (row64 arg4 X4 t) (row1 arg5 X5 t)) (k0_pay6 (row96 arg6 X6 t)) (k0_pay7 (row96 arg7 X7 t)) (row96 arg8 X8 t) := by
  unfold tripR_k0_t1 trip_k0_t1
  rfl

/-- What a trip stores. -/
theorem trip_out (t : Fin k0_t1_loop.trips) (S : Vec Ideal S3x40x64x96 .f32) :
    tripL_k0_t1 (F := Ideal) 𝒱 c bd arg0 harg0 arg1 harg1 arg2 harg2 arg3 harg3 arg4 harg4 arg5 harg5 arg6 harg6 arg7 harg7 arg8 harg8 arg9 harg9 arg10 harg10 arg11 harg11 X0 X1 X2 X3 X4 X5 X6 X7 X8 t S
      = [⟨Rect.unit (s := S3x4096x2560) (k0_off4 t) S3x1x2560.size (k0_off4_inb t),
          k0_pay2 (F := Ideal) S (k0_pay3 (row96 arg0 X0 t) (row1 arg1 X1 t)) (k0_pay4 (row96 arg2 X2 t) (row1 arg3 X3 t)) (k0_pay5 (row64 arg4 X4 t) (row1 arg5 X5 t)) (k0_pay6 (row96 arg6 X6 t)) (k0_pay7 (row96 arg7 X7 t)) (row96 arg8 X8 t)⟩] := by
  unfold tripL_k0_t1 trip_k0_t1
  rfl

end Cert.ReferenceIdeal.Value
-- ==== Proof.RefVal.lean ====
/-
  The reference's token loop and its run with its values: the outputs of all tokens, and the last state.
-/
module

public import proofs.«01_k».proof.Proof.RefStep
public import Idealize.ShloMosaic.Lib.Pipeline.ValueKit.Geometry
public import Idealize.ShloMosaic.Lib.Claim

@[expose] public section

set_option maxRecDepth 16384

noncomputable section

namespace Cert.ReferenceIdeal.Value

open Cert.ReferenceIdeal Cert.ReferenceIdeal.Gen
open Cert.KernelIdeal.Hand (Data colH colI)
open Idealize.ShloMosaic Idealize.ShloMosaic.TcCoe Idealize.ShloMosaic.Tactic
open Idealize.SL Idealize.SL.RA Idealize.SL.BI Idealize.SL.Sem
open Idealize.ShloMosaic.Pipeline (Dat Cfg Window cellOf)

/-- The product of two extended reals. -/
abbrev times (u v : EReal) : EReal := u * v

section loop

variable (𝒱 : Variants) (c : Dev nD) (bd : Option 𝒱.V) (arg0 : Memref sig .tc .vmem S3x4096x40x96 .fp8e4m3) (harg0 : arg0.IsWhole) (arg1 : Memref sig .tc .vmem S3x4096x40 .f32) (harg1 : arg1.IsWhole) (arg2 : Memref sig .tc .vmem S3x4096x40x96 .fp8e4m3) (harg2 : arg2.IsWhole) (arg3 : Memref sig .tc .vmem S3x4096x40 .f32) (harg3 : arg3.IsWhole) (arg4 : Memref sig .tc .vmem S3x4096x40x64 .fp8e4m3) (harg4 : arg4.IsWhole) (arg5 : Memref sig .tc .vmem S3x4096x40 .f32) (harg5 : arg5.IsWhole) (arg6 : Memref sig .tc .vmem S3x4096x40x96 .bf16) (harg6 : arg6.IsWhole) (arg7 : Memref sig .tc .vmem S3x4096x40x96 .bf16) (harg7 : arg7.IsWhole) (arg8 : Memref sig .tc .vmem S3x4096x40x96 .f32) (harg8 : arg8.IsWhole) (arg9 : Memref sig .tc .vmem S3x40x64x96 .f32) (harg9 : arg9.IsWhole) (arg10 : Memref sig .tc .vmem S3x4096x2560 .f32) (harg10 : arg10.IsWhole) (arg11 : Memref sig .tc .vmem S3x40x64x96 .f32) (harg11 : arg11.IsWhole)
  (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)

/-- What the argument buffers hold: real numbers, codes times scales. -/
structure Reads (D : Data) : Prop where
  hr : ∀ (p : Fin 3) (n : Fin 4096) (h : Fin 40) (x : Fin 96), times (arg0.view.read (Elt Ideal) X0 (ix4 p n h x)) (arg1.view.read (Elt Ideal) X1 (ix3 p n h)) = (D.r p h n x : EReal)
  hk : ∀ (p : Fin 3) (n : Fin 4096) (h : Fin 40) (x : Fin 96), times (arg2.view.read (Elt Ideal) X2 (ix4 p n h x)) (arg3.view.read (Elt Ideal) X3 (ix3 p n h)) = (D.k p h n x : EReal)
  hv : ∀ (p : Fin 3) (n : Fin 4096) (h : Fin 40) (x : Fin 64), times (arg4.view.read (Elt Ideal) X4 (ix4 p n h x)) (arg5.view.read (Elt Ideal) X5 (ix3 p n h)) = (D.v p h n x : EReal)
  ha : ∀ (p : Fin 3) (n : Fin 4096) (h : Fin 40) (x : Fin 96), arg6.view.read (Elt Ideal) X6 (ix4 p n h x) = (D.a p h n x : EReal)
  hb : ∀ (p : Fin 3) (n : Fin 4096) (h : Fin 40) (x : Fin 96), arg7.view.read (Elt Ideal) X7 (ix4 p n h x) = (D.b p h n x : EReal)
  hw : ∀ (p : Fin 3) (n : Fin 4096) (h : Fin 40) (x : Fin 96), arg8.view.read (Elt Ideal) X8 (ix4 p n h x) = (D.w p h n x : EReal)

theorem trips_eq : k0_t1_loop.trips = 4096 := by decide +kernel

variable {arg0 arg1 arg2 arg3 arg4 arg5 arg6 arg7 arg8 X0 X1 X2 X3 X4 X5 X6 X7 X8} {D : Data}

/-- What a trip loads is its token. -/
theorem Reads.token (H : Reads arg0 arg1 arg2 arg3 arg4 arg5 arg6 arg7 arg8 X0 X1 X2 X3 X4 X5 X6 X7 X8 D) (t : Fin k0_t1_loop.trips) : Token D t.val (k0_pay3 (row96 arg0 X0 t) (row1 arg1 X1 t)) (k0_pay4 (row96 arg2 X2 t) (row1 arg3 X3 t)) (k0_pay5 (row64 arg4 X4 t) (row1 arg5 X5 t)) (k0_pay6 (row96 arg6 X6 t)) (k0_pay7 (row96 arg7 X7 t)) (row96 arg8 X8 t) where
  hr p h x := by
    rw [pay3_apply, row96_apply _ _ t p ⟨t.val, trips_eq ▸ t.isLt⟩ rfl, row1_apply _ _ t p ⟨t.val, trips_eq ▸ t.isLt⟩ rfl]; exact H.hr p _ h x
  hk p h x := by
    rw [pay4_apply, row96_apply _ _ t p ⟨t.val, trips_eq ▸ t.isLt⟩ rfl, row1_apply _ _ t p ⟨t.val, trips_eq ▸ t.isLt⟩ rfl]; exact H.hk p _ h x
  hv p h x := by
    rw [pay5_apply, row64_apply _ _ t p ⟨t.val, trips_eq ▸ t.isLt⟩ rfl, row1_apply _ _ t p ⟨t.val, trips_eq ▸ t.isLt⟩ rfl]; exact H.hv p _ h x
  ha p h x := by rw [pay6_apply, row96_apply _ _ t p ⟨t.val, trips_eq ▸ t.isLt⟩ rfl]; exact H.ha p _ h x
  hb p h x := by rw [pay7_apply, row96_apply _ _ t p ⟨t.val, trips_eq ▸ t.isLt⟩ rfl]; exact H.hb p _ h x
  hw p h x := by rw [row96_apply _ _ t p ⟨t.val, trips_eq ▸ t.isLt⟩ rfl]; exact H.hw p _ h x

/-- The carried state after `n` tokens, and the rows stored by then. -/
theorem loop_val (H : Reads arg0 arg1 arg2 arg3 arg4 arg5 arg6 arg7 arg8 X0 X1 X2 X3 X4 X5 X6 X7 X8 D) (S0 : Vec Ideal S3x40x64x96 .f32) (hS0 : IsState D 0 S0)
    (V : View sig .tc .vmem S3x4096x2560 .f32) (f : BufTy.Contents (Elt Ideal) V.ty) (n : ℕ) (hn : n ≤ 4096) :
    IsState D n (st_k0_t1 (F := Ideal) 𝒱 c bd arg0 harg0 arg1 harg1 arg2 harg2 arg3 harg3 arg4 harg4 arg5 harg5 arg6 harg6 arg7 harg7 arg8 harg8 arg9 harg9 arg10 harg10 arg11 harg11 X0 X1 X2 X3 X4 X5 X6 X7 X8 S0 n).1
    ∧ ∀ (p : Fin 3) (t : Fin 4096) (q : Fin 2560), t.val < n →
        V.read (Elt Ideal) (V.writes (Elt Ideal) f (st_k0_t1 (F := Ideal) 𝒱 c bd arg0 harg0 arg1 harg1 arg2 harg2 arg3 harg3 arg4 harg4 arg5 harg5 arg6 harg6 arg7 harg7 arg8 harg8 arg9 harg9 arg10 harg10 arg11 harg11 X0 X1 X2 X3 X4 X5 X6 X7 X8 S0 n).2) (ix3 p t q)
          = (D.outN p t.val (colH q) (colI q) : EReal) := by
  induction n with
  | zero => exact ⟨hS0, fun p t q h => absurd h (Nat.not_lt_zero _)⟩
  | succ n ih =>
    obtain ⟨i1, i2⟩ := ih (by omega)
    have hk : n < k0_t1_loop.trips := by rw [trips_eq]; omega
    have e := st_k0_t1_succ (F := Ideal) 𝒱 c bd arg0 harg0 arg1 harg1 arg2 harg2 arg3 harg3 arg4 harg4 arg5 harg5 arg6 harg6 arg7 harg7 arg8 harg8 arg9 harg9 arg10 harg10 arg11 harg11 X0 X1 X2 X3 X4 X5 X6 X7 X8 S0 ⟨n, hk⟩
    have T := H.token ⟨n, hk⟩
    constructor
    · refine (congrArg (fun s : Vec Ideal S3x40x64x96 .f32 => IsState D (n + 1) s) ((congrArg Prod.fst e).trans (trip_state 𝒱 c bd arg0 harg0 arg1 harg1 arg2 harg2 arg3 harg3 arg4 harg4 arg5 harg5 arg6 harg6 arg7 harg7 arg8 harg8 arg9 harg9 arg10 harg10 arg11 harg11 X0 X1 X2 X3 X4 X5 X6 X7 X8 ⟨n, hk⟩ _))).mpr ?_
      exact T.state i1
    · intro p t q ht
      have e2 := (congrArg Prod.snd e).trans (congrArg (· ++ _) (trip_out 𝒱 c bd arg0 harg0 arg1 harg1 arg2 harg2 arg3 harg3 arg4 harg4 arg5 harg5 arg6 harg6 arg7 harg7 arg8 harg8 arg9 harg9 arg10 harg10 arg11 harg11 X0 X1 X2 X3 X4 X5 X6 X7 X8 ⟨n, hk⟩ _))
      refine (congrArg (fun L => V.read (Elt Ideal) (V.writes (Elt Ideal) f L) (ix3 p t q)) e2).trans ?_
      have o := k0_off4_eq ⟨n, hk⟩
      by_cases h : t.val = n
      · refine (View.read_writes_cons_unit_of_mem V f (k0_off4_inb ⟨n, hk⟩) _ _ (ix3 p t q) (ix3 p 0 q) o (by
          intro a; fin_cases a
          · show p.val = 0 + p.val; omega
          · show t.val = n + 0; omega
          · show q.val = 0 + q.val; omega)).trans ?_
        rw [T.out i1 p q, h]
      · refine (View.read_writes_cons_unit_of_not_mem V f (k0_off4_inb ⟨n, hk⟩) _ _ (ix3 p t q) o 1 (by
          show t.val < n ∨ n + 1 ≤ t.val; omega)).trans ?_
        exact i2 p t q (by omega)

end loop

/-! ## The whole body -/

section body

variable (c : Dev nD) (arg0 : Memref sig .tc .vmem S3x4096x40x96 .fp8e4m3) (harg0 : arg0.IsWhole) (arg1 : Memref sig .tc .vmem S3x4096x40 .f32) (harg1 : arg1.IsWhole) (arg2 : Memref sig .tc .vmem S3x4096x40x96 .fp8e4m3) (harg2 : arg2.IsWhole) (arg3 : Memref sig .tc .vmem S3x4096x40 .f32) (harg3 : arg3.IsWhole) (arg4 : Memref sig .tc .vmem S3x4096x40x64 .fp8e4m3) (harg4 : arg4.IsWhole) (arg5 : Memref sig .tc .vmem S3x4096x40 .f32) (harg5 : arg5.IsWhole) (arg6 : Memref sig .tc .vmem S3x4096x40x96 .bf16) (harg6 : arg6.IsWhole) (arg7 : Memref sig .tc .vmem S3x4096x40x96 .bf16) (harg7 : arg7.IsWhole) (arg8 : Memref sig .tc .vmem S3x4096x40x96 .f32) (harg8 : arg8.IsWhole) (arg9 : Memref sig .tc .vmem S3x40x64x96 .f32) (harg9 : arg9.IsWhole) (arg10 : Memref sig .tc .vmem S3x4096x2560 .f32) (harg10 : arg10.IsWhole) (arg11 : Memref sig .tc .vmem S3x40x64x96 .f32) (harg11 : arg11.IsWhole)
  (x0 : Vec Ideal S3x4096x40x96 .fp8e4m3) (x1 : Vec Ideal S3x4096x40 .f32) (x2 : Vec Ideal S3x4096x40x96 .fp8e4m3) (x3 : Vec Ideal S3x4096x40 .f32) (x4 : Vec Ideal S3x4096x40x64 .fp8e4m3) (x5 : Vec Ideal S3x4096x40 .f32) (x6 : Vec Ideal S3x4096x40x96 .bf16) (x7 : Vec Ideal S3x4096x40x96 .bf16) (x8 : Vec Ideal S3x4096x40x96 .f32) (x9 : Vec Ideal S3x40x64x96 .f32)

/-- The pieces the body stores of the output are the loop's. -/
theorem run_out : (kernelRun0_A (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9).1
    = (st_k0_t1 (F := Ideal) Variants.none c none arg0 harg0 arg1 harg1 arg2 harg2 arg3 harg3 arg4 harg4 arg5 harg5 arg6 harg6 arg7 harg7 arg8 harg8 arg9 harg9 arg10 harg10 arg11 harg11 (harg0.unread x0) (harg1.unread x1) (harg2.unread x2) (harg3.unread x3) (harg4.unread x4) (harg5.unread x5) (harg6.unread x6) (harg7.unread x7) (harg8.unread x8)
        (arg9.view.readAt (Elt Ideal) (Rect.unit (s := S3x40x64x96) ![0, 0, 0, 0] S3x40x64x96.size inb_S3x40x64x96_S3x40x64x96_0_0_0_0).toLoadRect (harg9.unread x9)) k0_t1_loop.trips).2 := by
  unfold kernelRun0_A
  rfl

/-- The piece the body stores of the state is the loop's last. -/
theorem run_state : (kernelRun0_A (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9).2.1
    = [⟨Rect.unit (s := S3x40x64x96) ![0, 0, 0, 0] S3x40x64x96.size inb_S3x40x64x96_S3x40x64x96_0_0_0_0, (st_k0_t1 (F := Ideal) Variants.none c none arg0 harg0 arg1 harg1 arg2 harg2 arg3 harg3 arg4 harg4 arg5 harg5 arg6 harg6 arg7 harg7 arg8 harg8 arg9 harg9 arg10 harg10 arg11 harg11 (harg0.unread x0) (harg1.unread x1) (harg2.unread x2) (harg3.unread x3) (harg4.unread x4) (harg5.unread x5) (harg6.unread x6) (harg7.unread x7) (harg8.unread x8)
        (arg9.view.readAt (Elt Ideal) (Rect.unit (s := S3x40x64x96) ![0, 0, 0, 0] S3x40x64x96.size inb_S3x40x64x96_S3x40x64x96_0_0_0_0).toLoadRect (harg9.unread x9)) k0_t1_loop.trips).1⟩] := by
  unfold kernelRun0_A
  rfl

/-- What the argument arrays hold: real numbers, codes times scales. -/
structure Arrays (x0 : Vec Ideal S3x4096x40x96 .fp8e4m3) (x1 : Vec Ideal S3x4096x40 .f32) (x2 : Vec Ideal S3x4096x40x96 .fp8e4m3) (x3 : Vec Ideal S3x4096x40 .f32) (x4 : Vec Ideal S3x4096x40x64 .fp8e4m3) (x5 : Vec Ideal S3x4096x40 .f32) (x6 : Vec Ideal S3x4096x40x96 .bf16) (x7 : Vec Ideal S3x4096x40x96 .bf16) (x8 : Vec Ideal S3x4096x40x96 .f32) (x9 : Vec Ideal S3x40x64x96 .f32) (D : Data) : Prop where
  hr : ∀ (p : Fin 3) (h : Fin 40) (n : Fin 4096) (x : Fin 96), times (x0 (ix4 p n h x)) (x1 (ix3 p n h)) = (D.r p h n x : EReal)
  hk : ∀ (p : Fin 3) (h : Fin 40) (n : Fin 4096) (x : Fin 96), times (x2 (ix4 p n h x)) (x3 (ix3 p n h)) = (D.k p h n x : EReal)
  hv : ∀ (p : Fin 3) (h : Fin 40) (n : Fin 4096) (x : Fin 64), times (x4 (ix4 p n h x)) (x5 (ix3 p n h)) = (D.v p h n x : EReal)
  ha : ∀ (p : Fin 3) (h : Fin 40) (n : Fin 4096) (x : Fin 96), x6 (ix4 p n h x) = (D.a p h n x : EReal)
  hb : ∀ (p : Fin 3) (h : Fin 40) (n : Fin 4096) (x : Fin 96), x7 (ix4 p n h x) = (D.b p h n x : EReal)
  hw : ∀ (p : Fin 3) (h : Fin 40) (n : Fin 4096) (x : Fin 96), x8 (ix4 p n h x) = (D.w p h n x : EReal)
  hs : ∀ (p : Fin 3) (h : Fin 40) (z : Fin 64) (x : Fin 96), x9 (ix4 p h z x) = (D.s p h z x : EReal)

theorem Arrays.reads {D : Data} (H : Arrays x0 x1 x2 x3 x4 x5 x6 x7 x8 x9 D) :
    Reads arg0 arg1 arg2 arg3 arg4 arg5 arg6 arg7 arg8 (harg0.unread x0) (harg1.unread x1) (harg2.unread x2) (harg3.unread x3) (harg4.unread x4) (harg5.unread x5) (harg6.unread x6) (harg7.unread x7) (harg8.unread x8) D where
  hr p n h x := (congrArg₂ times (congrFun (harg0.read_unread x0) _) (congrFun (harg1.read_unread x1) _)).trans (H.hr p h n x)
  hk p n h x := (congrArg₂ times (congrFun (harg2.read_unread x2) _) (congrFun (harg3.read_unread x3) _)).trans (H.hk p h n x)
  hv p n h x := (congrArg₂ times (congrFun (harg4.read_unread x4) _) (congrFun (harg5.read_unread x5) _)).trans (H.hv p h n x)
  ha p n h x := (congrFun (harg6.read_unread x6) _).trans (H.ha p h n x)
  hb p n h x := (congrFun (harg7.read_unread x7) _).trans (H.hb p h n x)
  hw p n h x := (congrFun (harg8.read_unread x8) _).trans (H.hw p h n x)

theorem Arrays.first {D : Data} (H : Arrays x0 x1 x2 x3 x4 x5 x6 x7 x8 x9 D) :
    IsState D 0 (arg9.view.readAt (Elt Ideal) (Rect.unit (s := S3x40x64x96) ![0, 0, 0, 0] S3x40x64x96.size inb_S3x40x64x96_S3x40x64x96_0_0_0_0).toLoadRect (harg9.unread x9)) := by
  intro p h z x
  rw [View.readAt_apply]
  refine (congrFun (harg9.read_unread x9) _).trans (Eq.trans (congrArg x9 (funext fun a => Fin.ext ?_)) (H.hs p h z x))
  fin_cases a
  · show 0 + 1 * p.val = p.val; omega
  · show 0 + 1 * h.val = h.val; omega
  · show 0 + 1 * z.val = z.val; omega
  · show 0 + 1 * x.val = x.val; omega

/-- The output block: every token's output. -/
theorem out_apply {D : Data} (H : Arrays x0 x1 x2 x3 x4 x5 x6 x7 x8 x9 D) (p : Fin 3) (t : Fin 4096) (q : Fin 2560) :
    out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 (ix3 p t q) = (D.outN p t.val (colH q) (colI q) : EReal) := by
  unfold out0_A_10
  rw [run_out, trips_eq]
  exact (loop_val Variants.none c none harg0 harg1 harg2 harg3 harg4 harg5 harg6 harg7 harg8 arg9 harg9 arg10 harg10 arg11 harg11 (H.reads arg0 harg0 arg1 harg1 arg2 harg2 arg3 harg3 arg4 harg4 arg5 harg5 arg6 harg6 arg7 harg7 arg8 harg8) _ (H.first arg9 harg9) VO0_10 _ 4096 le_rfl).2 p t q t.isLt

/-- The state block: the state after the last token. -/
theorem st_apply {D : Data} (H : Arrays x0 x1 x2 x3 x4 x5 x6 x7 x8 x9 D) (n : ℕ) (hn : n = 4096) (p : Fin 3) (h : Fin 40) (z : Fin 64) (x : Fin 96) :
    out0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 (ix4 p h z x) = (D.stN n p h z x : EReal) := by
  unfold out0_A_11
  rw [run_state, trips_eq, ← hn]
  refine (View.read_writes_cons_unit_of_mem VO0_11 _ inb_S3x40x64x96_S3x40x64x96_0_0_0_0 _ [] (ix4 p h z x) (ix4 p h z x) rfl (by
    intro a; fin_cases a
    · show p.val = 0 + p.val; omega
    · show h.val = 0 + h.val; omega
    · show z.val = 0 + z.val; omega
    · show x.val = 0 + x.val; omega)).trans ?_
  exact (loop_val Variants.none c none harg0 harg1 harg2 harg3 harg4 harg5 harg6 harg7 harg8 arg9 harg9 arg10 harg10 arg11 harg11 (H.reads arg0 harg0 arg1 harg1 arg2 harg2 arg3 harg3 arg4 harg4 arg5 harg5 arg6 harg6 arg7 harg7 arg8 harg8) _ (H.first arg9 harg9) VO0_10 VO0_10.junk n hn.le).1 p h z x

end body

section run

variable (m : (ℓ : Loc nD τ sig) → Buf (Elt Ideal) ℓ) (ρ : Dev nD → PrngReg)

/-- What the argument arrays of core `c` hold at the kernel's start. -/
abbrev Holds (c : Dev nD) (D : Data) : Prop :=
  Arrays (V m c main_v0) (V m c main_arg1) (V m c main_v1) (V m c main_arg3) (V m c main_v2) (V m c main_arg5) (V m c main_arg6) (V m c main_arg7) (V m c main_arg8) (V m c main_arg9) D

theorem iblk0_0 (c : Dev nD) (t : Fin cfg0.N) : iblk m c 0 t = (V m c main_v0 : S3x4096x40x96.Idx → _) := by
  refine funext fun y => ?_
  show (V m c main_v0 : S3x4096x40x96.Idx → _) (((cfg0.win 0).blk t).view.emb y) = _
  refine congrArg _ (funext fun a => Fin.ext ?_)
  fin_cases a
  · show 0 * 3 + 1 * (y 0).val = (y 0).val; omega
  · show 0 * 4096 + 1 * (y 1).val = (y 1).val; omega
  · show 0 * 40 + 1 * (y 2).val = (y 2).val; omega
  · show 0 * 96 + 1 * (y 3).val = (y 3).val; omega
theorem iblk0_1 (c : Dev nD) (t : Fin cfg0.N) : iblk m c 1 t = (V m c main_arg1 : S3x4096x40.Idx → _) := by
  refine funext fun y => ?_
  show (V m c main_arg1 : S3x4096x40.Idx → _) (((cfg0.win 1).blk t).view.emb y) = _
  refine congrArg _ (funext fun a => Fin.ext ?_)
  fin_cases a
  · show 0 * 3 + 1 * (y 0).val = (y 0).val; omega
  · show 0 * 4096 + 1 * (y 1).val = (y 1).val; omega
  · show 0 * 40 + 1 * (y 2).val = (y 2).val; omega
theorem iblk0_2 (c : Dev nD) (t : Fin cfg0.N) : iblk m c 2 t = (V m c main_v1 : S3x4096x40x96.Idx → _) := by
  refine funext fun y => ?_
  show (V m c main_v1 : S3x4096x40x96.Idx → _) (((cfg0.win 2).blk t).view.emb y) = _
  refine congrArg _ (funext fun a => Fin.ext ?_)
  fin_cases a
  · show 0 * 3 + 1 * (y 0).val = (y 0).val; omega
  · show 0 * 4096 + 1 * (y 1).val = (y 1).val; omega
  · show 0 * 40 + 1 * (y 2).val = (y 2).val; omega
  · show 0 * 96 + 1 * (y 3).val = (y 3).val; omega
theorem iblk0_3 (c : Dev nD) (t : Fin cfg0.N) : iblk m c 3 t = (V m c main_arg3 : S3x4096x40.Idx → _) := by
  refine funext fun y => ?_
  show (V m c main_arg3 : S3x4096x40.Idx → _) (((cfg0.win 3).blk t).view.emb y) = _
  refine congrArg _ (funext fun a => Fin.ext ?_)
  fin_cases a
  · show 0 * 3 + 1 * (y 0).val = (y 0).val; omega
  · show 0 * 4096 + 1 * (y 1).val = (y 1).val; omega
  · show 0 * 40 + 1 * (y 2).val = (y 2).val; omega
theorem iblk0_4 (c : Dev nD) (t : Fin cfg0.N) : iblk m c 4 t = (V m c main_v2 : S3x4096x40x64.Idx → _) := by
  refine funext fun y => ?_
  show (V m c main_v2 : S3x4096x40x64.Idx → _) (((cfg0.win 4).blk t).view.emb y) = _
  refine congrArg _ (funext fun a => Fin.ext ?_)
  fin_cases a
  · show 0 * 3 + 1 * (y 0).val = (y 0).val; omega
  · show 0 * 4096 + 1 * (y 1).val = (y 1).val; omega
  · show 0 * 40 + 1 * (y 2).val = (y 2).val; omega
  · show 0 * 64 + 1 * (y 3).val = (y 3).val; omega
theorem iblk0_5 (c : Dev nD) (t : Fin cfg0.N) : iblk m c 5 t = (V m c main_arg5 : S3x4096x40.Idx → _) := by
  refine funext fun y => ?_
  show (V m c main_arg5 : S3x4096x40.Idx → _) (((cfg0.win 5).blk t).view.emb y) = _
  refine congrArg _ (funext fun a => Fin.ext ?_)
  fin_cases a
  · show 0 * 3 + 1 * (y 0).val = (y 0).val; omega
  · show 0 * 4096 + 1 * (y 1).val = (y 1).val; omega
  · show 0 * 40 + 1 * (y 2).val = (y 2).val; omega
theorem iblk0_6 (c : Dev nD) (t : Fin cfg0.N) : iblk m c 6 t = (V m c main_arg6 : S3x4096x40x96.Idx → _) := by
  refine funext fun y => ?_
  show (V m c main_arg6 : S3x4096x40x96.Idx → _) (((cfg0.win 6).blk t).view.emb y) = _
  refine congrArg _ (funext fun a => Fin.ext ?_)
  fin_cases a
  · show 0 * 3 + 1 * (y 0).val = (y 0).val; omega
  · show 0 * 4096 + 1 * (y 1).val = (y 1).val; omega
  · show 0 * 40 + 1 * (y 2).val = (y 2).val; omega
  · show 0 * 96 + 1 * (y 3).val = (y 3).val; omega
theorem iblk0_7 (c : Dev nD) (t : Fin cfg0.N) : iblk m c 7 t = (V m c main_arg7 : S3x4096x40x96.Idx → _) := by
  refine funext fun y => ?_
  show (V m c main_arg7 : S3x4096x40x96.Idx → _) (((cfg0.win 7).blk t).view.emb y) = _
  refine congrArg _ (funext fun a => Fin.ext ?_)
  fin_cases a
  · show 0 * 3 + 1 * (y 0).val = (y 0).val; omega
  · show 0 * 4096 + 1 * (y 1).val = (y 1).val; omega
  · show 0 * 40 + 1 * (y 2).val = (y 2).val; omega
  · show 0 * 96 + 1 * (y 3).val = (y 3).val; omega
theorem iblk0_8 (c : Dev nD) (t : Fin cfg0.N) : iblk m c 8 t = (V m c main_arg8 : S3x4096x40x96.Idx → _) := by
  refine funext fun y => ?_
  show (V m c main_arg8 : S3x4096x40x96.Idx → _) (((cfg0.win 8).blk t).view.emb y) = _
  refine congrArg _ (funext fun a => Fin.ext ?_)
  fin_cases a
  · show 0 * 3 + 1 * (y 0).val = (y 0).val; omega
  · show 0 * 4096 + 1 * (y 1).val = (y 1).val; omega
  · show 0 * 40 + 1 * (y 2).val = (y 2).val; omega
  · show 0 * 96 + 1 * (y 3).val = (y 3).val; omega
theorem iblk0_9 (c : Dev nD) (t : Fin cfg0.N) : iblk m c 9 t = (V m c main_arg9 : S3x40x64x96.Idx → _) := by
  refine funext fun y => ?_
  show (V m c main_arg9 : S3x40x64x96.Idx → _) (((cfg0.win 9).blk t).view.emb y) = _
  refine congrArg _ (funext fun a => Fin.ext ?_)
  fin_cases a
  · show 0 * 3 + 1 * (y 0).val = (y 0).val; omega
  · show 0 * 40 + 1 * (y 1).val = (y 1).val; omega
  · show 0 * 64 + 1 * (y 2).val = (y 2).val; omega
  · show 0 * 96 + 1 * (y 3).val = (y 3).val; omega

theorem blocks (c : Dev nD) (D : Data) (H : Holds m c D) (t : Fin cfg0.N) :
    Arrays (iblk m c 0 t) (iblk m c 1 t) (iblk m c 2 t) (iblk m c 3 t) (iblk m c 4 t) (iblk m c 5 t) (iblk m c 6 t) (iblk m c 7 t) (iblk m c 8 t) (iblk m c 9 t) D := by
  rw [iblk0_0, iblk0_1, iblk0_2, iblk0_3, iblk0_4, iblk0_5, iblk0_6, iblk0_7, iblk0_8, iblk0_9]
  exact H

/-- The outputs as an array. -/
def OUT (D : Data) : S3x4096x2560.Idx → EReal := fun y => (D.outN (y 0) (y 1).val (colH (y 2)) (colI (y 2)) : ℝ)
/-- The state after `n` tokens as an array; the last. -/
def STN (D : Data) (n : ℕ) : S3x40x64x96.Idx → EReal := fun y => (D.stN n (y 0) (y 1) (y 2) (y 3) : ℝ)
abbrev ST (D : Data) : S3x40x64x96.Idx → EReal := STN D 4096
theorem STN_apply (D : Data) (n : ℕ) (p : Fin 3) (h : Fin 40) (z : Fin 64) (x : Fin 96) : STN D n (ix4 p h z x) = (D.stN n p h z x : EReal) := rfl

theorem ix3_eta (y : S3x4096x2560.Idx) : y = ix3 (y 0) (y 1) (y 2) := funext fun a => by fin_cases a <;> rfl
theorem ix4_eta (y : S3x40x64x96.Idx) : y = ix4 (y 0) (y 1) (y 2) (y 3) := funext fun a => by fin_cases a <;> rfl

theorem after_out (c : Dev nD) (D : Data) (H : Holds m c D) (t : Fin cfg0.N) : (dats m 0 c).after 10 t = OUT D := by
  rw [after0_10]
  refine funext fun y => ?_
  rw [ix3_eta y]
  unfold outsAt0
  exact out_apply c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (blocks m c D H t) (y 0) (y 1) (y 2)

set_option maxHeartbeats 2000000 in
theorem outs_st (c : Dev nD) (D : Data) (H : Holds m c D) (t : Fin cfg0.N) (n : ℕ) (hn : n = 4096) (p : Fin 3) (h : Fin 40) (z : Fin 64) (x : Fin 96) :
    ((outsAt0 m c t).2 (ix4 p h z x) : EReal) = (D.stN n p h z x : EReal) := by
  unfold outsAt0
  exact
  st_apply c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (blocks m c D H t) n hn p h z x

theorem after_st (c : Dev nD) (D : Data) (H : Holds m c D) (t : Fin cfg0.N) : (dats m 0 c).after 11 t = ST D := by
  refine (after0_11 m c t).trans (funext fun y => ?_)
  refine (congrArg (outsAt0 m c t).2 (ix4_eta y)).trans ?_
  refine Eq.trans ?_ (congrArg (ST D) (ix4_eta y)).symm
  exact (outs_st m c D H t 4096 rfl (y 0) (y 1) (y 2) (y 3)).trans (STN_apply D 4096 (y 0) (y 1) (y 2) (y 3)).symm

theorem final_out (c : Dev nD) (D : Data) (H : Holds m c D) : (dats m 0 c).arrAt 10 cfg0.N = (OUT D : Vec Ideal S3x4096x2560 .f32) := by
  refine (dats m 0 c).arrAt_eq_of_covers 10 _ (by decide +kernel) fun t hf y => ?_
  rw [after_out m c D H t]
  refine congrArg (OUT D) (funext fun a => Fin.ext ?_)
  fin_cases a
  · show (y 0).val = 0 * 3 + 1 * (y 0).val; omega
  · show (y 1).val = 0 * 4096 + 1 * (y 1).val; omega
  · show (y 2).val = 0 * 2560 + 1 * (y 2).val; omega
theorem final_st (c : Dev nD) (D : Data) (H : Holds m c D) : (dats m 0 c).arrAt 11 cfg0.N = (ST D : Vec Ideal S3x40x64x96 .f32) := by
  refine (dats m 0 c).arrAt_eq_of_covers 11 _ (by decide +kernel) fun t hf y => ?_
  rw [after_st m c D H t]
  refine congrArg (ST D) (funext fun a => Fin.ext ?_)
  fin_cases a
  · show (y 0).val = 0 * 3 + 1 * (y 0).val; omega
  · show (y 1).val = 0 * 40 + 1 * (y 1).val; omega
  · show (y 2).val = 0 * 64 + 1 * (y 2).val; omega
  · show (y 3).val = 0 * 96 + 1 * (y 3).val; omega

/-- The host's conversion of the outputs keeps them. -/
theorem tail_out (c : Dev nD) (D : Data) (H : Holds m c D) :
    Pipeline.afterTail₀ cfgs (dats m) 0 (V0 m) [hostOps1] c main_v4 = (OUT D : Vec Ideal S3x4096x2560 .bf16) := by
  unfold Pipeline.afterTail₀ hostOps1
  simp only [List.flatten_cons, List.flatten_nil, List.append_nil, StableHlo.after_cons, StableHlo.after_nil]
  refine (StableHlo.unary_result' _ _ _ _).trans ?_
  have e := (Pipeline.withArrays_arr spec0 launch0.win.arr_inj c (V0 m c) (fun w => (dats m 0 c).arrAt w cfg0.N) 10).trans (final_out m c D H)
  exact congrArg (fun f : S3x4096x2560.Idx → EReal => f) e

/-- THE REFERENCE'S RUN: on arrays that hold real numbers every execution ends with the first result at the recurrence's
    outputs, the second at its last state, and the arguments unchanged. -/
theorem run (G : Dev nD → Data) (H : ∀ c, Holds m c (G c)) : θ_run defs (onTc (τ := τ) (main (F := Ideal))) ⟨m, fun _ => 0, ρ⟩ (fun r => ∀ c : Dev nD,
      r.2.mem ((c.tc : Thread nD τ).loc main_v4) = (OUT (G c) : Vec Ideal S3x4096x2560 .bf16)
      ∧ r.2.mem ((c.tc : Thread nD τ).loc main_v3_1) = (ST (G c) : Vec Ideal S3x40x64x96 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.1 c).2 main_v4 (Pipeline.mem_restRefs_of main_v4 (by decide) (by decide))).trans (tail_out m c (G c) (H c)),
      ((h.1 c).1 11).trans (final_st m c (G c) (H c)), h.2 c⟩)
    (Idealize.ShloMosaic.θ_run_and (run_main m ρ) (unchanged m ρ))

end run

end Cert.ReferenceIdeal.Value
-- ==== Proof.Agree.lean ====
/-
  Both programs from memories that agree on the arguments: the same real numbers, so the same results.
-/
module

public import proofs.«01_k».proof.Proof.Finite
public import proofs.«01_k».proof.Proof.KVal
public import proofs.«01_k».proof.Proof.RefVal

@[expose] public section

set_option maxRecDepth 16384

noncomputable section

namespace Cert.KernelIdeal.Value

open Cert.KernelIdeal Cert.KernelIdeal.Gen
open Cert.KernelIdeal.Hand (Data)
open Cert.Pre_finite.Value (codeVal data Real mul_real ofNat_self)
open Idealize.ShloMosaic Idealize.ShloMosaic.TcCoe Idealize.ShloMosaic.Tactic
open Idealize.SL Idealize.SL.Sem

section
variable (m : (ℓ : Loc nD τ sig) → Buf (Elt Ideal) ℓ)

/-- Before the region, array `main_v0` holds the numbers the codes `main_arg0` stand for. -/
theorem V_v0 (c : Dev nD) (i : S3x4096x40x96.Idx) :
    (V m c main_v0 : S3x4096x40x96.Idx → EReal) i = codeVal ((m ((c.tc : Thread nD τ).loc main_arg0) : S3x4096x40x96.Idx → BitVec 8) i) := by
  have e : V m c main_v0 = (bitcastToFloat .fp8e4m3 (m ((c.tc : Thread nD τ).loc main_arg0) : IVec S3x4096x40x96 8) : FVec Ideal S3x4096x40x96 .fp8e4m3) := by
    show StableHlo.after hostOps0 (fun b => m (c, b)) (Proc.devRef .tc main_v0) = _
    simp only [hostOps0, List.flatten_cons, List.flatten_nil, List.append_nil, StableHlo.after_cons, StableHlo.after_nil]

    rw [StableHlo.unary_result_ne]
    rw [StableHlo.unary_result_ne]
    rw [StableHlo.unary_result']
    all_goals decide
  exact congrFun e i

/-- Before the region, array `main_v1` holds the numbers the codes `main_arg2` stand for. -/
theorem V_v1 (c : Dev nD) (i : S3x4096x40x96.Idx) :
    (V m c main_v1 : S3x4096x40x96.Idx → EReal) i = codeVal ((m ((c.tc : Thread nD τ).loc main_arg2) : S3x4096x40x96.Idx → BitVec 8) i) := by
  have e : V m c main_v1 = (bitcastToFloat .fp8e4m3 (m ((c.tc : Thread nD τ).loc main_arg2) : IVec S3x4096x40x96 8) : FVec Ideal S3x4096x40x96 .fp8e4m3) := by
    show StableHlo.after hostOps0 (fun b => m (c, b)) (Proc.devRef .tc main_v1) = _
    simp only [hostOps0, List.flatten_cons, List.flatten_nil, List.append_nil, StableHlo.after_cons, StableHlo.after_nil]

    rw [StableHlo.unary_result_ne]
    rw [StableHlo.unary_result']
    rw [StableHlo.unary_result_ne]
    all_goals decide
  exact congrFun e i

/-- Before the region, array `main_v2` holds the numbers the codes `main_arg4` stand for. -/
theorem V_v2 (c : Dev nD) (i : S3x4096x40x64.Idx) :
    (V m c main_v2 : S3x4096x40x64.Idx → EReal) i = codeVal ((m ((c.tc : Thread nD τ).loc main_arg4) : S3x4096x40x64.Idx → BitVec 8) i) := by
  have e : V m c main_v2 = (bitcastToFloat .fp8e4m3 (m ((c.tc : Thread nD τ).loc main_arg4) : IVec S3x4096x40x64 8) : FVec Ideal S3x4096x40x64 .fp8e4m3) := by
    show StableHlo.after hostOps0 (fun b => m (c, b)) (Proc.devRef .tc main_v2) = _
    simp only [hostOps0, List.flatten_cons, List.flatten_nil, List.append_nil, StableHlo.after_cons, StableHlo.after_nil]

    rw [StableHlo.unary_result']
    rw [StableHlo.unary_result_ne]
    rw [StableHlo.unary_result_ne]
    all_goals decide
  exact congrFun e i

/-- Under the precondition the arrays hold the real numbers `data`. -/
theorem holds (x0 : IVec S3x4096x40x96 8) (x1 : FVec Ideal S3x4096x40 .f32) (x2 : IVec S3x4096x40x96 8) (x3 : FVec Ideal S3x4096x40 .f32) (x4 : IVec S3x4096x40x64 8) (x5 : FVec Ideal S3x4096x40 .f32) (x6 : FVec Ideal S3x4096x40x96 .bf16) (x7 : FVec Ideal S3x4096x40x96 .bf16) (x8 : FVec Ideal S3x4096x40x96 .f32) (x9 : FVec Ideal S3x40x64x96 .f32)
    (H : Real x0 x1 x2 x3 x4 x5 x6 x7 x8 x9) (c : Dev nD)
    (e0 : m ((c.tc : Thread nD τ).loc main_arg0) = x0)
    (e1 : m ((c.tc : Thread nD τ).loc main_arg1) = x1)
    (e2 : m ((c.tc : Thread nD τ).loc main_arg2) = x2)
    (e3 : m ((c.tc : Thread nD τ).loc main_arg3) = x3)
    (e4 : m ((c.tc : Thread nD τ).loc main_arg4) = x4)
    (e5 : m ((c.tc : Thread nD τ).loc main_arg5) = x5)
    (e6 : m ((c.tc : Thread nD τ).loc main_arg6) = x6)
    (e7 : m ((c.tc : Thread nD τ).loc main_arg7) = x7)
    (e8 : m ((c.tc : Thread nD τ).loc main_arg8) = x8)
    (e9 : m ((c.tc : Thread nD τ).loc main_arg9) = x9) :
    Holds m c (data x0 x1 x2 x3 x4 x5 x6 x7 x8 x9) where
  hr p h n x := by
    refine ((congrArg₂ times ((V_v0 m c _).trans (congrArg codeVal (congrFun e0 _))) (congrFun ((V_main_arg1 m c).trans e1) _)).trans (mul_real (H.h0 _) (H.h1 _))).trans ?_
    simp only [data, ofNat_self]
  hk p h n x := by
    refine ((congrArg₂ times ((V_v1 m c _).trans (congrArg codeVal (congrFun e2 _))) (congrFun ((V_main_arg3 m c).trans e3) _)).trans (mul_real (H.h2 _) (H.h3 _))).trans ?_
    simp only [data, ofNat_self]
  hv p h n x := by
    refine ((congrArg₂ times ((V_v2 m c _).trans (congrArg codeVal (congrFun e4 _))) (congrFun ((V_main_arg5 m c).trans e5) _)).trans (mul_real (H.h4 _) (H.h5 _))).trans ?_
    simp only [data, ofNat_self]
  ha p h n x := by
    refine ((congrFun ((V_main_arg6 m c).trans e6) _).trans (H.h6 _)).trans ?_
    simp only [data, ofNat_self]
  hb p h n x := by
    refine ((congrFun ((V_main_arg7 m c).trans e7) _).trans (H.h7 _)).trans ?_
    simp only [data, ofNat_self]
  hw p h n x := by
    refine ((congrFun ((V_main_arg8 m c).trans e8) _).trans (H.h8 _)).trans ?_
    simp only [data, ofNat_self]
  hs p h z x := by
    refine ((congrFun ((V_main_arg9 m c).trans e9) _).trans (H.h9 _)).trans ?_
    simp only [data, ofNat_self]

end

end Cert.KernelIdeal.Value

namespace Cert.ReferenceIdeal.Value

open Cert.ReferenceIdeal Cert.ReferenceIdeal.Gen
open Cert.KernelIdeal.Hand (Data)
open Cert.Pre_finite.Value (codeVal data Real mul_real ofNat_self)
open Idealize.ShloMosaic Idealize.ShloMosaic.TcCoe Idealize.ShloMosaic.Tactic
open Idealize.SL Idealize.SL.Sem

section
variable (m : (ℓ : Loc nD τ sig) → Buf (Elt Ideal) ℓ)

/-- Before the region, array `main_v0` holds the numbers the codes `main_arg0` stand for. -/
theorem V_v0 (c : Dev nD) (i : S3x4096x40x96.Idx) :
    (V m c main_v0 : S3x4096x40x96.Idx → EReal) i = codeVal ((m ((c.tc : Thread nD τ).loc main_arg0) : S3x4096x40x96.Idx → BitVec 8) i) := by
  have e : V m c main_v0 = (bitcastToFloat .fp8e4m3 (m ((c.tc : Thread nD τ).loc main_arg0) : IVec S3x4096x40x96 8) : FVec Ideal S3x4096x40x96 .fp8e4m3) := by
    show StableHlo.after (List.flatten [hostOps0]) (fun b => m (c, b)) (Proc.devRef .tc main_v0) = _
    simp only [hostOps0, List.flatten_cons, List.flatten_nil, List.append_nil, StableHlo.after_cons, StableHlo.after_nil]

    rw [StableHlo.unary_result_ne]
    rw [StableHlo.unary_result_ne]
    rw [StableHlo.unary_result']
    all_goals decide
  exact congrFun e i

/-- Before the region, array `main_v1` holds the numbers the codes `main_arg2` stand for. -/
theorem V_v1 (c : Dev nD) (i : S3x4096x40x96.Idx) :
    (V m c main_v1 : S3x4096x40x96.Idx → EReal) i = codeVal ((m ((c.tc : Thread nD τ).loc main_arg2) : S3x4096x40x96.Idx → BitVec 8) i) := by
  have e : V m c main_v1 = (bitcastToFloat .fp8e4m3 (m ((c.tc : Thread nD τ).loc main_arg2) : IVec S3x4096x40x96 8) : FVec Ideal S3x4096x40x96 .fp8e4m3) := by
    show StableHlo.after (List.flatten [hostOps0]) (fun b => m (c, b)) (Proc.devRef .tc main_v1) = _
    simp only [hostOps0, List.flatten_cons, List.flatten_nil, List.append_nil, StableHlo.after_cons, StableHlo.after_nil]

    rw [StableHlo.unary_result_ne]
    rw [StableHlo.unary_result']
    rw [StableHlo.unary_result_ne]
    all_goals decide
  exact congrFun e i

/-- Before the region, array `main_v2` holds the numbers the codes `main_arg4` stand for. -/
theorem V_v2 (c : Dev nD) (i : S3x4096x40x64.Idx) :
    (V m c main_v2 : S3x4096x40x64.Idx → EReal) i = codeVal ((m ((c.tc : Thread nD τ).loc main_arg4) : S3x4096x40x64.Idx → BitVec 8) i) := by
  have e : V m c main_v2 = (bitcastToFloat .fp8e4m3 (m ((c.tc : Thread nD τ).loc main_arg4) : IVec S3x4096x40x64 8) : FVec Ideal S3x4096x40x64 .fp8e4m3) := by
    show StableHlo.after (List.flatten [hostOps0]) (fun b => m (c, b)) (Proc.devRef .tc main_v2) = _
    simp only [hostOps0, List.flatten_cons, List.flatten_nil, List.append_nil, StableHlo.after_cons, StableHlo.after_nil]

    rw [StableHlo.unary_result']
    rw [StableHlo.unary_result_ne]
    rw [StableHlo.unary_result_ne]
    all_goals decide
  exact congrFun e i

/-- Under the precondition the arrays hold the real numbers `data`. -/
theorem holds (x0 : IVec S3x4096x40x96 8) (x1 : FVec Ideal S3x4096x40 .f32) (x2 : IVec S3x4096x40x96 8) (x3 : FVec Ideal S3x4096x40 .f32) (x4 : IVec S3x4096x40x64 8) (x5 : FVec Ideal S3x4096x40 .f32) (x6 : FVec Ideal S3x4096x40x96 .bf16) (x7 : FVec Ideal S3x4096x40x96 .bf16) (x8 : FVec Ideal S3x4096x40x96 .f32) (x9 : FVec Ideal S3x40x64x96 .f32)
    (H : Real x0 x1 x2 x3 x4 x5 x6 x7 x8 x9) (c : Dev nD)
    (e0 : m ((c.tc : Thread nD τ).loc main_arg0) = x0)
    (e1 : m ((c.tc : Thread nD τ).loc main_arg1) = x1)
    (e2 : m ((c.tc : Thread nD τ).loc main_arg2) = x2)
    (e3 : m ((c.tc : Thread nD τ).loc main_arg3) = x3)
    (e4 : m ((c.tc : Thread nD τ).loc main_arg4) = x4)
    (e5 : m ((c.tc : Thread nD τ).loc main_arg5) = x5)
    (e6 : m ((c.tc : Thread nD τ).loc main_arg6) = x6)
    (e7 : m ((c.tc : Thread nD τ).loc main_arg7) = x7)
    (e8 : m ((c.tc : Thread nD τ).loc main_arg8) = x8)
    (e9 : m ((c.tc : Thread nD τ).loc main_arg9) = x9) :
    Holds m c (data x0 x1 x2 x3 x4 x5 x6 x7 x8 x9) where
  hr p h n x := by
    refine ((congrArg₂ times ((V_v0 m c _).trans (congrArg codeVal (congrFun e0 _))) (congrFun ((V_main_arg1 m c).trans e1) _)).trans (mul_real (H.h0 _) (H.h1 _))).trans ?_
    simp only [data, ofNat_self]
  hk p h n x := by
    refine ((congrArg₂ times ((V_v1 m c _).trans (congrArg codeVal (congrFun e2 _))) (congrFun ((V_main_arg3 m c).trans e3) _)).trans (mul_real (H.h2 _) (H.h3 _))).trans ?_
    simp only [data, ofNat_self]
  hv p h n x := by
    refine ((congrArg₂ times ((V_v2 m c _).trans (congrArg codeVal (congrFun e4 _))) (congrFun ((V_main_arg5 m c).trans e5) _)).trans (mul_real (H.h4 _) (H.h5 _))).trans ?_
    simp only [data, ofNat_self]
  ha p h n x := by
    refine ((congrFun ((V_main_arg6 m c).trans e6) _).trans (H.h6 _)).trans ?_
    simp only [data, ofNat_self]
  hb p h n x := by
    refine ((congrFun ((V_main_arg7 m c).trans e7) _).trans (H.h7 _)).trans ?_
    simp only [data, ofNat_self]
  hw p h n x := by
    refine ((congrFun ((V_main_arg8 m c).trans e8) _).trans (H.h8 _)).trans ?_
    simp only [data, ofNat_self]
  hs p h z x := by
    refine ((congrFun ((V_main_arg9 m c).trans e9) _).trans (H.h9 _)).trans ?_
    simp only [data, ofNat_self]

end

end Cert.ReferenceIdeal.Value

namespace Cert.ReferenceIdeal.Value

open Cert.KernelIdeal.Hand (Data)

/-- Both programs' output arrays are the same function of the numbers, -/
theorem OUT_eq (D : Data) : OUT D = Cert.KernelIdeal.Value.OUT D := by
  unfold OUT Cert.KernelIdeal.Value.OUT
  rfl

/-- and so are their state arrays. -/
theorem ST_eq (D : Data) : ST D = Cert.KernelIdeal.Value.ST D := by
  unfold ST STN Cert.KernelIdeal.Value.ST
  rfl

end Cert.ReferenceIdeal.Value

end
-- ==== Proof.lean ====
/- The claims, from the modules that prove them. -/
module

public import proofs.«01_k».proof.Proof.Gen.Pre_finite
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.BitsFrame
public import proofs.«01_k».proof.Proof.IdealFrame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The real numbers device `c`'s arguments hold. -/
def numbers (m : (ℓ : Loc Cert.KernelIdeal.nD Cert.KernelIdeal.τ Cert.KernelIdeal.sig) → Buf (Elt Ideal) ℓ) (c : Dev Cert.KernelIdeal.nD) :
    Cert.KernelIdeal.Hand.Data :=
  Cert.Pre_finite.Value.data (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))

/-- At the ideal instance the kernel and the reference compute the same outputs and the same last state. -/
theorem algebraic : Cert.algebraic_KernelIdeal_ReferenceIdeal_pre_finite := by
  intro m g m' g' hpre hargs
  have hreal := fun c => Cert.Pre_finite.Value.real_of_pre _ _ _ _ _ _ _ _ _ _ (hpre c)
  refine ⟨fun c => Cert.KernelIdeal.Value.OUT (numbers m c), fun c => Cert.KernelIdeal.Value.ST (numbers m c),
    Cert.KernelIdeal.Value.run m g (numbers m) fun c =>
      Cert.KernelIdeal.Value.holds m _ _ _ _ _ _ _ _ _ _ (hreal c) c rfl rfl rfl rfl rfl rfl rfl rfl rfl rfl, ?_⟩
  refine (θ_run Cert.ReferenceIdeal.defs _ _).mono (fun r h c => ?_) (Cert.ReferenceIdeal.Value.run m' g' (numbers m) fun c =>
    Cert.ReferenceIdeal.Value.holds m' _ _ _ _ _ _ _ _ _ _ (hreal c) c (hargs c).1 (hargs c).2.1 (hargs c).2.2.1 (hargs c).2.2.2.1
      (hargs c).2.2.2.2.1 (hargs c).2.2.2.2.2.1 (hargs c).2.2.2.2.2.2.1 (hargs c).2.2.2.2.2.2.2.1 (hargs c).2.2.2.2.2.2.2.2.1
      (hargs c).2.2.2.2.2.2.2.2.2)
  exact ⟨(h c).1.trans (Cert.ReferenceIdeal.Value.OUT_eq _), (h c).2.1.trans (Cert.ReferenceIdeal.Value.ST_eq _), (h c).2.2⟩

theorem claim : Cert.Claim := ⟨Cert.Kernel.Gen.facts, Cert.KernelIdeal.Gen.facts, Cert.ReferenceIdeal.Gen.facts, Cert.Pre_finite.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
